-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_two_experts [hPre_two_experts : Cert.Pre_two_experts.Facts] (m : (ℓ : Loc Cert.KernelIdeal.nD Cert.KernelIdeal.τ Cert.KernelIdeal.sig) → Buf (Elt Ideal) ℓ) : Prop :=
  ∀ c : Dev Cert.KernelIdeal.nD,
    (Cert.Pre_two_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_two_experts [hPre_two_experts : Cert.Pre_two_experts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_two_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_two_experts [hKernelIdeal : Cert.KernelIdeal.Facts] [hPre_two_experts : Cert.Pre_two_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_two_experts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_two_experts [hReferenceIdeal : Cert.ReferenceIdeal.Facts] [hPre_two_experts : Cert.Pre_two_experts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_two_experts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_two_experts [hKernelIdeal : Cert.KernelIdeal.Facts] [hReferenceIdeal : Cert.ReferenceIdeal.Facts] [hPre_two_experts : Cert.Pre_two_experts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_two_experts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v168)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v168) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_two_experts : Cert.Pre_two_experts.Facts),
    quiescent_Kernel (hKernel := hKernel)
    ∧ quiescent_KernelIdeal (hKernelIdeal := hKernelIdeal)
    ∧ quiescent_KernelIdeal_pre_two_experts (hKernelIdeal := hKernelIdeal) (hPre_two_experts := hPre_two_experts)
    ∧ quiescent_ReferenceIdeal (hReferenceIdeal := hReferenceIdeal)
    ∧ quiescent_ReferenceIdeal_pre_two_experts (hReferenceIdeal := hReferenceIdeal) (hPre_two_experts := hPre_two_experts)
    ∧ preserves_Kernel_KernelIdeal
    ∧ algebraic_KernelIdeal_ReferenceIdeal_pre_two_experts (hKernelIdeal := hKernelIdeal) (hReferenceIdeal := hReferenceIdeal) (hPre_two_experts := hPre_two_experts)
-- ==== Pre_two_experts.lean ====
abbrev S4x8192x1024 : Shape := ⟨3, ![4, 8192, 1024]⟩
abbrev S4x6x1024 : Shape := ⟨3, ![4, 6, 1024]⟩
abbrev S4x8192x8 : Shape := ⟨3, ![4, 8192, 8]⟩
abbrev S8x1024x2816 : Shape := ⟨3, ![8, 1024, 2816]⟩
abbrev S8x2816x1024 : Shape := ⟨3, ![8, 2816, 1024]⟩
abbrev S4x8192x2 : Shape := ⟨3, ![4, 8192, 2]⟩
abbrev S_ : Shape := ⟨0, ![]⟩
abbrev S4x8192x1 : Shape := ⟨3, ![4, 8192, 1]⟩

class Facts : Prop where
  slices_S4x8192x8_S4x8192x2_0_0_0 : S4x8192x8.Slices ![0, 0, 0] S4x8192x2
  bcast_S_S4x8192x2 : S_.BroadcastsInDim S4x8192x2 (![] : Fin 0 → Fin S4x8192x2.rank)
  slices_S4x8192x2_S4x8192x1_0_0_0 : S4x8192x2.Slices ![0, 0, 0] S4x8192x1
  slices_S4x8192x2_S4x8192x1_0_0_1 : S4x8192x2.Slices ![0, 0, 1] S4x8192x1
  bcast_S4x8192x1_S4x8192x2_0_1_2 : S4x8192x1.BroadcastsInDim S4x8192x2 (![0, 1, 2] : Fin 3 → Fin S4x8192x2.rank)

variable [Facts]

def fn {F : FTy → Type} [FloatOps F] (main_arg0 : FVec F S4x8192x1024 .bf16) (main_arg1 : FVec F S4x8192x1024 .f32) (main_arg2 : FVec F S4x6x1024 .f32) (main_arg3 : FVec F S4x8192x8 .f32) (main_arg4 : FVec F S8x1024x2816 .f32) (main_arg5 : FVec F S8x1024x2816 .f32) (main_arg6 : FVec F S8x2816x1024 .f32) : IVec S4x8192x2 1 :=
  let main_v0 : FVec F S4x8192x2 .f32 := (extractStridedSlice S4x8192x2 ![0, 0, 0] · slices_S4x8192x8_S4x8192x2_0_0_0) main_arg3
  let main_v1 : IVec S4x8192x2 32 := fptosi 32 main_v0
  let main_c : IVec S_ 32 := constantI S_ 32 0#32
  let main_v2 : IVec S4x8192x2 32 := broadcastInDim S4x8192x2 ![] bcast_S_S4x8192x2 main_c
  let main_v3 : IVec S4x8192x2 1 := cmpi .sge main_v1 main_v2
  let main_c_0 : IVec S_ 32 := constantI S_ 32 8#32
  let main_v4 : IVec S4x8192x2 32 := broadcastInDim S4x8192x2 ![] bcast_S_S4x8192x2 main_c_0
  let main_v5 : IVec S4x8192x2 1 := cmpi .slt main_v1 main_v4
  let main_v6 : IVec S4x8192x2 1 := andi main_v3 main_v5
  let main_v7 : IVec S4x8192x1 32 := (extractStridedSlice S4x8192x1 ![0, 0, 0] · slices_S4x8192x2_S4x8192x1_0_0_0) main_v1
  let main_v8 : IVec S4x8192x1 32 := (extractStridedSlice S4x8192x1 ![0, 0, 1] · slices_S4x8192x2_S4x8192x1_0_0_1) main_v1
  let main_v9 : IVec S4x8192x1 1 := cmpi .ne main_v7 main_v8
  let main_v10 : IVec S4x8192x2 1 := broadcastInDim S4x8192x2 ![0, 1, 2] bcast_S4x8192x1_S4x8192x2_0_1_2 main_v9
  let main_v11 : IVec S4x8192x2 1 := andi main_v6 main_v10
  main_v11
-- ==== Kernel.lean ====
abbrev S4x8192x1024 : Shape := ⟨3, ![4, 8192, 1024]⟩
abbrev S4x6x1024 : Shape := ⟨3, ![4, 6, 1024]⟩
abbrev S4x8192x8 : Shape := ⟨3, ![4, 8192, 8]⟩
abbrev S8x1024x2816 : Shape := ⟨3, ![8, 1024, 2816]⟩
abbrev S8x2816x1024 : Shape := ⟨3, ![8, 2816, 1024]⟩
abbrev S2x8192x8 : Shape := ⟨3, ![2, 8192, 8]⟩
abbrev S2x8192x1 : Shape := ⟨3, ![2, 8192, 1]⟩
abbrev S2x8192 : Shape := ⟨2, ![2, 8192]⟩
abbrev S16384 : Shape := ⟨1, ![16384]⟩
abbrev S32768 : Shape := ⟨1, ![32768]⟩
abbrev S32768x1 : Shape := ⟨2, ![32768, 1]⟩
abbrev S1x8 : Shape := ⟨2, ![1, 8]⟩
abbrev S32768x8 : Shape := ⟨2, ![32768, 8]⟩
abbrev S_ : Shape := ⟨0, ![]⟩
abbrev S8 : Shape := ⟨1, ![8]⟩
abbrev S72 : Shape := ⟨1, ![72]⟩
abbrev S72x1 : Shape := ⟨2, ![72, 1]⟩
abbrev S72x8 : Shape := ⟨2, ![72, 8]⟩
abbrev S36864 : Shape := ⟨1, ![36864]⟩
abbrev S72x512 : Shape := ⟨2, ![72, 512]⟩
abbrev S36864x1 : Shape := ⟨2, ![36864, 1]⟩
abbrev S32768x1024 : Shape := ⟨2, ![32768, 1024]⟩
abbrev S36864x1024 : Shape := ⟨2, ![36864, 1024]⟩
abbrev S512x1024 : Shape := ⟨2, ![512, 1024]⟩
abbrev S1x1024x2816 : Shape := ⟨3, ![1, 1024, 2816]⟩
abbrev S1 : Shape := ⟨1, ![1]⟩
abbrev S1x2816x1024 : Shape := ⟨3, ![1, 2816, 1024]⟩
abbrev S1x1024x768 : Shape := ⟨3, ![1, 1024, 768]⟩
abbrev S1024x768 : Shape := ⟨2, ![1024, 768]⟩
abbrev S512x768 : Shape := ⟨2, ![512, 768]⟩
abbrev S1x768x1024 : Shape := ⟨3, ![1, 768, 1024]⟩
abbrev S768x1024 : Shape := ⟨2, ![768, 1024]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩
abbrev S2x2x8192x1024 : Shape := ⟨4, ![2, 2, 8192, 1024]⟩
abbrev S1x6x1024 : Shape := ⟨3, ![1, 6, 1024]⟩
abbrev S1x1x512x1024 : Shape := ⟨4, ![1, 1, 512, 1024]⟩
abbrev S1x512x8 : Shape := ⟨3, ![1, 512, 8]⟩
abbrev S1x512x1 : Shape := ⟨3, ![1, 512, 1]⟩
abbrev S512x1 : Shape := ⟨2, ![512, 1]⟩
abbrev S1x1x1024 : Shape := ⟨3, ![1, 1, 1024]⟩
abbrev S1x1024 : Shape := ⟨2, ![1, 1024]⟩

abbrev nBuf : Space → Nat
  | .hbm => 332
  | .vmem => 44
  | .smem => 4
  | _ => 0

abbrev hbmTy0_0 (i : Nat) : BufTy := match i % 128 with
  | 0 => ⟨S4x8192x1024, .bf16⟩
  | 1 => ⟨S4x8192x1024, .f32⟩
  | 2 => ⟨S4x6x1024, .f32⟩
  | 3 => ⟨S4x8192x8, .f32⟩
  | 4 => ⟨S8x1024x2816, .f32⟩
  | 5 => ⟨S8x1024x2816, .f32⟩
  | 6 => ⟨S8x2816x1024, .f32⟩
  | 7 => ⟨S8x1024x2816, .bf16⟩
  | 8 => ⟨S8x1024x2816, .bf16⟩
  | 9 => ⟨S8x2816x1024, .bf16⟩
  | 10 => ⟨S2x8192x8, .f32⟩
  | 11 => ⟨S2x8192x1, .f32⟩
  | 12 => ⟨S2x8192, .f32⟩
  | 13 => ⟨S16384, .f32⟩
  | 14 => ⟨S2x8192x1, .f32⟩
  | 15 => ⟨S2x8192, .f32⟩
  | 16 => ⟨S16384, .f32⟩
  | 17 => ⟨S32768, .f32⟩
  | 18 => ⟨S32768, .i32⟩
  | 19 => ⟨S32768, .i32⟩
  | 20 => ⟨S32768, .i32⟩
  | 21 => ⟨S32768, .i32⟩
  | 22 => ⟨S32768, .i32⟩
  | 23 => ⟨S32768, .i32⟩
  | 24 => ⟨S32768, .i32⟩
  | 25 => ⟨S32768x1, .i32⟩
  | 26 => ⟨S1x8, .i32⟩
  | 27 => ⟨S32768x8, .i32⟩
  | 28 => ⟨S32768x8, .i32⟩
  | 29 => ⟨S32768x8, .i1⟩
  | 30 => ⟨S32768x8, .i32⟩
  | 31 => ⟨S_, .i32⟩
  | 32 => ⟨S8, .i32⟩
  | 33 => ⟨S_, .i32⟩
  | 34 => ⟨S8, .i32⟩
  | 35 => ⟨S8, .i32⟩
  | 36 => ⟨S_, .i32⟩
  | 37 => ⟨S8, .i32⟩
  | 38 => ⟨S8, .i32⟩
  | 39 => ⟨S_, .i32⟩
  | 40 => ⟨S_, .i32⟩
  | 41 => ⟨S8, .i32⟩
  | 42 => ⟨S8, .i32⟩
  | 43 => ⟨S8, .i32⟩
  | 44 => ⟨S_, .i32⟩
  | 45 => ⟨S8, .i32⟩
  | 46 => ⟨S8, .i1⟩
  | 47 => ⟨S8, .i32⟩
  | 48 => ⟨S8, .i32⟩
  | 49 => ⟨S_, .i32⟩
  | 50 => ⟨S8, .i32⟩
  | 51 => ⟨S8, .i1⟩
  | 52 => ⟨S8, .i1⟩
  | 53 => ⟨S_, .i32⟩
  | 54 => ⟨S8, .i32⟩
  | 55 => ⟨S8, .i32⟩
  | 56 => ⟨S8, .i32⟩
  | 57 => ⟨S_, .i32⟩
  | 58 => ⟨S8, .i32⟩
  | 59 => ⟨S8, .i32⟩
  | 60 => ⟨S_, .i32⟩
  | 61 => ⟨S_, .i32⟩
  | 62 => ⟨S8, .i32⟩
  | 63 => ⟨S8, .i32⟩
  | 64 => ⟨S_, .i32⟩
  | 65 => ⟨S_, .i32⟩
  | 66 => ⟨S8, .i32⟩
  | 67 => ⟨S8, .i32⟩
  | 68 => ⟨S8, .i32⟩
  | 69 => ⟨S72, .i32⟩
  | 70 => ⟨S_, .i32⟩
  | 71 => ⟨S72, .i32⟩
  | 72 => ⟨S72, .i32⟩
  | 73 => ⟨S72x1, .i32⟩
  | 74 => ⟨S1x8, .i32⟩
  | 75 => ⟨S72x8, .i32⟩
  | 76 => ⟨S72x8, .i32⟩
  | 77 => ⟨S72x8, .i1⟩
  | 78 => ⟨S72x8, .i32⟩
  | 79 => ⟨S_, .i32⟩
  | 80 => ⟨S72, .i32⟩
  | 81 => ⟨S_, .i32⟩
  | 82 => ⟨S72, .i32⟩
  | 83 => ⟨S72, .i1⟩
  | 84 => ⟨S_, .i32⟩
  | 85 => ⟨S72, .i32⟩
  | 86 => ⟨S1x8, .i32⟩
  | 87 => ⟨S32768x8, .i32⟩
  | 88 => ⟨S32768x8, .i32⟩
  | 89 => ⟨S_, .i32⟩
  | 90 => ⟨S32768, .i32⟩
  | 91 => ⟨S32768, .i32⟩
  | 92 => ⟨S72x1, .i32⟩
  | 93 => ⟨S1x8, .i32⟩
  | 94 => ⟨S72x8, .i32⟩
  | 95 => ⟨S72x8, .i32⟩
  | 96 => ⟨S72x8, .i1⟩
  | 97 => ⟨S72x8, .i32⟩
  | 98 => ⟨S1x8, .i32⟩
  | 99 => ⟨S72x8, .i32⟩
  | 100 => ⟨S72x8, .i32⟩
  | 101 => ⟨S_, .i32⟩
  | 102 => ⟨S72, .i32⟩
  | 103 => ⟨S36864, .i32⟩
  | 104 => ⟨S72x512, .i32⟩
  | 105 => ⟨S36864, .i32⟩
  | 106 => ⟨S36864, .i32⟩
  | 107 => ⟨S_, .i32⟩
  | 108 => ⟨S_, .i32⟩
  | 109 => ⟨S_, .i32⟩
  | 110 => ⟨S36864, .i32⟩
  | 111 => ⟨S36864, .i32⟩
  | 112 => ⟨S_, .i32⟩
  | 113 => ⟨S36864, .i32⟩
  | 114 => ⟨S36864, .i32⟩
  | 115 => ⟨S_, .i32⟩
  | 116 => ⟨S36864, .i32⟩
  | 117 => ⟨S36864, .i1⟩
  | 118 => ⟨S_, .i32⟩
  | 119 => ⟨S36864, .i32⟩
  | 120 => ⟨S36864, .i32⟩
  | 121 => ⟨S36864, .i32⟩
  | 122 => ⟨S36864x1, .i32⟩
  | 123 => ⟨S36864, .i32⟩
  | 124 => ⟨S_, .i32⟩
  | 125 => ⟨S_, .i32⟩
  | 126 => ⟨S_, .i32⟩
  | 127 => ⟨S_, .i1⟩
  | _ => ⟨S4x8192x1024, .bf16⟩

abbrev hbmTy0_1 (i : Nat) : BufTy := match i % 128 with
  | 0 => ⟨S_, .i32⟩
  | 1 => ⟨S_, .i32⟩
  | 2 => ⟨S36864, .i32⟩
  | 3 => ⟨S36864, .i32⟩
  | 4 => ⟨S_, .i32⟩
  | 5 => ⟨S36864, .i32⟩
  | 6 => ⟨S36864, .i1⟩
  | 7 => ⟨S_, .i32⟩
  | 8 => ⟨S36864, .i32⟩
  | 9 => ⟨S36864, .i1⟩
  | 10 => ⟨S_, .i32⟩
  | 11 => ⟨S_, .i1⟩
  | 12 => ⟨S36864, .i1⟩
  | 13 => ⟨S36864, .i1⟩
  | 14 => ⟨S36864, .i1⟩
  | 15 => ⟨S36864, .i32⟩
  | 16 => ⟨S36864, .i32⟩
  | 17 => ⟨S36864, .i32⟩
  | 18 => ⟨S32768x1024, .bf16⟩
  | 19 => ⟨S_, .i32⟩
  | 20 => ⟨S36864, .i32⟩
  | 21 => ⟨S36864, .i32⟩
  | 22 => ⟨S_, .i32⟩
  | 23 => ⟨S36864, .i32⟩
  | 24 => ⟨S36864, .i1⟩
  | 25 => ⟨S_, .i32⟩
  | 26 => ⟨S36864, .i32⟩
  | 27 => ⟨S36864, .i32⟩
  | 28 => ⟨S36864, .i32⟩
  | 29 => ⟨S36864x1, .i32⟩
  | 30 => ⟨S36864x1024, .bf16⟩
  | 31 => ⟨S36864x1024, .bf16⟩
  | 32 => ⟨S2x8192x8, .f32⟩
  | 33 => ⟨S2x8192x1, .f32⟩
  | 34 => ⟨S2x8192, .f32⟩
  | 35 => ⟨S16384, .f32⟩
  | 36 => ⟨S2x8192x1, .f32⟩
  | 37 => ⟨S2x8192, .f32⟩
  | 38 => ⟨S16384, .f32⟩
  | 39 => ⟨S32768, .f32⟩
  | 40 => ⟨S32768, .i32⟩
  | 41 => ⟨S32768, .i32⟩
  | 42 => ⟨S32768, .i32⟩
  | 43 => ⟨S32768, .i32⟩
  | 44 => ⟨S32768, .i32⟩
  | 45 => ⟨S32768, .i32⟩
  | 46 => ⟨S32768, .i32⟩
  | 47 => ⟨S32768x1, .i32⟩
  | 48 => ⟨S1x8, .i32⟩
  | 49 => ⟨S32768x8, .i32⟩
  | 50 => ⟨S32768x8, .i32⟩
  | 51 => ⟨S32768x8, .i1⟩
  | 52 => ⟨S32768x8, .i32⟩
  | 53 => ⟨S_, .i32⟩
  | 54 => ⟨S8, .i32⟩
  | 55 => ⟨S_, .i32⟩
  | 56 => ⟨S8, .i32⟩
  | 57 => ⟨S8, .i32⟩
  | 58 => ⟨S_, .i32⟩
  | 59 => ⟨S8, .i32⟩
  | 60 => ⟨S8, .i32⟩
  | 61 => ⟨S_, .i32⟩
  | 62 => ⟨S_, .i32⟩
  | 63 => ⟨S8, .i32⟩
  | 64 => ⟨S8, .i32⟩
  | 65 => ⟨S8, .i32⟩
  | 66 => ⟨S_, .i32⟩
  | 67 => ⟨S8, .i32⟩
  | 68 => ⟨S8, .i1⟩
  | 69 => ⟨S8, .i32⟩
  | 70 => ⟨S8, .i32⟩
  | 71 => ⟨S_, .i32⟩
  | 72 => ⟨S8, .i32⟩
  | 73 => ⟨S8, .i1⟩
  | 74 => ⟨S8, .i1⟩
  | 75 => ⟨S_, .i32⟩
  | 76 => ⟨S8, .i32⟩
  | 77 => ⟨S8, .i32⟩
  | 78 => ⟨S8, .i32⟩
  | 79 => ⟨S_, .i32⟩
  | 80 => ⟨S8, .i32⟩
  | 81 => ⟨S8, .i32⟩
  | 82 => ⟨S_, .i32⟩
  | 83 => ⟨S_, .i32⟩
  | 84 => ⟨S8, .i32⟩
  | 85 => ⟨S8, .i32⟩
  | 86 => ⟨S_, .i32⟩
  | 87 => ⟨S_, .i32⟩
  | 88 => ⟨S8, .i32⟩
  | 89 => ⟨S8, .i32⟩
  | 90 => ⟨S8, .i32⟩
  | 91 => ⟨S72, .i32⟩
  | 92 => ⟨S_, .i32⟩
  | 93 => ⟨S72, .i32⟩
  | 94 => ⟨S72, .i32⟩
  | 95 => ⟨S72x1, .i32⟩
  | 96 => ⟨S1x8, .i32⟩
  | 97 => ⟨S72x8, .i32⟩
  | 98 => ⟨S72x8, .i32⟩
  | 99 => ⟨S72x8, .i1⟩
  | 100 => ⟨S72x8, .i32⟩
  | 101 => ⟨S_, .i32⟩
  | 102 => ⟨S72, .i32⟩
  | 103 => ⟨S_, .i32⟩
  | 104 => ⟨S72, .i32⟩
  | 105 => ⟨S72, .i1⟩
  | 106 => ⟨S_, .i32⟩
  | 107 => ⟨S72, .i32⟩
  | 108 => ⟨S1x8, .i32⟩
  | 109 => ⟨S32768x8, .i32⟩
  | 110 => ⟨S32768x8, .i32⟩
  | 111 => ⟨S_, .i32⟩
  | 112 => ⟨S32768, .i32⟩
  | 113 => ⟨S32768, .i32⟩
  | 114 => ⟨S72x1, .i32⟩
  | 115 => ⟨S1x8, .i32⟩
  | 116 => ⟨S72x8, .i32⟩
  | 117 => ⟨S72x8, .i32⟩
  | 118 => ⟨S72x8, .i1⟩
  | 119 => ⟨S72x8, .i32⟩
  | 120 => ⟨S1x8, .i32⟩
  | 121 => ⟨S72x8, .i32⟩
  | 122 => ⟨S72x8, .i32⟩
  | 123 => ⟨S_, .i32⟩
  | 124 => ⟨S72, .i32⟩
  | 125 => ⟨S36864, .i32⟩
  | 126 => ⟨S72x512, .i32⟩
  | 127 => ⟨S36864, .i32⟩
  | _ => ⟨S4x8192x1024, .bf16⟩

abbrev hbmTy0_2 (i : Nat) : BufTy := match i % 128 with
  | 0 => ⟨S36864, .i32⟩
  | 1 => ⟨S_, .i32⟩
  | 2 => ⟨S_, .i32⟩
  | 3 => ⟨S_, .i32⟩
  | 4 => ⟨S36864, .i32⟩
  | 5 => ⟨S36864, .i32⟩
  | 6 => ⟨S_, .i32⟩
  | 7 => ⟨S36864, .i32⟩
  | 8 => ⟨S36864, .i32⟩
  | 9 => ⟨S_, .i32⟩
  | 10 => ⟨S36864, .i32⟩
  | 11 => ⟨S36864, .i1⟩
  | 12 => ⟨S_, .i32⟩
  | 13 => ⟨S36864, .i32⟩
  | 14 => ⟨S36864, .i32⟩
  | 15 => ⟨S36864, .i32⟩
  | 16 => ⟨S36864x1, .i32⟩
  | 17 => ⟨S36864, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S36864, .i32⟩
  | 25 => ⟨S36864, .i32⟩
  | 26 => ⟨S_, .i32⟩
  | 27 => ⟨S36864, .i32⟩
  | 28 => ⟨S36864, .i1⟩
  | 29 => ⟨S_, .i32⟩
  | 30 => ⟨S36864, .i32⟩
  | 31 => ⟨S36864, .i1⟩
  | 32 => ⟨S_, .i32⟩
  | 33 => ⟨S_, .i1⟩
  | 34 => ⟨S36864, .i1⟩
  | 35 => ⟨S36864, .i1⟩
  | 36 => ⟨S36864, .i1⟩
  | 37 => ⟨S36864, .i32⟩
  | 38 => ⟨S36864, .i32⟩
  | 39 => ⟨S36864, .i32⟩
  | 40 => ⟨S32768x1024, .bf16⟩
  | 41 => ⟨S_, .i32⟩
  | 42 => ⟨S36864, .i32⟩
  | 43 => ⟨S36864, .i32⟩
  | 44 => ⟨S_, .i32⟩
  | 45 => ⟨S36864, .i32⟩
  | 46 => ⟨S36864, .i1⟩
  | 47 => ⟨S_, .i32⟩
  | 48 => ⟨S36864, .i32⟩
  | 49 => ⟨S36864, .i32⟩
  | 50 => ⟨S36864, .i32⟩
  | 51 => ⟨S36864x1, .i32⟩
  | 52 => ⟨S36864x1024, .bf16⟩
  | 53 => ⟨S36864x1024, .bf16⟩
  | 54 => ⟨S_, .i32⟩
  | 55 => ⟨S32768, .i32⟩
  | 56 => ⟨S32768, .i1⟩
  | 57 => ⟨S_, .i32⟩
  | 58 => ⟨S32768, .i32⟩
  | 59 => ⟨S32768, .i32⟩
  | 60 => ⟨S32768, .i32⟩
  | 61 => ⟨S32768x1, .i32⟩
  | 62 => ⟨S32768x1024, .bf16⟩
  | 63 => ⟨S2x2x8192x1024, .bf16⟩
  | 64 => ⟨S4x8192x1024, .f32⟩
  | 65 => ⟨S_, .i32⟩
  | 66 => ⟨S32768, .i32⟩
  | 67 => ⟨S32768, .i1⟩
  | 68 => ⟨S_, .i32⟩
  | 69 => ⟨S32768, .i32⟩
  | 70 => ⟨S32768, .i32⟩
  | 71 => ⟨S32768, .i32⟩
  | 72 => ⟨S32768x1, .i32⟩
  | 73 => ⟨S32768x1024, .bf16⟩
  | 74 => ⟨S2x2x8192x1024, .bf16⟩
  | 75 => ⟨S4x8192x1024, .f32⟩
  | _ => ⟨S4x8192x1024, .bf16⟩

abbrev hbmTy (i : Nat) : BufTy := match i / 128 with
  | 0 => hbmTy0_0 i
  | 1 => hbmTy0_1 i
  | 2 => hbmTy0_2 i
  | _ => ⟨S4x8192x1024, .bf16⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024x2816, .bf16⟩
  | .local _ .vmem, ⟨13, _⟩ => ⟨S1x1024x2816, .bf16⟩
  | .local _ .vmem, ⟨14, _⟩ => ⟨S1x1024x2816, .bf16⟩
  | .local _ .vmem, ⟨15, _⟩ => ⟨S1x1024x2816, .bf16⟩
  | .local _ .vmem, ⟨16, _⟩ => ⟨S1x2816x1024, .bf16⟩
  | .local _ .vmem, ⟨17, _⟩ => ⟨S1x2816x1024, .bf16⟩
  | .local _ .vmem, ⟨18, _⟩ => ⟨S512x1024, .bf16⟩
  | .local _ .vmem, ⟨19, _⟩ => ⟨S512x1024, .bf16⟩
  | .local _ .vmem, ⟨20, _⟩ => ⟨S1x512x1024, .f32⟩
  | .local _ .vmem, ⟨21, _⟩ => ⟨S1x512x1024, .f32⟩
  | .local _ .vmem, ⟨22, _⟩ => ⟨S1x6x1024, .f32⟩
  | .local _ .vmem, ⟨23, _⟩ => ⟨S1x6x1024, .f32⟩
  | .local _ .vmem, ⟨24, _⟩ => ⟨S1x1x512x1024, .bf16⟩
  | .local _ .vmem, ⟨25, _⟩ => ⟨S1x1x512x1024, .bf16⟩
  | .local _ .vmem, ⟨26, _⟩ => ⟨S1x1x512x1024, .bf16⟩
  | .local _ .vmem, ⟨27, _⟩ => ⟨S1x1x512x1024, .bf16⟩
  | .local _ .vmem, ⟨28, _⟩ => ⟨S1x512x8, .f32⟩
  | .local _ .vmem, ⟨29, _⟩ => ⟨S1x512x8, .f32⟩
  | .local _ .vmem, ⟨30, _⟩ => ⟨S1x512x1024, .f32⟩
  | .local _ .vmem, ⟨31, _⟩ => ⟨S1x512x1024, .f32⟩
  | .local _ .vmem, ⟨32, _⟩ => ⟨S1x512x1024, .f32⟩
  | .local _ .vmem, ⟨33, _⟩ => ⟨S1x512x1024, .f32⟩
  | .local _ .vmem, ⟨34, _⟩ => ⟨S1x6x1024, .f32⟩
  | .local _ .vmem, ⟨35, _⟩ => ⟨S1x6x1024, .f32⟩
  | .local _ .vmem, ⟨36, _⟩ => ⟨S1x1x512x1024, .bf16⟩
  | .local _ .vmem, ⟨37, _⟩ => ⟨S1x1x512x1024, .bf16⟩
  | .local _ .vmem, ⟨38, _⟩ => ⟨S1x1x512x1024, .bf16⟩
  | .local _ .vmem, ⟨39, _⟩ => ⟨S1x1x512x1024, .bf16⟩
  | .local _ .vmem, ⟨40, _⟩ => ⟨S1x512x8, .f32⟩
  | .local _ .vmem, ⟨41, _⟩ => ⟨S1x512x8, .f32⟩
  | .local _ .vmem, ⟨42, _⟩ => ⟨S1x512x1024, .f32⟩
  | .local _ .vmem, ⟨43, _⟩ => ⟨S1x512x1024, .f32⟩
  | .local _ .smem, ⟨0, _⟩ => ⟨S72, .i32⟩
  | .local _ .smem, ⟨1, _⟩ => ⟨S72, .i32⟩
  | .local _ .smem, ⟨2, _⟩ => ⟨S72, .i32⟩
  | .local _ .smem, ⟨3, _⟩ => ⟨S72, .i32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1_0 : Ref sig .tc := ⟨.hbm, 20, rfl⟩
abbrev main_v12 : Ref sig .tc := ⟨.hbm, 21, rfl⟩
abbrev main_call1_v0 : Ref sig .tc := ⟨.hbm, 22, rfl⟩
abbrev main_call1_v1_0 : Ref sig .tc := ⟨.hbm, 23, rfl⟩
abbrev main_v13 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_c_0 : Ref sig .tc := ⟨.hbm, 33, rfl⟩
abbrev main_v16 : Ref sig .tc := ⟨.hbm, 34, rfl⟩
abbrev main_v17 : Ref sig .tc := ⟨.hbm, 35, rfl⟩
abbrev main_c_1 : Ref sig .tc := ⟨.hbm, 36, rfl⟩
abbrev main_v18 : Ref sig .tc := ⟨.hbm, 37, rfl⟩
abbrev main_v19 : Ref sig .tc := ⟨.hbm, 38, rfl⟩
abbrev main_c_2 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_call3_v5 : Ref sig .tc := ⟨.hbm, 45, rfl⟩
abbrev main_call3_v6 : Ref sig .tc := ⟨.hbm, 46, rfl⟩
abbrev main_call3_v7 : Ref sig .tc := ⟨.hbm, 47, rfl⟩
abbrev main_call3_v8 : Ref sig .tc := ⟨.hbm, 48, rfl⟩
abbrev main_call3_c : Ref sig .tc := ⟨.hbm, 49, rfl⟩
abbrev main_call3_v9 : Ref sig .tc := ⟨.hbm, 50, rfl⟩
abbrev main_call3_v10 : Ref sig .tc := ⟨.hbm, 51, rfl⟩
abbrev main_call3_v11 : Ref sig .tc := ⟨.hbm, 52, rfl⟩
abbrev main_call3_c_0 : Ref sig .tc := ⟨.hbm, 53, rfl⟩
abbrev main_call3_v12 : Ref sig .tc := ⟨.hbm, 54, rfl⟩
abbrev main_call3_v13 : Ref sig .tc := ⟨.hbm, 55, rfl⟩
abbrev main_v20 : Ref sig .tc := ⟨.hbm, 56, rfl⟩
abbrev main_c_3 : Ref sig .tc := ⟨.hbm, 57, rfl⟩
abbrev main_v21 : Ref sig .tc := ⟨.hbm, 58, rfl⟩
abbrev main_v22 : Ref sig .tc := ⟨.hbm, 59, rfl⟩
abbrev main_call4_call0_c : Ref sig .tc := ⟨.hbm, 60, rfl⟩
abbrev main_call4_call0_v0 : Ref sig .tc := ⟨.hbm, 61, rfl⟩
abbrev main_v23 : Ref sig .tc := ⟨.hbm, 62, rfl⟩
abbrev main_v24 : Ref sig .tc := ⟨.hbm, 63, rfl⟩
abbrev main_call5_call0_c : Ref sig .tc := ⟨.hbm, 64, rfl⟩
abbrev main_call5_call0_v0 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_c_4 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_c_5 : Ref sig .tc := ⟨.hbm, 79, rfl⟩
abbrev main_v37 : Ref sig .tc := ⟨.hbm, 80, rfl⟩
abbrev main_c_6 : Ref sig .tc := ⟨.hbm, 81, rfl⟩
abbrev main_v38 : Ref sig .tc := ⟨.hbm, 82, rfl⟩
abbrev main_v39 : Ref sig .tc := ⟨.hbm, 83, rfl⟩
abbrev main_c_7 : Ref sig .tc := ⟨.hbm, 84, rfl⟩
abbrev main_v41 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_c_8 : Ref sig .tc := ⟨.hbm, 89, rfl⟩
abbrev main_v46 : Ref sig .tc := ⟨.hbm, 90, rfl⟩
abbrev main_v47 : Ref sig .tc := ⟨.hbm, 91, rfl⟩
abbrev main_call6_v0 : Ref sig .tc := ⟨.hbm, 92, rfl⟩
abbrev main_call6_v1 : Ref sig .tc := ⟨.hbm, 93, rfl⟩
abbrev main_call6_v2 : Ref sig .tc := ⟨.hbm, 94, rfl⟩
abbrev main_call6_v3 : Ref sig .tc := ⟨.hbm, 95, rfl⟩
abbrev main_call6_v4 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_c_9 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_c_10 : Ref sig .tc := ⟨.hbm, 107, rfl⟩
abbrev main_c_11 : Ref sig .tc := ⟨.hbm, 108, rfl⟩
abbrev main_call7_v0 : Ref sig .tc := ⟨.hbm, 109, rfl⟩
abbrev main_call7_v1 : Ref sig .tc := ⟨.hbm, 110, rfl⟩
abbrev main_call7_v2 : Ref sig .tc := ⟨.hbm, 111, rfl⟩
abbrev main_call7_v3 : Ref sig .tc := ⟨.hbm, 112, rfl⟩
abbrev main_call7_v4 : Ref sig .tc := ⟨.hbm, 113, rfl⟩
abbrev main_v57 : Ref sig .tc := ⟨.hbm, 114, rfl⟩
abbrev main_c_12 : Ref sig .tc := ⟨.hbm, 115, rfl⟩
abbrev main_v58 : Ref sig .tc := ⟨.hbm, 116, rfl⟩
abbrev main_v59 : Ref sig .tc := ⟨.hbm, 117, rfl⟩
abbrev main_c_13 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_c_14 : Ref sig .tc := ⟨.hbm, 124, rfl⟩
abbrev main_call8_v0 : Ref sig .tc := ⟨.hbm, 125, rfl⟩
abbrev main_call8_c : Ref sig .tc := ⟨.hbm, 126, rfl⟩
abbrev main_call8_v1 : Ref sig .tc := ⟨.hbm, 127, rfl⟩
abbrev main_call8_c_0 : Ref sig .tc := ⟨.hbm, 128, rfl⟩
abbrev main_call8_v2 : Ref sig .tc := ⟨.hbm, 129, rfl⟩
abbrev main_call8_v3 : Ref sig .tc := ⟨.hbm, 130, rfl⟩
abbrev main_call8_v4 : Ref sig .tc := ⟨.hbm, 131, rfl⟩
abbrev main_call8_c_1 : Ref sig .tc := ⟨.hbm, 132, rfl⟩
abbrev main_call8_v5 : Ref sig .tc := ⟨.hbm, 133, rfl⟩
abbrev main_call8_v6 : Ref sig .tc := ⟨.hbm, 134, rfl⟩
abbrev main_call8_c_2 : Ref sig .tc := ⟨.hbm, 135, rfl⟩
abbrev main_call8_v7 : Ref sig .tc := ⟨.hbm, 136, rfl⟩
abbrev main_call8_v8 : Ref sig .tc := ⟨.hbm, 137, rfl⟩
abbrev main_call8_c_3 : Ref sig .tc := ⟨.hbm, 138, rfl⟩
abbrev main_call8_v9 : Ref sig .tc := ⟨.hbm, 139, rfl⟩
abbrev main_call8_v10 : Ref sig .tc := ⟨.hbm, 140, rfl⟩
abbrev main_call8_v11 : Ref sig .tc := ⟨.hbm, 141, rfl⟩
abbrev main_call8_v12 : Ref sig .tc := ⟨.hbm, 142, rfl⟩
abbrev main_call8_v13 : Ref sig .tc := ⟨.hbm, 143, rfl⟩
abbrev main_call8_v14 : Ref sig .tc := ⟨.hbm, 144, rfl⟩
abbrev main_v65 : Ref sig .tc := ⟨.hbm, 145, rfl⟩
abbrev main_v66 : Ref sig .tc := ⟨.hbm, 146, rfl⟩
abbrev main_c_15 : Ref sig .tc := ⟨.hbm, 147, rfl⟩
abbrev main_v67 : Ref sig .tc := ⟨.hbm, 148, rfl⟩
abbrev main_v68 : Ref sig .tc := ⟨.hbm, 149, rfl⟩
abbrev main_c_16 : Ref sig .tc := ⟨.hbm, 150, rfl⟩
abbrev main_v69 : Ref sig .tc := ⟨.hbm, 151, rfl⟩
abbrev main_v70 : Ref sig .tc := ⟨.hbm, 152, rfl⟩
abbrev main_c_17 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_call9_v0 : Ref sig .tc := ⟨.hbm, 169, rfl⟩
abbrev main_call9_v1_0 : Ref sig .tc := ⟨.hbm, 170, rfl⟩
abbrev main_v86 : Ref sig .tc := ⟨.hbm, 171, rfl⟩
abbrev main_call10_v0 : Ref sig .tc := ⟨.hbm, 172, rfl⟩
abbrev main_call10_v1_0 : Ref sig .tc := ⟨.hbm, 173, rfl⟩
abbrev main_v87 : Ref sig .tc := ⟨.hbm, 174, rfl⟩
abbrev main_call11_v0 : Ref sig .tc := ⟨.hbm, 175, rfl⟩
abbrev main_call11_v1 : Ref sig .tc := ⟨.hbm, 176, rfl⟩
abbrev main_call11_v2 : Ref sig .tc := ⟨.hbm, 177, rfl⟩
abbrev main_call11_v3 : Ref sig .tc := ⟨.hbm, 178, rfl⟩
abbrev main_call11_v4 : Ref sig .tc := ⟨.hbm, 179, rfl⟩
abbrev main_v88 : Ref sig .tc := ⟨.hbm, 180, rfl⟩
abbrev main_c_18 : Ref sig .tc := ⟨.hbm, 181, rfl⟩
abbrev main_v89 : Ref sig .tc := ⟨.hbm, 182, rfl⟩
abbrev main_c_19 : Ref sig .tc := ⟨.hbm, 183, rfl⟩
abbrev main_v90 : Ref sig .tc := ⟨.hbm, 184, rfl⟩
abbrev main_v91 : Ref sig .tc := ⟨.hbm, 185, rfl⟩
abbrev main_c_20 : Ref sig .tc := ⟨.hbm, 186, rfl⟩
abbrev main_v92 : Ref sig .tc := ⟨.hbm, 187, rfl⟩
abbrev main_v93 : Ref sig .tc := ⟨.hbm, 188, rfl⟩
abbrev main_c_21 : Ref sig .tc := ⟨.hbm, 189, rfl⟩
abbrev main_call12_v0 : Ref sig .tc := ⟨.hbm, 190, rfl⟩
abbrev main_call12_v1 : Ref sig .tc := ⟨.hbm, 191, rfl⟩
abbrev main_call12_v2 : Ref sig .tc := ⟨.hbm, 192, rfl⟩
abbrev main_call12_v3 : Ref sig .tc := ⟨.hbm, 193, rfl⟩
abbrev main_call12_v4 : Ref sig .tc := ⟨.hbm, 194, rfl⟩
abbrev main_call12_v5 : Ref sig .tc := ⟨.hbm, 195, rfl⟩
abbrev main_call12_v6 : Ref sig .tc := ⟨.hbm, 196, rfl⟩
abbrev main_call12_v7 : Ref sig .tc := ⟨.hbm, 197, rfl⟩
abbrev main_call12_v8 : Ref sig .tc := ⟨.hbm, 198, rfl⟩
abbrev main_call12_c : Ref sig .tc := ⟨.hbm, 199, rfl⟩
abbrev main_call12_v9 : Ref sig .tc := ⟨.hbm, 200, rfl⟩
abbrev main_call12_v10 : Ref sig .tc := ⟨.hbm, 201, rfl⟩
abbrev main_call12_v11 : Ref sig .tc := ⟨.hbm, 202, rfl⟩
abbrev main_call12_c_0 : Ref sig .tc := ⟨.hbm, 203, rfl⟩
abbrev main_call12_v12 : Ref sig .tc := ⟨.hbm, 204, rfl⟩
abbrev main_call12_v13 : Ref sig .tc := ⟨.hbm, 205, rfl⟩
abbrev main_v94 : Ref sig .tc := ⟨.hbm, 206, rfl⟩
abbrev main_c_22 : Ref sig .tc := ⟨.hbm, 207, rfl⟩
abbrev main_v95 : Ref sig .tc := ⟨.hbm, 208, rfl⟩
abbrev main_v96 : Ref sig .tc := ⟨.hbm, 209, rfl⟩
abbrev main_call13_call0_c : Ref sig .tc := ⟨.hbm, 210, rfl⟩
abbrev main_call13_call0_v0 : Ref sig .tc := ⟨.hbm, 211, rfl⟩
abbrev main_v97 : Ref sig .tc := ⟨.hbm, 212, rfl⟩
abbrev main_v98 : Ref sig .tc := ⟨.hbm, 213, rfl⟩
abbrev main_call14_call0_c : Ref sig .tc := ⟨.hbm, 214, rfl⟩
abbrev main_call14_call0_v0 : Ref sig .tc := ⟨.hbm, 215, rfl⟩
abbrev main_v99 : Ref sig .tc := ⟨.hbm, 216, rfl⟩
abbrev main_v100 : Ref sig .tc := ⟨.hbm, 217, rfl⟩
abbrev main_v101 : Ref sig .tc := ⟨.hbm, 218, rfl⟩
abbrev main_v102 : Ref sig .tc := ⟨.hbm, 219, rfl⟩
abbrev main_c_23 : Ref sig .tc := ⟨.hbm, 220, rfl⟩
abbrev main_v103 : Ref sig .tc := ⟨.hbm, 221, rfl⟩
abbrev main_v104 : Ref sig .tc := ⟨.hbm, 222, rfl⟩
abbrev main_v105 : Ref sig .tc := ⟨.hbm, 223, rfl⟩
abbrev main_v106 : Ref sig .tc := ⟨.hbm, 224, rfl⟩
abbrev main_v107 : Ref sig .tc := ⟨.hbm, 225, rfl⟩
abbrev main_v108 : Ref sig .tc := ⟨.hbm, 226, rfl⟩
abbrev main_v109 : Ref sig .tc := ⟨.hbm, 227, rfl⟩
abbrev main_v110 : Ref sig .tc := ⟨.hbm, 228, rfl⟩
abbrev main_c_24 : Ref sig .tc := ⟨.hbm, 229, rfl⟩
abbrev main_v111 : Ref sig .tc := ⟨.hbm, 230, rfl⟩
abbrev main_c_25 : Ref sig .tc := ⟨.hbm, 231, rfl⟩
abbrev main_v112 : Ref sig .tc := ⟨.hbm, 232, rfl⟩
abbrev main_v113 : Ref sig .tc := ⟨.hbm, 233, rfl⟩
abbrev main_c_26 : Ref sig .tc := ⟨.hbm, 234, rfl⟩
abbrev main_v115 : Ref sig .tc := ⟨.hbm, 235, rfl⟩
abbrev main_v117 : Ref sig .tc := ⟨.hbm, 236, rfl⟩
abbrev main_v118 : Ref sig .tc := ⟨.hbm, 237, rfl⟩
abbrev main_v119 : Ref sig .tc := ⟨.hbm, 238, rfl⟩
abbrev main_c_27 : Ref sig .tc := ⟨.hbm, 239, rfl⟩
abbrev main_v120 : Ref sig .tc := ⟨.hbm, 240, rfl⟩
abbrev main_v121 : Ref sig .tc := ⟨.hbm, 241, rfl⟩
abbrev main_call15_v0 : Ref sig .tc := ⟨.hbm, 242, rfl⟩
abbrev main_call15_v1 : Ref sig .tc := ⟨.hbm, 243, rfl⟩
abbrev main_call15_v2 : Ref sig .tc := ⟨.hbm, 244, rfl⟩
abbrev main_call15_v3 : Ref sig .tc := ⟨.hbm, 245, rfl⟩
abbrev main_call15_v4 : Ref sig .tc := ⟨.hbm, 246, rfl⟩
abbrev main_v122 : Ref sig .tc := ⟨.hbm, 247, rfl⟩
abbrev main_v123 : Ref sig .tc := ⟨.hbm, 248, rfl⟩
abbrev main_v124 : Ref sig .tc := ⟨.hbm, 249, rfl⟩
abbrev main_v125 : Ref sig .tc := ⟨.hbm, 250, rfl⟩
abbrev main_c_28 : Ref sig .tc := ⟨.hbm, 251, rfl⟩
abbrev main_v126 : Ref sig .tc := ⟨.hbm, 252, rfl⟩
abbrev main_v127 : Ref sig .tc := ⟨.hbm, 253, rfl⟩
abbrev main_v128 : Ref sig .tc := ⟨.hbm, 254, rfl⟩
abbrev main_v129 : Ref sig .tc := ⟨.hbm, 255, rfl⟩
abbrev main_v130 : Ref sig .tc := ⟨.hbm, 256, rfl⟩
abbrev main_c_29 : Ref sig .tc := ⟨.hbm, 257, rfl⟩
abbrev main_c_30 : Ref sig .tc := ⟨.hbm, 258, rfl⟩
abbrev main_call16_v0 : Ref sig .tc := ⟨.hbm, 259, rfl⟩
abbrev main_call16_v1 : Ref sig .tc := ⟨.hbm, 260, rfl⟩
abbrev main_call16_v2 : Ref sig .tc := ⟨.hbm, 261, rfl⟩
abbrev main_call16_v3 : Ref sig .tc := ⟨.hbm, 262, rfl⟩
abbrev main_call16_v4 : Ref sig .tc := ⟨.hbm, 263, rfl⟩
abbrev main_v131 : Ref sig .tc := ⟨.hbm, 264, rfl⟩
abbrev main_c_31 : Ref sig .tc := ⟨.hbm, 265, rfl⟩
abbrev main_v132 : Ref sig .tc := ⟨.hbm, 266, rfl⟩
abbrev main_v133 : Ref sig .tc := ⟨.hbm, 267, rfl⟩
abbrev main_c_32 : Ref sig .tc := ⟨.hbm, 268, rfl⟩
abbrev main_v134 : Ref sig .tc := ⟨.hbm, 269, rfl⟩
abbrev main_v135 : Ref sig .tc := ⟨.hbm, 270, rfl⟩
abbrev main_v136 : Ref sig .tc := ⟨.hbm, 271, rfl⟩
abbrev main_v137 : Ref sig .tc := ⟨.hbm, 272, rfl⟩
abbrev main_v138 : Ref sig .tc := ⟨.hbm, 273, rfl⟩
abbrev main_c_33 : Ref sig .tc := ⟨.hbm, 274, rfl⟩
abbrev main_call17_v0 : Ref sig .tc := ⟨.hbm, 275, rfl⟩
abbrev main_call17_c : Ref sig .tc := ⟨.hbm, 276, rfl⟩
abbrev main_call17_v1 : Ref sig .tc := ⟨.hbm, 277, rfl⟩
abbrev main_call17_c_0 : Ref sig .tc := ⟨.hbm, 278, rfl⟩
abbrev main_call17_v2 : Ref sig .tc := ⟨.hbm, 279, rfl⟩
abbrev main_call17_v3 : Ref sig .tc := ⟨.hbm, 280, rfl⟩
abbrev main_call17_v4 : Ref sig .tc := ⟨.hbm, 281, rfl⟩
abbrev main_call17_c_1 : Ref sig .tc := ⟨.hbm, 282, rfl⟩
abbrev main_call17_v5 : Ref sig .tc := ⟨.hbm, 283, rfl⟩
abbrev main_call17_v6 : Ref sig .tc := ⟨.hbm, 284, rfl⟩
abbrev main_call17_c_2 : Ref sig .tc := ⟨.hbm, 285, rfl⟩
abbrev main_call17_v7 : Ref sig .tc := ⟨.hbm, 286, rfl⟩
abbrev main_call17_v8 : Ref sig .tc := ⟨.hbm, 287, rfl⟩
abbrev main_call17_c_3 : Ref sig .tc := ⟨.hbm, 288, rfl⟩
abbrev main_call17_v9 : Ref sig .tc := ⟨.hbm, 289, rfl⟩
abbrev main_call17_v10 : Ref sig .tc := ⟨.hbm, 290, rfl⟩
abbrev main_call17_v11 : Ref sig .tc := ⟨.hbm, 291, rfl⟩
abbrev main_call17_v12 : Ref sig .tc := ⟨.hbm, 292, rfl⟩
abbrev main_call17_v13 : Ref sig .tc := ⟨.hbm, 293, rfl⟩
abbrev main_call17_v14 : Ref sig .tc := ⟨.hbm, 294, rfl⟩
abbrev main_v139 : Ref sig .tc := ⟨.hbm, 295, rfl⟩
abbrev main_v140 : Ref sig .tc := ⟨.hbm, 296, rfl⟩
abbrev main_c_34 : Ref sig .tc := ⟨.hbm, 297, rfl⟩
abbrev main_v141 : Ref sig .tc := ⟨.hbm, 298, rfl⟩
abbrev main_v142 : Ref sig .tc := ⟨.hbm, 299, rfl⟩
abbrev main_c_35 : Ref sig .tc := ⟨.hbm, 300, rfl⟩
abbrev main_v143 : Ref sig .tc := ⟨.hbm, 301, rfl⟩
abbrev main_v144 : Ref sig .tc := ⟨.hbm, 302, rfl⟩
abbrev main_c_36 : Ref sig .tc := ⟨.hbm, 303, rfl⟩
abbrev main_v145 : Ref sig .tc := ⟨.hbm, 304, rfl⟩
abbrev main_v146 : Ref sig .tc := ⟨.hbm, 305, rfl⟩
abbrev main_v147 : Ref sig .tc := ⟨.hbm, 306, rfl⟩
abbrev main_v148 : Ref sig .tc := ⟨.hbm, 307, rfl⟩
abbrev main_v149 : Ref sig .tc := ⟨.hbm, 308, rfl⟩
abbrev main_v150 : Ref sig .tc := ⟨.hbm, 309, rfl⟩
abbrev main_c_37 : Ref sig .tc := ⟨.hbm, 310, rfl⟩
abbrev main_v151 : Ref sig .tc := ⟨.hbm, 311, rfl⟩
abbrev main_v152 : Ref sig .tc := ⟨.hbm, 312, rfl⟩
abbrev main_c_38 : Ref sig .tc := ⟨.hbm, 313, rfl⟩
abbrev main_v153 : Ref sig .tc := ⟨.hbm, 314, rfl⟩
abbrev main_v154 : Ref sig .tc := ⟨.hbm, 315, rfl⟩
abbrev main_v155 : Ref sig .tc := ⟨.hbm, 316, rfl⟩
abbrev main_v156 : Ref sig .tc := ⟨.hbm, 317, rfl⟩
abbrev main_v157 : Ref sig .tc := ⟨.hbm, 318, rfl⟩
abbrev main_v158 : Ref sig .tc := ⟨.hbm, 319, rfl⟩
abbrev main_v159 : Ref sig .tc := ⟨.hbm, 320, rfl⟩
abbrev main_c_39 : Ref sig .tc := ⟨.hbm, 321, rfl⟩
abbrev main_v160 : Ref sig .tc := ⟨.hbm, 322, rfl⟩
abbrev main_v161 : Ref sig .tc := ⟨.hbm, 323, rfl⟩
abbrev main_c_40 : Ref sig .tc := ⟨.hbm, 324, rfl⟩
abbrev main_v162 : Ref sig .tc := ⟨.hbm, 325, rfl⟩
abbrev main_v163 : Ref sig .tc := ⟨.hbm, 326, rfl⟩
abbrev main_v164 : Ref sig .tc := ⟨.hbm, 327, rfl⟩
abbrev main_v165 : Ref sig .tc := ⟨.hbm, 328, rfl⟩
abbrev main_v166 : Ref sig .tc := ⟨.hbm, 329, rfl⟩
abbrev main_v167 : Ref sig .tc := ⟨.hbm, 330, rfl⟩
abbrev main_v168 : Ref sig .tc := ⟨.hbm, 331, rfl⟩
abbrev main_v42 : Ref sig .tc := ⟨.smem, 0, rfl⟩
abbrev main_v40 : Ref sig .tc := ⟨.smem, 1, rfl⟩
abbrev main_v116 : Ref sig .tc := ⟨.smem, 2, rfl⟩
abbrev main_v114 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc3_stg4_0 : Ref sig .tc := ⟨.vmem, 40, rfl⟩
abbrev cc3_stg4_1 : Ref sig .tc := ⟨.vmem, 41, rfl⟩
abbrev cc3_stg5_0 : Ref sig .tc := ⟨.vmem, 42, rfl⟩
abbrev cc3_stg5_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem3_1 : DmaSem sig := 39
abbrev cc3_sem4_0 : DmaSem sig := 40
abbrev cc3_sem4_1 : DmaSem sig := 41
abbrev cc3_sem5_0 : DmaSem sig := 42
abbrev cc3_sem5_1 : DmaSem sig := 43

abbrev nD : Nat := 1
abbrev τ : Topo := Topo.v7x

variable {F : FTy → Type} [FloatOps F]

abbrev grid0 : Pipeline.Grid := ⟨1, ![72], ![false]⟩

abbrev pre0 : Pipeline.Prefetch sig := ⟨2, ![main_v42.idx, main_v40.idx], fun | 0 => main_v42.names | 1 => main_v40.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32 : BitVec 32 := 0#32
  let v2 : BitVec 1 := Scalar.cmpi .sgt v1 c0_i32
  let v_true : BitVec 1 := 1#1
  let v5 : BitVec 1 := Scalar.xori v2 v_true
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![72], ![false]⟩

abbrev pre1 : Pipeline.Prefetch sig := ⟨2, ![main_v116.idx, main_v114.idx], fun | 0 => main_v116.names | 1 => main_v114.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k1_cond2 (v1 : BitVec 32) : BitVec 1 :=
  let c0_i32 : BitVec 32 := 0#32
  let v2 : BitVec 1 := Scalar.cmpi .sgt v1 c0_i32
  let v_true : BitVec 1 := 1#1
  let v5 : BitVec 1 := Scalar.xori v2 v_true
  let v6 : BitVec 32 := Scalar.extui v5
  let c0_i32_1 : BitVec 32 := 0#32
  let v7 : BitVec 1 := Scalar.cmpi .ne v6 c0_i32_1
  v7

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (k1_off1_inb : ∀ i : grid1.Coords, ∀ a, (k1_off1 i) a + S1.size a ≤ S72.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S72) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S72.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S72) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (k1_off1_inb : ∀ i : grid1.Coords, ∀ a, (k1_off1 i) a + S1.size a ≤ S72.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S72) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2816x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc2_transform_3 (i : grid2.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x6x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x512x8 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![2, 16], ![false, false]⟩

def cc3_transform_0 (i : grid3.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc3_transform_3 (i : grid3.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc3_transform_4 (i : grid3.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc3_transform_5 (i : grid3.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

abbrev stage3_0 : Fin 2 → Memref sig .tc .vmem S1x512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x6x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1x512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x1x512x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x512x8 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]
-- ==== ReferenceIdeal.lean ====
abbrev S4x8192x1024 : Shape := ⟨3, ![4, 8192, 1024]⟩
abbrev S4x6x1024 : Shape := ⟨3, ![4, 6, 1024]⟩
abbrev S4x8192x8 : Shape := ⟨3, ![4, 8192, 8]⟩
abbrev S8x1024x2816 : Shape := ⟨3, ![8, 1024, 2816]⟩
abbrev S8x2816x1024 : Shape := ⟨3, ![8, 2816, 1024]⟩
abbrev S4x8192x2 : Shape := ⟨3, ![4, 8192, 2]⟩
abbrev S4x8192x2x1 : Shape := ⟨4, ![4, 8192, 2, 1]⟩
abbrev S1x1x1x8 : Shape := ⟨4, ![1, 1, 1, 8]⟩
abbrev S4x8192x2x8 : Shape := ⟨4, ![4, 8192, 2, 8]⟩
abbrev S_ : Shape := ⟨0, ![]⟩
abbrev S4x8192x1 : Shape := ⟨3, ![4, 8192, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S4x8192x2816 : Shape := ⟨3, ![4, 8192, 2816]⟩
abbrev S4x1x1024 : Shape := ⟨3, ![4, 1, 1024]⟩

abbrev nBuf : Space → Nat
  | .hbm => 212
  | .vmem => 0
  | .smem => 0
  | _ => 0

abbrev hbmTy0_0 (i : Nat) : BufTy := match i % 128 with
  | 0 => ⟨S4x8192x1024, .bf16⟩
  | 1 => ⟨S4x8192x1024, .f32⟩
  | 2 => ⟨S4x6x1024, .f32⟩
  | 3 => ⟨S4x8192x8, .f32⟩
  | 4 => ⟨S8x1024x2816, .f32⟩
  | 5 => ⟨S8x1024x2816, .f32⟩
  | 6 => ⟨S8x2816x1024, .f32⟩
  | 7 => ⟨S4x8192x1024, .f32⟩
  | 8 => ⟨S4x8192x2, .f32⟩
  | 9 => ⟨S4x8192x2, .i32⟩
  | 10 => ⟨S4x8192x2, .f32⟩
  | 11 => ⟨S4x8192x2x1, .i32⟩
  | 12 => ⟨S1x1x1x8, .i32⟩
  | 13 => ⟨S4x8192x2x8, .i32⟩
  | 14 => ⟨S4x8192x2x8, .i32⟩
  | 15 => ⟨S4x8192x2x8, .i1⟩
  | 16 => ⟨S4x8192x2x8, .f32⟩
  | 17 => ⟨S4x8192x2x1, .f32⟩
  | 18 => ⟨S4x8192x2x8, .f32⟩
  | 19 => ⟨S4x8192x2x8, .f32⟩
  | 20 => ⟨S_, .f32⟩
  | 21 => ⟨S4x8192x8, .f32⟩
  | 22 => ⟨S_, .f32⟩
  | 23 => ⟨S4x8192x1024, .f32⟩
  | 24 => ⟨S4x8192x1, .f32⟩
  | 25 => ⟨S1x1024x2816, .f32⟩
  | 26 => ⟨S1024x2816, .f32⟩
  | 27 => ⟨S1x1024x2816, .f32⟩
  | 28 => ⟨S1024x2816, .f32⟩
  | 29 => ⟨S1x2816x1024, .f32⟩
  | 30 => ⟨S2816x1024, .f32⟩
  | 31 => ⟨S4x8192x2816, .f32⟩
  | 32 => ⟨S4x8192x2816, .f32⟩
  | 33 => ⟨S4x8192x2816, .f32⟩
  | 34 => ⟨S_, .f32⟩
  | 35 => ⟨S4x8192x2816, .f32⟩
  | 36 => ⟨S4x8192x2816, .f32⟩
  | 37 => ⟨S_, .f32⟩
  | 38 => ⟨S4x8192x2816, .f32⟩
  | 39 => ⟨S4x8192x2816, .f32⟩
  | 40 => ⟨S4x8192x2816, .f32⟩
  | 41 => ⟨S4x8192x2816, .f32⟩
  | 42 => ⟨S4x8192x2816, .f32⟩
  | 43 => ⟨S4x8192x1024, .f32⟩
  | 44 => ⟨S4x8192x1024, .f32⟩
  | 45 => ⟨S4x8192x1024, .f32⟩
  | 46 => ⟨S4x8192x1024, .f32⟩
  | 47 => ⟨S4x8192x1, .f32⟩
  | 48 => ⟨S1x1024x2816, .f32⟩
  | 49 => ⟨S1024x2816, .f32⟩
  | 50 => ⟨S1x1024x2816, .f32⟩
  | 51 => ⟨S1024x2816, .f32⟩
  | 52 => ⟨S1x2816x1024, .f32⟩
  | 53 => ⟨S2816x1024, .f32⟩
  | 54 => ⟨S4x8192x2816, .f32⟩
  | 55 => ⟨S4x8192x2816, .f32⟩
  | 56 => ⟨S4x8192x2816, .f32⟩
  | 57 => ⟨S_, .f32⟩
  | 58 => ⟨S4x8192x2816, .f32⟩
  | 59 => ⟨S4x8192x2816, .f32⟩
  | 60 => ⟨S_, .f32⟩
  | 61 => ⟨S4x8192x2816, .f32⟩
  | 62 => ⟨S4x8192x2816, .f32⟩
  | 63 => ⟨S4x8192x2816, .f32⟩
  | 64 => ⟨S4x8192x2816, .f32⟩
  | 65 => ⟨S4x8192x2816, .f32⟩
  | 66 => ⟨S4x8192x1024, .f32⟩
  | 67 => ⟨S4x8192x1024, .f32⟩
  | 68 => ⟨S4x8192x1024, .f32⟩
  | 69 => ⟨S4x8192x1024, .f32⟩
  | 70 => ⟨S4x8192x1, .f32⟩
  | 71 => ⟨S1x1024x2816, .f32⟩
  | 72 => ⟨S1024x2816, .f32⟩
  | 73 => ⟨S1x1024x2816, .f32⟩
  | 74 => ⟨S1024x2816, .f32⟩
  | 75 => ⟨S1x2816x1024, .f32⟩
  | 76 => ⟨S2816x1024, .f32⟩
  | 77 => ⟨S4x8192x2816, .f32⟩
  | 78 => ⟨S4x8192x2816, .f32⟩
  | 79 => ⟨S4x8192x2816, .f32⟩
  | 80 => ⟨S_, .f32⟩
  | 81 => ⟨S4x8192x2816, .f32⟩
  | 82 => ⟨S4x8192x2816, .f32⟩
  | 83 => ⟨S_, .f32⟩
  | 84 => ⟨S4x8192x2816, .f32⟩
  | 85 => ⟨S4x8192x2816, .f32⟩
  | 86 => ⟨S4x8192x2816, .f32⟩
  | 87 => ⟨S4x8192x2816, .f32⟩
  | 88 => ⟨S4x8192x2816, .f32⟩
  | 89 => ⟨S4x8192x1024, .f32⟩
  | 90 => ⟨S4x8192x1024, .f32⟩
  | 91 => ⟨S4x8192x1024, .f32⟩
  | 92 => ⟨S4x8192x1024, .f32⟩
  | 93 => ⟨S4x8192x1, .f32⟩
  | 94 => ⟨S1x1024x2816, .f32⟩
  | 95 => ⟨S1024x2816, .f32⟩
  | 96 => ⟨S1x1024x2816, .f32⟩
  | 97 => ⟨S1024x2816, .f32⟩
  | 98 => ⟨S1x2816x1024, .f32⟩
  | 99 => ⟨S2816x1024, .f32⟩
  | 100 => ⟨S4x8192x2816, .f32⟩
  | 101 => ⟨S4x8192x2816, .f32⟩
  | 102 => ⟨S4x8192x2816, .f32⟩
  | 103 => ⟨S_, .f32⟩
  | 104 => ⟨S4x8192x2816, .f32⟩
  | 105 => ⟨S4x8192x2816, .f32⟩
  | 106 => ⟨S_, .f32⟩
  | 107 => ⟨S4x8192x2816, .f32⟩
  | 108 => ⟨S4x8192x2816, .f32⟩
  | 109 => ⟨S4x8192x2816, .f32⟩
  | 110 => ⟨S4x8192x2816, .f32⟩
  | 111 => ⟨S4x8192x2816, .f32⟩
  | 112 => ⟨S4x8192x1024, .f32⟩
  | 113 => ⟨S4x8192x1024, .f32⟩
  | 114 => ⟨S4x8192x1024, .f32⟩
  | 115 => ⟨S4x8192x1024, .f32⟩
  | 116 => ⟨S4x8192x1, .f32⟩
  | 117 => ⟨S1x1024x2816, .f32⟩
  | 118 => ⟨S1024x2816, .f32⟩
  | 119 => ⟨S1x1024x2816, .f32⟩
  | 120 => ⟨S1024x2816, .f32⟩
  | 121 => ⟨S1x2816x1024, .f32⟩
  | 122 => ⟨S2816x1024, .f32⟩
  | 123 => ⟨S4x8192x2816, .f32⟩
  | 124 => ⟨S4x8192x2816, .f32⟩
  | 125 => ⟨S4x8192x2816, .f32⟩
  | 126 => ⟨S_, .f32⟩
  | 127 => ⟨S4x8192x2816, .f32⟩
  | _ => ⟨S4x8192x1024, .bf16⟩

abbrev hbmTy0_1 (i : Nat) : BufTy := match i % 128 with
  | 0 => ⟨S4x8192x2816, .f32⟩
  | 1 => ⟨S_, .f32⟩
  | 2 => ⟨S4x8192x2816, .f32⟩
  | 3 => ⟨S4x8192x2816, .f32⟩
  | 4 => ⟨S4x8192x2816, .f32⟩
  | 5 => ⟨S4x8192x2816, .f32⟩
  | 6 => ⟨S4x8192x2816, .f32⟩
  | 7 => ⟨S4x8192x1024, .f32⟩
  | 8 => ⟨S4x8192x1024, .f32⟩
  | 9 => ⟨S4x8192x1024, .f32⟩
  | 10 => ⟨S4x8192x1024, .f32⟩
  | 11 => ⟨S4x8192x1, .f32⟩
  | 12 => ⟨S1x1024x2816, .f32⟩
  | 13 => ⟨S1024x2816, .f32⟩
  | 14 => ⟨S1x1024x2816, .f32⟩
  | 15 => ⟨S1024x2816, .f32⟩
  | 16 => ⟨S1x2816x1024, .f32⟩
  | 17 => ⟨S2816x1024, .f32⟩
  | 18 => ⟨S4x8192x2816, .f32⟩
  | 19 => ⟨S4x8192x2816, .f32⟩
  | 20 => ⟨S4x8192x2816, .f32⟩
  | 21 => ⟨S_, .f32⟩
  | 22 => ⟨S4x8192x2816, .f32⟩
  | 23 => ⟨S4x8192x2816, .f32⟩
  | 24 => ⟨S_, .f32⟩
  | 25 => ⟨S4x8192x2816, .f32⟩
  | 26 => ⟨S4x8192x2816, .f32⟩
  | 27 => ⟨S4x8192x2816, .f32⟩
  | 28 => ⟨S4x8192x2816, .f32⟩
  | 29 => ⟨S4x8192x2816, .f32⟩
  | 30 => ⟨S4x8192x1024, .f32⟩
  | 31 => ⟨S4x8192x1024, .f32⟩
  | 32 => ⟨S4x8192x1024, .f32⟩
  | 33 => ⟨S4x8192x1024, .f32⟩
  | 34 => ⟨S4x8192x1, .f32⟩
  | 35 => ⟨S1x1024x2816, .f32⟩
  | 36 => ⟨S1024x2816, .f32⟩
  | 37 => ⟨S1x1024x2816, .f32⟩
  | 38 => ⟨S1024x2816, .f32⟩
  | 39 => ⟨S1x2816x1024, .f32⟩
  | 40 => ⟨S2816x1024, .f32⟩
  | 41 => ⟨S4x8192x2816, .f32⟩
  | 42 => ⟨S4x8192x2816, .f32⟩
  | 43 => ⟨S4x8192x2816, .f32⟩
  | 44 => ⟨S_, .f32⟩
  | 45 => ⟨S4x8192x2816, .f32⟩
  | 46 => ⟨S4x8192x2816, .f32⟩
  | 47 => ⟨S_, .f32⟩
  | 48 => ⟨S4x8192x2816, .f32⟩
  | 49 => ⟨S4x8192x2816, .f32⟩
  | 50 => ⟨S4x8192x2816, .f32⟩
  | 51 => ⟨S4x8192x2816, .f32⟩
  | 52 => ⟨S4x8192x2816, .f32⟩
  | 53 => ⟨S4x8192x1024, .f32⟩
  | 54 => ⟨S4x8192x1024, .f32⟩
  | 55 => ⟨S4x8192x1024, .f32⟩
  | 56 => ⟨S4x8192x1024, .f32⟩
  | 57 => ⟨S4x8192x1, .f32⟩
  | 58 => ⟨S1x1024x2816, .f32⟩
  | 59 => ⟨S1024x2816, .f32⟩
  | 60 => ⟨S1x1024x2816, .f32⟩
  | 61 => ⟨S1024x2816, .f32⟩
  | 62 => ⟨S1x2816x1024, .f32⟩
  | 63 => ⟨S2816x1024, .f32⟩
  | 64 => ⟨S4x8192x2816, .f32⟩
  | 65 => ⟨S4x8192x2816, .f32⟩
  | 66 => ⟨S4x8192x2816, .f32⟩
  | 67 => ⟨S_, .f32⟩
  | 68 => ⟨S4x8192x2816, .f32⟩
  | 69 => ⟨S4x8192x2816, .f32⟩
  | 70 => ⟨S_, .f32⟩
  | 71 => ⟨S4x8192x2816, .f32⟩
  | 72 => ⟨S4x8192x2816, .f32⟩
  | 73 => ⟨S4x8192x2816, .f32⟩
  | 74 => ⟨S4x8192x2816, .f32⟩
  | 75 => ⟨S4x8192x2816, .f32⟩
  | 76 => ⟨S4x8192x1024, .f32⟩
  | 77 => ⟨S4x8192x1024, .f32⟩
  | 78 => ⟨S4x8192x1024, .f32⟩
  | 79 => ⟨S4x8192x1024, .f32⟩
  | 80 => ⟨S4x1x1024, .f32⟩
  | 81 => ⟨S4x8192x1024, .f32⟩
  | 82 => ⟨S4x8192x1024, .f32⟩
  | 83 => ⟨S4x8192x1024, .f32⟩
  | _ => ⟨S4x8192x1024, .bf16⟩

abbrev hbmTy (i : Nat) : BufTy := match i / 128 with
  | 0 => hbmTy0_0 i
  | 1 => hbmTy0_1 i
  | _ => ⟨S4x8192x1024, .bf16⟩

abbrev bufTy : (tb : Table) → Fin (tcTables nBuf tb) → BufTy
  | .hbm, ⟨i, _⟩ => hbmTy i
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call2_v0 : Ref sig .tc := ⟨.hbm, 55, rfl⟩
abbrev main_call2_v1 : Ref sig .tc := ⟨.hbm, 56, rfl⟩
abbrev main_call2_cst : Ref sig .tc := ⟨.hbm, 57, rfl⟩
abbrev main_call2_v2 : Ref sig .tc := ⟨.hbm, 58, rfl⟩
abbrev main_call2_v3 : Ref sig .tc := ⟨.hbm, 59, rfl⟩
abbrev main_call2_cst_0 : Ref sig .tc := ⟨.hbm, 60, rfl⟩
abbrev main_call2_v4 : Ref sig .tc := ⟨.hbm, 61, rfl⟩
abbrev main_call2_v5 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_call3_v0 : Ref sig .tc := ⟨.hbm, 78, rfl⟩
abbrev main_call3_v1 : Ref sig .tc := ⟨.hbm, 79, rfl⟩
abbrev main_call3_cst : Ref sig .tc := ⟨.hbm, 80, rfl⟩
abbrev main_call3_v2 : Ref sig .tc := ⟨.hbm, 81, rfl⟩
abbrev main_call3_v3 : Ref sig .tc := ⟨.hbm, 82, rfl⟩
abbrev main_call3_cst_0 : Ref sig .tc := ⟨.hbm, 83, rfl⟩
abbrev main_call3_v4 : Ref sig .tc := ⟨.hbm, 84, rfl⟩
abbrev main_call3_v5 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_call4_v0 : Ref sig .tc := ⟨.hbm, 101, rfl⟩
abbrev main_call4_v1 : Ref sig .tc := ⟨.hbm, 102, rfl⟩
abbrev main_call4_cst : Ref sig .tc := ⟨.hbm, 103, rfl⟩
abbrev main_call4_v2 : Ref sig .tc := ⟨.hbm, 104, rfl⟩
abbrev main_call4_v3 : Ref sig .tc := ⟨.hbm, 105, rfl⟩
abbrev main_call4_cst_0 : Ref sig .tc := ⟨.hbm, 106, rfl⟩
abbrev main_call4_v4 : Ref sig .tc := ⟨.hbm, 107, rfl⟩
abbrev main_call4_v5 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_call5_v0 : Ref sig .tc := ⟨.hbm, 124, rfl⟩
abbrev main_call5_v1 : Ref sig .tc := ⟨.hbm, 125, rfl⟩
abbrev main_call5_cst : Ref sig .tc := ⟨.hbm, 126, rfl⟩
abbrev main_call5_v2 : Ref sig .tc := ⟨.hbm, 127, rfl⟩
abbrev main_call5_v3 : Ref sig .tc := ⟨.hbm, 128, rfl⟩
abbrev main_call5_cst_0 : Ref sig .tc := ⟨.hbm, 129, rfl⟩
abbrev main_call5_v4 : Ref sig .tc := ⟨.hbm, 130, rfl⟩
abbrev main_call5_v5 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_call6_v0 : Ref sig .tc := ⟨.hbm, 147, rfl⟩
abbrev main_call6_v1 : Ref sig .tc := ⟨.hbm, 148, rfl⟩
abbrev main_call6_cst : Ref sig .tc := ⟨.hbm, 149, rfl⟩
abbrev main_call6_v2 : Ref sig .tc := ⟨.hbm, 150, rfl⟩
abbrev main_call6_v3 : Ref sig .tc := ⟨.hbm, 151, rfl⟩
abbrev main_call6_cst_0 : Ref sig .tc := ⟨.hbm, 152, rfl⟩
abbrev main_call6_v4 : Ref sig .tc := ⟨.hbm, 153, rfl⟩
abbrev main_call6_v5 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_call7_v0 : Ref sig .tc := ⟨.hbm, 170, rfl⟩
abbrev main_call7_v1 : Ref sig .tc := ⟨.hbm, 171, rfl⟩
abbrev main_call7_cst : Ref sig .tc := ⟨.hbm, 172, rfl⟩
abbrev main_call7_v2 : Ref sig .tc := ⟨.hbm, 173, rfl⟩
abbrev main_call7_v3 : Ref sig .tc := ⟨.hbm, 174, rfl⟩
abbrev main_call7_cst_0 : Ref sig .tc := ⟨.hbm, 175, rfl⟩
abbrev main_call7_v4 : Ref sig .tc := ⟨.hbm, 176, rfl⟩
abbrev main_call7_v5 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_call8_v0 : Ref sig .tc := ⟨.hbm, 193, rfl⟩
abbrev main_call8_v1 : Ref sig .tc := ⟨.hbm, 194, rfl⟩
abbrev main_call8_cst : Ref sig .tc := ⟨.hbm, 195, rfl⟩
abbrev main_call8_v2 : Ref sig .tc := ⟨.hbm, 196, rfl⟩
abbrev main_call8_v3 : Ref sig .tc := ⟨.hbm, 197, rfl⟩
abbrev main_call8_cst_0 : Ref sig .tc := ⟨.hbm, 198, rfl⟩
abbrev main_call8_v4 : Ref sig .tc := ⟨.hbm, 199, rfl⟩
abbrev main_call8_v5 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.VecWindow

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- The second test is the negation of the first: a tile is stored by exactly one of the two branches. -/
theorem cond2_iff (w : BitVec 32) : k0_cond2 w = 1#1 ↔ ¬ k0_cond1 w = 1#1 := by
  unfold k0_cond1 k0_cond2
  dsimp only
  generalize Scalar.cmpi .sgt w 0#32 = b
  revert b
  decide

/-- The word of the second table that the body reads at a grid point. -/
def validWord (v : Vec F S72 .i32) (i : grid0.Coords) : BitVec 32 :=
  v ((Rect.unit (s := S72) (k0_off1 i) S1.size (k0_off1_inb i)).emb (Shape.Idx.first (numel1_S1.symm ▸ Nat.one_pos)))

/-- One tile's expert layer as the body computes it: the four chunks of the hidden axis, one after another. -/
def tileFF (x0 : Vec F S512x1024 .bf16) (x1 : Vec F S1x1024x2816 .bf16) (x2 : Vec F S1x1024x2816 .bf16) (x3 : Vec F S1x2816x1024 .bf16) : Vec F S512x1024 .bf16 :=
  k0_pay1 (k0_pay3 x0)
    (k0_pay4 x0
      (VecWindow.window x1 ![0, 0, 0] S1x1024x768.size inb_S1x1024x2816_S1x1024x768_0_0_0)
      (VecWindow.window x2 ![0, 0, 0] S1x1024x768.size inb_S1x1024x2816_S1x1024x768_0_0_0)
      (VecWindow.window x3 ![0, 0, 0] S1x768x1024.size inb_S1x2816x1024_S1x768x1024_0_0_0)
      (VecWindow.window x1 ![0, 0, 768] S1x1024x768.size inb_S1x1024x2816_S1x1024x768_0_0_768)
      (VecWindow.window x2 ![0, 0, 768] S1x1024x768.size inb_S1x1024x2816_S1x1024x768_0_0_768)
      (VecWindow.window x3 ![0, 768, 0] S1x768x1024.size inb_S1x2816x1024_S1x768x1024_0_768_0))
    (k0_pay5 (VecWindow.window x1 ![0, 0, 1536] S1x1024x768.size inb_S1x1024x2816_S1x1024x768_0_0_1536))
    (VecWindow.window x2 ![0, 0, 1536] S1x1024x768.size inb_S1x1024x2816_S1x1024x768_0_0_1536)
    (VecWindow.window x3 ![0, 1536, 0] S1x768x1024.size inb_S1x2816x1024_S1x768x1024_0_1536_0)
    (VecWindow.window x1 ![0, 0, 2304] S1x1024x512.size inb_S1x1024x2816_S1x1024x512_0_0_2304)
    (VecWindow.window x2 ![0, 0, 2304] S1x1024x512.size inb_S1x1024x2816_S1x1024x512_0_0_2304)
    (VecWindow.window x3 ![0, 2304, 0] S1x512x1024.size inb_S1x2816x1024_S1x512x1024_0_2304_0)

open Classical in
/-- What a tile's output block holds after the body: the expert layer where the tile's word is positive, else zero. -/
def tileOut (w : BitVec 32) (x0 : Vec F S512x1024 .bf16) (x1 : Vec F S1x1024x2816 .bf16) (x2 : Vec F S1x1024x2816 .bf16) (x3 : Vec F S1x2816x1024 .bf16) : Vec F S512x1024 .bf16 :=
  if k0_cond1 w = 1#1 then tileFF x0 x1 x2 x3 else k0_pay2

set_option maxHeartbeats 2000000 in
/-- The body on whole staging buffers: the inputs and both tables come back as they were, and the output's buffer holds
    `tileOut` of the tile's word and the four input blocks. -/
theorem body_run (c : Dev nD) (i : grid0.Coords) (te : Memref sig .tc .smem S72 .i32) (hte : te.IsWhole) (tv : Memref sig .tc .smem S72 .i32) (htv : tv.IsWhole) (arg3 : Memref sig .tc .vmem S512x1024 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .bf16) (harg7 : arg7.IsWhole)
    (x0 : Vec F S512x1024 .bf16) (x1 : Vec F S1x1024x2816 .bf16) (x2 : Vec F S1x1024x2816 .bf16) (x3 : Vec F S1x2816x1024 .bf16) (xt0 : Vec F S72 .i32) (xt1 : Vec F S72 .i32)
    (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) te fullShare xt0 ∗ owns (c : Thread nD τ) tv fullShare xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (tileOut (validWord xt1 i) x0 x1 x2 x3) ∗ owns (c : Thread nD τ) te fullShare xt0 ∗ owns (c : Thread nD τ) tv fullShare xt1) -∗ K ⟨⟩))
      ⊢ wp frame (wpE (defs₀ (F := F)) Variants.none c none) E (cc0_moe_experts i te hte tv htv arg3 harg3 arg4 harg4 arg5 harg5 arg6 harg6 arg7 harg7) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%g0, %hg0, HT0⟩, ⟨%g1, %hg1, HT1⟩, Hk⟩
  obtain rfl := harg3.eq_unread hf0; obtain rfl := harg4.eq_unread hf1; obtain rfl := harg5.eq_unread hf2; obtain rfl := harg6.eq_unread hf3; obtain rfl := hte.eq_unread hg0; obtain rfl := htv.eq_unread hg1
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    have hw : ∀ e, View.readAt (Elt F) tv.view (Rect.unit (s := S72) (k0_off1 i) S1.size (k0_off1_inb i)).toLoadRect (htv.unread xt1) (Shape.Idx.first e)
        = validWord xt1 i := fun _ => congrFun hg1 _
    by_cases h1 : k0_cond1 (validWord xt1 i) = 1#1
    · have h2 : ¬ k0_cond2 (validWord xt1 i) = 1#1 := fun h => (cond2_iff _).1 h h1
      rw [← hw (numel1_S1.symm ▸ Nat.one_pos)] at h1 h2
      refine (congrArg (arg7.view.read (Elt F)) (dif_neg ?_)).trans ?_
      · exact h2
      refine (congrArg (arg7.view.read (Elt F)) (dif_pos ?_)).trans ?_
      · exact h1
      refine (View.read_writes_full _ _ _ _ _).trans ?_
      rw [hw] at h1
      rw [View.readAt_full, hf0]
      conv_rhs => unfold tileOut; rw [if_pos h1]; unfold tileFF; rw [← hf1, ← hf2, ← hf3]
      rfl
    · have h2 : k0_cond2 (validWord xt1 i) = 1#1 := (cond2_iff _).2 h1
      rw [← hw (numel1_S1.symm ▸ Nat.one_pos)] at h2
      refine (congrArg (arg7.view.read (Elt F)) (dif_pos ?_)).trans ?_
      · exact h2
      refine (View.read_writes_full _ _ _ _ _).trans ?_
      conv_rhs => unfold tileOut; rw [if_neg h1]
  isplitl [HT0]
  · iexists _; isplitr; · ipureintro; exact hg0
    iexact HT0
  iexists _; isplitr; · ipureintro; exact hg1
  iexact HT1

/-- The second experts call's body is the first's. -/
theorem second_body : cc1_moe_experts (F := F) = cc0_moe_experts (F := F) := rfl

end Cert.KernelIdeal.Experts
end
-- ==== Proof.First.lean ====
module

public import proofs.«01_k».proof.Proof.Body
public import proofs.«01_k».proof.Proof.Gen.KernelIdeal.Regions
public import Idealize.ShloMosaic.Lib.Pipeline.RegionArraysTS

@[expose] public section

set_option maxRecDepth 16384

noncomputable section

namespace Cert.KernelIdeal.First

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Experts

variable {F : FTy → Type} [FloatOps F]

variable (W : Dev nD → Valuation τ sig (Elt F))

/-! ## The pipeline at the tables found at the call -/

/-- The contents of core `c`'s buffers at the call. -/
abbrev V (c : Dev nD) (b : Ref sig .tc) : Buf (Elt F) ((c : Thread nD τ).loc b) := W c (Proc.devRef .tc b)

abbrev te : Memref sig .tc .smem S72 .i32 := Memref.whole main_v42
abbrev tv : Memref sig .tc .smem S72 .i32 := Memref.whole main_v40

/-- Both tables' contents at the call. -/
def tabs : pre0.Contents (Elt F) := fun j => V W (0 : Dev nD) (pre0.ref j)

theorem tabs_eq (c : Dev nD) (j : Fin 2) : tabs W j = V W c (pre0.ref j) := by
  obtain rfl : c = 0 := Subsingleton.elim _ _
  rfl

/-- The tables keep every weight block inside its array. -/
abbrev TabsOk : Prop := ok0 (F := F) (tabs W)

abbrev admT (h : TabsOk W) : (pcfg0 (F := F)).Adm := ⟨tabs W, h⟩
abbrev cfgT (h : TabsOk W) : Cfg sig Λ₀ := cfg0 (admT W h)

/-- Every tile is stored, whatever its word: the output window is idle nowhere. -/
theorem out_never_idle (pf : pre0.Contents (Elt F)) (i : grid0.Coords) : idle0 pf 4 i = false := by
  show (!(k0_cond1 (pf.atD 1 (k0_off1 i)) == 1#1) && !(k0_cond2 (pf.atD 1 (k0_off1 i)) == 1#1)) = false
  by_cases h : k0_cond1 (pf.atD 1 (k0_off1 i)) = 1#1
  · rw [beq_iff_eq.2 h]; rfl
  · rw [beq_iff_eq.2 ((cond2_iff _).2 h)]; simp

/-! ## Blocks and what the body leaves -/

/-- Window `w`'s block at point `t`, off its array at the call. -/
def blk (h : TabsOk W) (c : Dev nD) (w : Fin (cfgT W h).W) (t : Fin (cfgT W h).N) :
    (((cfgT W h).win w).xblock ((cfgT W h).grid.coords t)).Idx → Elt F ((cfgT W h).win w).elt :=
  (((cfgT W h).win w).blk t).view.read (Elt F) (V W c (Pipeline.arrRef spec0 w))

/-- The output block after the body at point `t`. -/
def outBlk (h : TabsOk W) (c : Dev nD) (t : Fin (cfgT W h).N) : Vec F S512x1024 .bf16 :=
  tileOut (validWord (tabs W 1) (grid0.coords t)) (blk W h c 0 t) (blk W h c 1 t) (blk W h c 2 t) (blk W h c 3 t)

/-- The pipeline's proof data: arrays as at the call, each input's buffer left at its block, the output's at `outBlk`. -/
def data (h : TabsOk W) (c : Dev nD) : Dat τ (Elt F) Unit ℕ (UR sig nD τ) ℕ (cfgT W h) c where
  A w := V W c (Pipeline.arrRef spec0 w)
  after w t := match w with
    | ⟨0, _⟩ => blk W h c 0 t
    | ⟨1, _⟩ => blk W h c 1 t
    | ⟨2, _⟩ => blk W h c 2 t
    | ⟨3, _⟩ => blk W h c 3 t
    | ⟨4, _⟩ => outBlk W h c t
  Φ _ := iprop(Pipeline.scopedRest spec0 c ∗ Pipeline.prefHeld pre0 c (fun _ => fullShare) (tabs W))
  q _ := fullShare
  owed _ := 0

theorem data_A (h : TabsOk W) (c : Dev nD) (w : Fin (cfgT W h).W) : (data W h c).A w = V W c (Pipeline.arrRef spec0 w) := by
  dsimp only [data]

theorem after_0 (h : TabsOk W) (c : Dev nD) (t : Fin (cfgT W h).N) : (data W h c).after 0 t = blk W h c 0 t := rfl
theorem after_1 (h : TabsOk W) (c : Dev nD) (t : Fin (cfgT W h).N) : (data W h c).after 1 t = blk W h c 1 t := rfl
theorem after_2 (h : TabsOk W) (c : Dev nD) (t : Fin (cfgT W h).N) : (data W h c).after 2 t = blk W h c 2 t := rfl
theorem after_3 (h : TabsOk W) (c : Dev nD) (t : Fin (cfgT W h).N) : (data W h c).after 3 t = blk W h c 3 t := rfl
theorem after_4 (h : TabsOk W) (c : Dev nD) (t : Fin (cfgT W h).N) : (data W h c).after 4 t = outBlk W h c t := rfl

theorem before_0 (h : TabsOk W) (c : Dev nD) (t : Fin (cfgT W h).N) (d) : (data W h c).before 0 t d = blk W h c 0 t :=
  ((data W h c).before_in_eq_fetched 0 rfl (fun _ => rfl) (fun _ _ _ => rfl) (fun t => by rw [after_0]; unfold Dat.blockOf blk; rw [data_A]; try rfl) t d).trans
    (by unfold Dat.fetched Dat.blockOf blk; rw [data_A]; try rfl)
theorem before_1 (h : TabsOk W) (c : Dev nD) (t : Fin (cfgT W h).N) (d) : (data W h c).before 1 t d = blk W h c 1 t :=
  ((data W h c).before_in_eq_fetched 1 rfl (fun _ => rfl) (fun _ _ _ => rfl) (fun t => by rw [after_1]; unfold Dat.blockOf blk; rw [data_A]; try rfl) t d).trans
    (by unfold Dat.fetched Dat.blockOf blk; rw [data_A]; try rfl)
theorem before_2 (h : TabsOk W) (c : Dev nD) (t : Fin (cfgT W h).N) (d) : (data W h c).before 2 t d = blk W h c 2 t :=
  ((data W h c).before_in_eq_fetched 2 rfl (fun _ => rfl) (fun _ _ _ => rfl) (fun t => by rw [after_2]; unfold Dat.blockOf blk; rw [data_A]; try rfl) t d).trans
    (by unfold Dat.fetched Dat.blockOf blk; rw [data_A]; try rfl)
theorem before_3 (h : TabsOk W) (c : Dev nD) (t : Fin (cfgT W h).N) (d) : (data W h c).before 3 t d = blk W h c 3 t :=
  ((data W h c).before_in_eq_fetched 3 rfl (fun _ => rfl) (fun _ _ _ => rfl) (fun t => by rw [after_3]; unfold Dat.blockOf blk; rw [data_A]; try rfl) t d).trans
    (by unfold Dat.fetched Dat.blockOf blk; rw [data_A]; try rfl)

/-- The two tables, one by one. -/
theorem tables_split (c : Dev nD) : (Pipeline.prefHeld pre0 c (fun _ => fullShare) (tabs W) : sProp (MT nD τ sig Unit (Elt F) ℕ (UR sig nD τ) ℕ))
    = iprop(owns (c : Thread nD τ) te fullShare (tabs W 0) ∗ owns (c : Thread nD τ) tv fullShare (tabs W 1)) := by
  unfold Pipeline.prefHeld
  rw [show (Finset.univ : Finset (Fin 2)) = insert (0 : Fin 2) {(1 : Fin 2)} from by decide,
    bigSep_insert (by decide), bigSep_singleton]
  exact congrArg₂ BI.sep (owns_whole _ _ _ _).symm (owns_whole _ _ _ _).symm

/-! ## The body obligation -/

abbrev mem0 (h : TabsOk W) (t : Fin (cfgT W h).N) : Memref sig .tc .vmem S512x1024 .bf16 := spec0_0.stage ((cfgT W h).slots t 0)
abbrev mem1 (h : TabsOk W) (t : Fin (cfgT W h).N) : Memref sig .tc .vmem S1x1024x2816 .bf16 := spec0_1.stage ((cfgT W h).slots t 1)
abbrev mem2 (h : TabsOk W) (t : Fin (cfgT W h).N) : Memref sig .tc .vmem S1x1024x2816 .bf16 := spec0_2.stage ((cfgT W h).slots t 2)
abbrev mem3 (h : TabsOk W) (t : Fin (cfgT W h).N) : Memref sig .tc .vmem S1x2816x1024 .bf16 := spec0_3.stage ((cfgT W h).slots t 3)
abbrev mem4 (h : TabsOk W) (t : Fin (cfgT W h).N) : Memref sig .tc .vmem S512x1024 .bf16 := spec0_4.stage ((cfgT W h).slots t 4)

/-- The body as the pipeline calls it at point `t`. -/
abbrev bodyAt (h : TabsOk W) (t : Fin (cfgT W h).N) : Prog (TpuEff nD τ sig (Elt F) Λ₀ .tc) PUnit :=
  cc0_moe_experts (grid0.coords t) te (Memref.isWhole_whole _) tv (Memref.isWhole_whole _)
    (mem0 W h t) (hstage0_0 (((cfgT W h).slots t 0).cast nbuf0_0)) (mem1 W h t) (hstage0_1 (((cfgT W h).slots t 1).cast nbuf0_1))
    (mem2 W h t) (hstage0_2 (((cfgT W h).slots t 2).cast nbuf0_2)) (mem3 W h t) (hstage0_3 (((cfgT W h).slots t 3).cast nbuf0_3))
    (mem4 W h t) (hstage0_4 (((cfgT W h).slots t 4).cast nbuf0_4))

theorem body_sound (h : TabsOk W) (c : Dev nD) (t : Fin (cfgT W h).N) :
    iprop((data W h c).Φ t.castSucc ∗ (data W h c).owesAt () t.castSucc
        ∗ (∃ d, owns (c : Thread nD τ) (mem0 W h t) fullShare ((data W h c).before 0 t d))
        ∗ (∃ d, owns (c : Thread nD τ) (mem1 W h t) fullShare ((data W h c).before 1 t d))
        ∗ (∃ d, owns (c : Thread nD τ) (mem2 W h t) fullShare ((data W h c).before 2 t d))
        ∗ (∃ d, owns (c : Thread nD τ) (mem3 W h t) fullShare ((data W h c).before 3 t d))
        ∗ (∃ d, owns (c : Thread nD τ) (mem4 W h t) fullShare ((data W h c).before 4 t d)))
      ⊢ wp frame (wpE (defs₀ (F := F)) Variants.none c none) Set.univ (bodyAt W h t) (fun _ =>
          iprop((data W h c).Φ t.succ ∗ (data W h c).owesAt () t.succ
            ∗ owns (c : Thread nD τ) (mem0 W h t) fullShare ((data W h c).after 0 t)
            ∗ owns (c : Thread nD τ) (mem1 W h t) fullShare ((data W h c).after 1 t)
            ∗ owns (c : Thread nD τ) (mem2 W h t) fullShare ((data W h c).after 2 t)
            ∗ owns (c : Thread nD τ) (mem3 W h t) fullShare ((data W h c).after 3 t)
            ∗ owns (c : Thread nD τ) (mem4 W h t) fullShare ((data W h c).after 4 t))) := by
  simp only [before_0, before_1, before_2, before_3]
  rw [show (data W h c).Φ t.succ = (data W h c).Φ t.castSucc from rfl,
    show (data W h c).owesAt () t.succ = (data W h c).owesAt () t.castSucc from rfl,
    after_0, after_1, after_2, after_3, after_4,
    show (data W h c).Φ t.castSucc = iprop(Pipeline.scopedRest spec0 c ∗ Pipeline.prefHeld pre0 c (fun _ => fullShare) (tabs W)) from rfl, tables_split]
  unfold outBlk
  iintro ⟨⟨HΦ, ⟨HT0, HT1⟩⟩, Ho, ⟨%d0, H0⟩, ⟨%d1, H1⟩, ⟨%d2, H2⟩, ⟨%d3, H3⟩, ⟨%d4, H4⟩⟩
  iapply body_run c (grid0.coords t) te (Memref.isWhole_whole _) tv (Memref.isWhole_whole _) _ _ _ _ _ _ _ _ _ _ (blk W h c 0 t) (blk W h c 1 t) (blk W h c 2 t) (blk W h c 3 t) (tabs W 0) (tabs W 1) Set.univ _
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem body_row (h : TabsOk W) (t : Fin (cfgT W h).N) :
    defs₀ (F := F) .tc (cfgT W h).body ((cfgT W h).bodyArgs t ((cfgT W h).slots t)) = bodyAt W h t := by
  unfold defs₀; rw [Defs.onTc_tc]

theorem body_obl (h : TabsOk W) (c : Dev nD) : BodyObligation (data (F := F) W h c) (defs₀ (F := F)) Variants.none () Set.univ := fun t => by
  have i4 : (cfgT W h).idle (4 : Fin 5) ((cfgT W h).grid.coords t) = false := out_never_idle _ _
  rw [bigSep_W0, bigSep_W0, body_row W h]
  rewrite [i4]
  exact triple_restated (body_sound W h c t) rfl .rfl fun _ => .rfl

/-- What the call's output array holds after it. -/
def outArr (h : TabsOk W) (c : Dev nD) : S36864x1024.Idx → Elt F .bf16 := (data W h c).arrAt 4 (cfgT W h).N

end Cert.KernelIdeal.First
end
-- ==== Proof.Swiglu.lean ====
module

public import Idealize.ShloMosaic.PureOps
public import Idealize.ShloMosaic.Lib.Pointwise

@[expose] public section

noncomputable section

namespace Cert.Moe

open Idealize.ShloMosaic

/-- A hidden unit of the gated layer: `silu (h·w1) * (h·w3)`, with `silu a = a * logistic a`. -/
def hidden (h : Fin 1024 → EReal) (w1 w3 : Fin 1024 → Fin 2816 → EReal) (k : Fin 2816) : EReal :=
  (∑ d, h d * w1 d k) * Ideal.logistic (∑ d, h d * w1 d k) * ∑ d, h d * w3 d k

/-- The gated layer `(silu (h @ w1) * (h @ w3)) @ w2` of one row, at one output coordinate. -/
def swiglu (h : Fin 1024 → EReal) (w1 w3 : Fin 1024 → Fin 2816 → EReal) (w2 : Fin 2816 → Fin 1024 → EReal) (j : Fin 1024) : EReal :=
  ∑ k, hidden h w1 w3 k * w2 k j

/-- A sum over the hidden axis is the sum of its parts over the four chunks 768, 768, 768, 512, added in order. -/
theorem sum_chunks (f : Fin 2816 → EReal) :
    ∑ k, f k = (∑ k : Fin 768, f ⟨k, by omega⟩) + (∑ k : Fin 768, f ⟨768 + k, by omega⟩)
      + (∑ k : Fin 768, f ⟨1536 + k, by omega⟩) + ∑ k : Fin 512, f ⟨2304 + k, by omega⟩ := by
  have e1 := Fin.sum_univ_add (a := 2304) (b := 512) f
  have e2 := Fin.sum_univ_add (a := 1536) (b := 768) fun k => f (Fin.castAdd 512 k)
  have e3 := Fin.sum_univ_add (a := 768) (b := 768) fun k => f (Fin.castAdd 512 (Fin.castAdd 768 k))
  rw [e2, e3] at e1
  exact e1

/-- The layer's sum over the experts: from zero, each expert's output times its gate, in order. -/
def gated (g s : Fin 8 → EReal) : EReal :=
  0 + g 0 * s 0 + g 1 * s 1 + g 2 * s 2 + g 3 * s 3 + g 4 * s 4 + g 5 * s 5 + g 6 * s 6 + g 7 * s 7

theorem gated_eq_sum (g s : Fin 8 → EReal) : gated g s = ∑ e, g e * s e := by
  rw [Fin.sum_univ_eight]; unfold gated; rw [zero_add]

end Cert.Moe
end
-- ==== Proof.Tile.lean ====
module

public import proofs.«01_k».proof.Proof.Body
public import proofs.«01_k».proof.Proof.Swiglu

@[expose] public section

set_option maxRecDepth 16384

noncomputable section

namespace Cert.KernelIdeal.Experts

open Idealize.ShloMosaic
open Cert.KernelIdeal.Gen

/-- Over the extended reals the body's four chunks of the hidden axis add up to the whole gated layer of each row. -/
theorem tileFF_apply (x0 : Vec Ideal S512x1024 .bf16) (x1 : Vec Ideal S1x1024x2816 .bf16) (x2 : Vec Ideal S1x1024x2816 .bf16) (x3 : Vec Ideal S1x2816x1024 .bf16)
    (r : Fin 512) (j : Fin 1024) : tileFF x0 x1 x2 x3 (ix2 r j)
      = Cert.Moe.swiglu (fun d => x0 (ix2 r d)) (fun d k => x1 (ix3 0 d k)) (fun d k => x2 (ix3 0 d k)) (fun k l => x3 (ix3 0 k l)) j := by
  unfold Cert.Moe.swiglu
  rw [Cert.Moe.sum_chunks]
  unfold tileFF Cert.Moe.hidden
  simp only [VecWindow.window_eq_ld]
  pointwise [k0_pay1, k0_pay3, k0_pay4, k0_pay5]

/-- The block stored where the tile's word is not positive is zero. -/
theorem pay2_apply (i : S512x1024.Idx) : (k0_pay2 (F := Ideal)) i = (0 : EReal) := by
  pointwise [k0_pay2]

/-- A grid point's coordinate is its number. -/
theorem coord_val (t : Fin grid0.N) : (grid0.coords t 0).val = t.val := by
  revert t; decide +kernel

/-- Every tile number is below 72. -/
theorem pt_lt (t : Fin grid0.N) : t.val < 72 := t.isLt

/-- A table's entry that the code reads at grid point `t` is entry `t`. -/
theorem read_tab {F : FTy → Type} (v : Vec F S72 .i32) (t : Fin grid0.N) : validWord v (grid0.coords t) = v (Idealize.ShloMosaic.ix1 ⟨t.val, pt_lt t⟩) := by
  unfold validWord
  congr 1
  funext a
  apply Fin.ext
  match a with
  | ⟨0, _⟩ =>
    have hc := coord_val t
    have ht := pt_lt t
    show (k0_off1 (grid0.coords t)) 0 + 1 * 0 = t.val
    unfold k0_off1
    show (BitVec.ofNat 32 (grid0.coords t 0).val).toNat + 1 * 0 = t.val
    rw [hc, BitVec.toNat_ofNat]; omega

/-- The test on a tile's word: it is positive, read signed. -/
theorem cond1_iff (w : BitVec 32) : k0_cond1 w = 1#1 ↔ 0 < w.toInt := by
  have e : k0_cond1 w = BitVec.ofBool (BitVec.slt 0#32 w) := by
    have key : ∀ b : Bool, Scalar.cmpi .ne (Scalar.extui (BitVec.ofBool b) : BitVec 32) 0#32 = BitVec.ofBool b := by decide
    exact key _
  rw [e]
  unfold BitVec.slt
  by_cases h : 0 < w.toInt <;> simp [h]

end Cert.KernelIdeal.Experts
end
-- ==== Proof.FirstValue.lean ====
module

public import proofs.«01_k».proof.Proof.First
public import proofs.«01_k».proof.Proof.Tile
public import Idealize.ShloMosaic.Lib.Pipeline.ValueKit
public import Idealize.ShloMosaic.Lib.Pipeline.Covers

@[expose] public section

set_option maxRecDepth 16384

noncomputable section

namespace Cert.KernelIdeal.First

open Idealize.ShloMosaic Idealize.ShloMosaic.TcCoe Idealize.ShloMosaic.Tactic
open Idealize.SL.Sem
open Idealize.ShloMosaic.Pipeline (Dat Cfg Window)
open Cert.KernelIdeal.Gen Cert.KernelIdeal.Experts

variable {F : FTy → Type} [FloatOps F]
variable (W : Dev nD → Valuation τ sig (Elt F))

/-- The expert number of tile `t`, off the first table, and its word, off the second. -/
def expert (t : Fin 72) : ℕ := (tabs W 0 (Idealize.ShloMosaic.ix1 t) : BitVec 32).toNat
def word (t : Fin 72) : BitVec 32 := tabs W 1 (Idealize.ShloMosaic.ix1 t)

theorem outBlk_eq (h : TabsOk W) (c : Dev nD) (t : Fin (cfgT W h).N) : outBlk W h c t
    = tileOut (word W ⟨t.val, pt_lt t⟩) (blk W h c 0 t) (blk W h c 1 t) (blk W h c 2 t) (blk W h c 3 t) :=
  congrArg (fun w => tileOut w (blk W h c 0 t) (blk W h c 1 t) (blk W h c 2 t) (blk W h c 3 t)) (read_tab (tabs W 1) t)

theorem index_0 (h : TabsOk W) (t : Fin (cfgT W h).N) : ((cfgT W h).win 0).index t = ![t.val, 0] := by
  have hc := coord_val t
  have ht := pt_lt t
  funext a
  match a with
  | ⟨0, _⟩ => show (BitVec.ofNat 32 (grid0.coords t 0).val).toNat = t.val; rw [hc, BitVec.toNat_ofNat]; omega
  | ⟨1, _⟩ => rfl
theorem index_4 (h : TabsOk W) (t : Fin (cfgT W h).N) : ((cfgT W h).win 4).index t = ![t.val, 0] := index_0 W h t

theorem index_1 (h : TabsOk W) (t : Fin (cfgT W h).N) : ((cfgT W h).win 1).index t = ![expert W ⟨t.val, pt_lt t⟩, 0, 0] := by
  funext a
  match a with
  | ⟨0, _⟩ => exact congrArg BitVec.toNat (read_tab (tabs W 0) t)
  | ⟨1, _⟩ => rfl
  | ⟨2, _⟩ => rfl
theorem index_2 (h : TabsOk W) (t : Fin (cfgT W h).N) : ((cfgT W h).win 2).index t = ![expert W ⟨t.val, pt_lt t⟩, 0, 0] := index_1 W h t
theorem index_3 (h : TabsOk W) (t : Fin (cfgT W h).N) : ((cfgT W h).win 3).index t = ![expert W ⟨t.val, pt_lt t⟩, 0, 0] := index_1 W h t

/-- An admissible table names one of the eight experts. -/
theorem expert_lt (h : TabsOk W) (t : Fin 72) : expert W t < 8 := by
  obtain ⟨hi, _⟩ := h.1 (grid0.coords t)
  have h0 := hi 0
  have e : cc0_transform_1 k0_off1_inb numel1_S1 (tabs W) (grid0.coords t) 0 = expert W t :=
    congrArg BitVec.toNat (read_tab (tabs W 0) t)
  rw [e] at h0
  have : (expert W t + 1) * 1 ≤ 8 := h0
  omega

/-- Tile `t`'s rows are rows `512 t + r` of the gathered tokens. -/
theorem blk_0 (h : TabsOk W) (c : Dev nD) (t : Fin (cfgT W h).N) (r : Fin 512) (d : Fin 1024) (hp : 512 * t.val + r.val < 36864) :
    blk W h c 0 t (ix2 r d) = V W c main_v75 (ix2 ⟨512 * t.val + r.val, hp⟩ d) := by
  unfold blk
  blk_ext [V, index_0 W h t]
/-- Tile `t`'s weights are its expert's. -/
theorem blk_1 (h : TabsOk W) (c : Dev nD) (t : Fin (cfgT W h).N) (d : Fin 1024) (k : Fin 2816) :
    blk W h c 1 t (ix3 0 d k) = V W c main_v0 (ix3 ⟨expert W ⟨t.val, pt_lt t⟩, expert_lt W h _⟩ d k) := by
  unfold blk
  blk_ext [V, index_1 W h t]
theorem blk_2 (h : TabsOk W) (c : Dev nD) (t : Fin (cfgT W h).N) (d : Fin 1024) (k : Fin 2816) :
    blk W h c 2 t (ix3 0 d k) = V W c main_v1 (ix3 ⟨expert W ⟨t.val, pt_lt t⟩, expert_lt W h _⟩ d k) := by
  unfold blk
  blk_ext [V, index_2 W h t]
theorem blk_3 (h : TabsOk W) (c : Dev nD) (t : Fin (cfgT W h).N) (k : Fin 2816) (j : Fin 1024) :
    blk W h c 3 t (ix3 0 k j) = V W c main_v2 (ix3 ⟨expert W ⟨t.val, pt_lt t⟩, expert_lt W h _⟩ k j) := by
  unfold blk
  blk_ext [V, index_3 W h t]

theorem out_covers (h : TabsOk W) : ((cfgT W h).win 4).Covers :=
  ((cfgT W h).win 4).covers_of_indexMap_surj rfl (by decide : ∀ a : Fin 2, 0 < S512x1024.size a) fun β => by
    have n0 : ((cfgT W h).win 4).nblk (0 : Fin 2) = 72 := by
      show (36864 + 512 - 1) / 512 = 72
      norm_num
    have n1 : ((cfgT W h).win 4).nblk (1 : Fin 2) = 1 := by
      show (1024 + 1024 - 1) / 1024 = 1
      norm_num
    have h0 : (β (0 : Fin 2)).val < 72 := (β (0 : Fin 2)).isLt.trans_eq n0
    have h1 : (β (1 : Fin 2)).val < 1 := (β (1 : Fin 2)).isLt.trans_eq n1
    refine ⟨fun a => match a with | ⟨0, _⟩ => ⟨(β (0 : Fin 2)).val, h0⟩, fun a => ?_⟩
    match a with
    | ⟨0, _⟩ => show (BitVec.ofNat 32 (β (0 : Fin 2)).val).toNat = (β (0 : Fin 2)).val; rw [BitVec.toNat_ofNat]; omega
    | ⟨1, _⟩ => show 0 = (β (1 : Fin 2)).val; omega

/-- The result array, read at a row and a column: row `p` is what tile `p / 512` leaves in its row `p % 512`. -/
theorem outArr_blocks (h : TabsOk W) (c : Dev nD) : outArr W h c = fun i : S36864x1024.Idx =>
    outBlk W h c ⟨(i 0).val / 512, by have : (i 0).val < 36864 := (i 0).isLt; show _ < 72; omega⟩
      (ix2 ⟨(i 0).val % 512, by omega⟩ (i 1)) := by
  refine (data W h c).arrAt_eq_of_covers 4 _ (out_covers W h) fun t hf y => ?_
  rw [after_4]
  have e0 : (((((cfgT W h).win 4).blk t).view.emb y) (0 : Fin 2) : ℕ) = 512 * t.val + (y (0 : Fin 2)).val := by
    blk_simp [index_4 W h t]
    show t.val * 512 + (y (0 : Fin 2)).val = _
    omega
  have e1 : (((((cfgT W h).win 4).blk t).view.emb y) (1 : Fin 2) : ℕ) = (y (1 : Fin 2)).val := by
    blk_simp [index_4 W h t]
  have hy0 : (y (0 : Fin 2)).val < 512 := (y (0 : Fin 2)).isLt
  have ht : ∀ x : Fin (cfgT W h).N, x.val = t.val → x = t := fun x hx => Fin.ext hx
  show outBlk W h c t _ = outBlk W h c _ _
  congr 1
  · exact (ht _ (by show _ / 512 = t.val; rw [e0]; omega)).symm
  · funext a
    apply Fin.ext
    match a with
    | ⟨0, _⟩ => show (y (0 : Fin 2)).val = _ % 512; rw [e0]; omega
    | ⟨1, _⟩ => exact e1.symm

/-- Tables that name only experts below 8 are admissible. -/
theorem tabsOk_of (he : ∀ t, expert W t < 8) : TabsOk W := by
  have key : ∀ i : grid0.Coords, cc0_transform_1 k0_off1_inb numel1_S1 (tabs W) i 0 < 8 := fun i => by
    obtain ⟨t, rfl⟩ := grid0.coords_surjective i
    exact (congrArg BitVec.toNat (read_tab (tabs W 0) t)).trans_lt (he ⟨t.val, pt_lt t⟩)
  have k13 : ∀ (i : grid0.Coords) (a : Fin 3), (cc0_transform_1 k0_off1_inb numel1_S1 (tabs W) i a + 1) * S1x1024x2816.size a ≤ S8x1024x2816.size a := fun i a => by
    have hk := key i
    match a with
    | ⟨0, _⟩ => show (cc0_transform_1 k0_off1_inb numel1_S1 (tabs W) i 0 + 1) * 1 ≤ 8; omega
    | ⟨1, _⟩ => show (0 + 1) * 1024 ≤ 1024; omega
    | ⟨2, _⟩ => show (0 + 1) * 2816 ≤ 2816; omega
  have k2 : ∀ (i : grid0.Coords) (a : Fin 3), (cc0_transform_3 k0_off1_inb numel1_S1 (tabs W) i a + 1) * S1x2816x1024.size a ≤ S8x2816x1024.size a := fun i a => by
    have hk : cc0_transform_3 k0_off1_inb numel1_S1 (tabs W) i 0 < 8 := key i
    match a with
    | ⟨0, _⟩ => show (cc0_transform_3 k0_off1_inb numel1_S1 (tabs W) i 0 + 1) * 1 ≤ 8; omega
    | ⟨1, _⟩ => show (0 + 1) * 2816 ≤ 2816; omega
    | ⟨2, _⟩ => show (0 + 1) * 1024 ≤ 1024; omega
  exact ⟨fun i => ⟨k13 i, .inr (Affine.block_words_dvd (of_decide_eq_true rfl) (by decide))⟩,
    fun i => ⟨k13 i, .inr (Affine.block_words_dvd (of_decide_eq_true rfl) (by decide))⟩,
    fun i => ⟨k2 i, .inr (Affine.block_words_dvd (of_decide_eq_true rfl) (by decide))⟩⟩

/-! ## Over the extended reals -/

section ideal

variable (W : Dev nD → Valuation τ sig (Elt Ideal))

/-- The result array, read: row `p` of the output is the gated layer of row `p` of the tokens through its tile's expert where
    the tile's word is positive, and zero elsewhere. -/
theorem outArr_apply (h : TabsOk W) (c : Dev nD) (p : Fin 36864) (j : Fin 1024) (t : Fin 72) (ht : t.val = p.val / 512) :
    outArr W h c (ix2 p j) = if 0 < (word W t).toInt then
      Cert.Moe.swiglu (fun d => V W c main_v75 (ix2 p d)) (fun d k => V W c main_v0 (ix3 ⟨expert W t, expert_lt W h t⟩ d k))
        (fun d k => V W c main_v1 (ix3 ⟨expert W t, expert_lt W h t⟩ d k)) (fun k l => V W c main_v2 (ix3 ⟨expert W t, expert_lt W h t⟩ k l)) j
      else (0 : EReal) := by
  rw [outArr_blocks]
  have hp := p.isLt
  obtain ⟨t', rfl⟩ : ∃ t' : Fin (cfgT W h).N, t = ⟨t'.val, pt_lt t'⟩ := ⟨⟨t.val, t.isLt⟩, rfl⟩
  have ht' : (⟨p.val / 512, by show _ < 72; omega⟩ : Fin (cfgT W h).N) = t' := Fin.ext ht.symm
  show outBlk W h c ⟨p.val / 512, _⟩ (ix2 ⟨p.val % 512, _⟩ j) = _
  rw [ht']
  rw [outBlk_eq]
  unfold tileOut
  have hpp : 512 * t'.val + p.val % 512 = p.val := by have : t'.val = p.val / 512 := ht; omega
  by_cases hw : 0 < (word W ⟨t'.val, pt_lt t'⟩).toInt
  · rw [if_pos ((cond1_iff _).2 hw), if_pos hw]
    refine (tileFF_apply _ _ _ _ _ _).trans ?_
    congr 1
    · funext d
      rw [blk_0 W h c t' _ _ (by show 512 * t'.val + p.val % 512 < 36864; omega)]
      congr 2
      exact Fin.ext hpp
    · funext d k; exact blk_1 W h c t' d k
    · funext d k; exact blk_2 W h c t' d k
    · funext k l; exact blk_3 W h c t' k l
  · rw [if_neg (fun h => hw ((cond1_iff _).1 h)), if_neg hw, pay2_apply]

end ideal

end Cert.KernelIdeal.First
end
-- ==== Proof.Second.lean ====
module

public import proofs.«01_k».proof.Proof.Body
public import proofs.«01_k».proof.Proof.Gen.KernelIdeal.Regions
public import Idealize.ShloMosaic.Lib.Pipeline.RegionArraysTS

@[expose] public section

set_option maxRecDepth 16384

noncomputable section

namespace Cert.KernelIdeal.Second

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Experts

variable {F : FTy → Type} [FloatOps F]

variable (W : Dev nD → Valuation τ sig (Elt F))

/-! ## The pipeline at the tables found at the call -/

/-- The contents of core `c`'s buffers at the call. -/
abbrev V (c : Dev nD) (b : Ref sig .tc) : Buf (Elt F) ((c : Thread nD τ).loc b) := W c (Proc.devRef .tc b)

abbrev te : Memref sig .tc .smem S72 .i32 := Memref.whole main_v116
abbrev tv : Memref sig .tc .smem S72 .i32 := Memref.whole main_v114

/-- Both tables' contents at the call. -/
def tabs : pre1.Contents (Elt F) := fun j => V W (0 : Dev nD) (pre1.ref j)

theorem tabs_eq (c : Dev nD) (j : Fin 2) : tabs W j = V W c (pre1.ref j) := by
  obtain rfl : c = 0 := Subsingleton.elim _ _
  rfl

/-- The tables keep every weight block inside its array. -/
abbrev TabsOk : Prop := ok1 (F := F) (tabs W)

abbrev admT (h : TabsOk W) : (pcfg1 (F := F)).Adm := ⟨tabs W, h⟩
abbrev cfgT (h : TabsOk W) : Cfg sig Λ₀ := cfg1 (admT W h)

/-- Every tile is stored, whatever its word: the output window is idle nowhere. -/
theorem out_never_idle (pf : pre1.Contents (Elt F)) (i : grid1.Coords) : idle1 pf 4 i = false := by
  show (!(k1_cond1 (pf.atD 1 (k1_off1 i)) == 1#1) && !(k1_cond2 (pf.atD 1 (k1_off1 i)) == 1#1)) = false
  by_cases h : k1_cond1 (pf.atD 1 (k1_off1 i)) = 1#1
  · rw [beq_iff_eq.2 h]; rfl
  · rw [beq_iff_eq.2 (show k1_cond2 (pf.atD 1 (k1_off1 i)) = 1#1 from (cond2_iff _).2 h)]; simp

/-! ## Blocks and what the body leaves -/

/-- Window `w`'s block at point `t`, off its array at the call. -/
def blk (h : TabsOk W) (c : Dev nD) (w : Fin (cfgT W h).W) (t : Fin (cfgT W h).N) :
    (((cfgT W h).win w).xblock ((cfgT W h).grid.coords t)).Idx → Elt F ((cfgT W h).win w).elt :=
  (((cfgT W h).win w).blk t).view.read (Elt F) (V W c (Pipeline.arrRef spec1 w))

/-- The output block after the body at point `t`. -/
def outBlk (h : TabsOk W) (c : Dev nD) (t : Fin (cfgT W h).N) : Vec F S512x1024 .bf16 :=
  tileOut (validWord (tabs W 1) (grid1.coords t)) (blk W h c 0 t) (blk W h c 1 t) (blk W h c 2 t) (blk W h c 3 t)

/-- The pipeline's proof data: arrays as at the call, each input's buffer left at its block, the output's at `outBlk`. -/
def data (h : TabsOk W) (c : Dev nD) : Dat τ (Elt F) Unit ℕ (UR sig nD τ) ℕ (cfgT W h) c where
  A w := V W c (Pipeline.arrRef spec1 w)
  after w t := match w with
    | ⟨0, _⟩ => blk W h c 0 t
    | ⟨1, _⟩ => blk W h c 1 t
    | ⟨2, _⟩ => blk W h c 2 t
    | ⟨3, _⟩ => blk W h c 3 t
    | ⟨4, _⟩ => outBlk W h c t
  Φ _ := iprop(Pipeline.scopedRest spec1 c ∗ Pipeline.prefHeld pre1 c (fun _ => fullShare) (tabs W))
  q _ := fullShare
  owed _ := 0

theorem data_A (h : TabsOk W) (c : Dev nD) (w : Fin (cfgT W h).W) : (data W h c).A w = V W c (Pipeline.arrRef spec1 w) := by
  dsimp only [data]

theorem after_0 (h : TabsOk W) (c : Dev nD) (t : Fin (cfgT W h).N) : (data W h c).after 0 t = blk W h c 0 t := rfl
theorem after_1 (h : TabsOk W) (c : Dev nD) (t : Fin (cfgT W h).N) : (data W h c).after 1 t = blk W h c 1 t := rfl
theorem after_2 (h : TabsOk W) (c : Dev nD) (t : Fin (cfgT W h).N) : (data W h c).after 2 t = blk W h c 2 t := rfl
theorem after_3 (h : TabsOk W) (c : Dev nD) (t : Fin (cfgT W h).N) : (data W h c).after 3 t = blk W h c 3 t := rfl
theorem after_4 (h : TabsOk W) (c : Dev nD) (t : Fin (cfgT W h).N) : (data W h c).after 4 t = outBlk W h c t := rfl

theorem before_0 (h : TabsOk W) (c : Dev nD) (t : Fin (cfgT W h).N) (d) : (data W h c).before 0 t d = blk W h c 0 t :=
  ((data W h c).before_in_eq_fetched 0 rfl (fun _ => rfl) (fun _ _ _ => rfl) (fun t => by rw [after_0]; unfold Dat.blockOf blk; rw [data_A]; try rfl) t d).trans
    (by unfold Dat.fetched Dat.blockOf blk; rw [data_A]; try rfl)
theorem before_1 (h : TabsOk W) (c : Dev nD) (t : Fin (cfgT W h).N) (d) : (data W h c).before 1 t d = blk W h c 1 t :=
  ((data W h c).before_in_eq_fetched 1 rfl (fun _ => rfl) (fun _ _ _ => rfl) (fun t => by rw [after_1]; unfold Dat.blockOf blk; rw [data_A]; try rfl) t d).trans
    (by unfold Dat.fetched Dat.blockOf blk; rw [data_A]; try rfl)
theorem before_2 (h : TabsOk W) (c : Dev nD) (t : Fin (cfgT W h).N) (d) : (data W h c).before 2 t d = blk W h c 2 t :=
  ((data W h c).before_in_eq_fetched 2 rfl (fun _ => rfl) (fun _ _ _ => rfl) (fun t => by rw [after_2]; unfold Dat.blockOf blk; rw [data_A]; try rfl) t d).trans
    (by unfold Dat.fetched Dat.blockOf blk; rw [data_A]; try rfl)
theorem before_3 (h : TabsOk W) (c : Dev nD) (t : Fin (cfgT W h).N) (d) : (data W h c).before 3 t d = blk W h c 3 t :=
  ((data W h c).before_in_eq_fetched 3 rfl (fun _ => rfl) (fun _ _ _ => rfl) (fun t => by rw [after_3]; unfold Dat.blockOf blk; rw [data_A]; try rfl) t d).trans
    (by unfold Dat.fetched Dat.blockOf blk; rw [data_A]; try rfl)

/-- The two tables, one by one. -/
theorem tables_split (c : Dev nD) : (Pipeline.prefHeld pre1 c (fun _ => fullShare) (tabs W) : sProp (MT nD τ sig Unit (Elt F) ℕ (UR sig nD τ) ℕ))
    = iprop(owns (c : Thread nD τ) te fullShare (tabs W 0) ∗ owns (c : Thread nD τ) tv fullShare (tabs W 1)) := by
  unfold Pipeline.prefHeld
  rw [show (Finset.univ : Finset (Fin 2)) = insert (0 : Fin 2) {(1 : Fin 2)} from by decide,
    bigSep_insert (by decide), bigSep_singleton]
  exact congrArg₂ BI.sep (owns_whole _ _ _ _).symm (owns_whole _ _ _ _).symm

/-! ## The body obligation -/

abbrev mem0 (h : TabsOk W) (t : Fin (cfgT W h).N) : Memref sig .tc .vmem S512x1024 .bf16 := spec1_0.stage ((cfgT W h).slots t 0)
abbrev mem1 (h : TabsOk W) (t : Fin (cfgT W h).N) : Memref sig .tc .vmem S1x1024x2816 .bf16 := spec1_1.stage ((cfgT W h).slots t 1)
abbrev mem2 (h : TabsOk W) (t : Fin (cfgT W h).N) : Memref sig .tc .vmem S1x1024x2816 .bf16 := spec1_2.stage ((cfgT W h).slots t 2)
abbrev mem3 (h : TabsOk W) (t : Fin (cfgT W h).N) : Memref sig .tc .vmem S1x2816x1024 .bf16 := spec1_3.stage ((cfgT W h).slots t 3)
abbrev mem4 (h : TabsOk W) (t : Fin (cfgT W h).N) : Memref sig .tc .vmem S512x1024 .bf16 := spec1_4.stage ((cfgT W h).slots t 4)

/-- The body as the pipeline calls it at point `t`. -/
abbrev bodyAt (h : TabsOk W) (t : Fin (cfgT W h).N) : Prog (TpuEff nD τ sig (Elt F) Λ₀ .tc) PUnit :=
  cc0_moe_experts (grid1.coords t) te (Memref.isWhole_whole _) tv (Memref.isWhole_whole _)
    (mem0 W h t) (hstage1_0 (((cfgT W h).slots t 0).cast nbuf1_0)) (mem1 W h t) (hstage1_1 (((cfgT W h).slots t 1).cast nbuf1_1))
    (mem2 W h t) (hstage1_2 (((cfgT W h).slots t 2).cast nbuf1_2)) (mem3 W h t) (hstage1_3 (((cfgT W h).slots t 3).cast nbuf1_3))
    (mem4 W h t) (hstage1_4 (((cfgT W h).slots t 4).cast nbuf1_4))

theorem body_sound (h : TabsOk W) (c : Dev nD) (t : Fin (cfgT W h).N) :
    iprop((data W h c).Φ t.castSucc ∗ (data W h c).owesAt () t.castSucc
        ∗ (∃ d, owns (c : Thread nD τ) (mem0 W h t) fullShare ((data W h c).before 0 t d))
        ∗ (∃ d, owns (c : Thread nD τ) (mem1 W h t) fullShare ((data W h c).before 1 t d))
        ∗ (∃ d, owns (c : Thread nD τ) (mem2 W h t) fullShare ((data W h c).before 2 t d))
        ∗ (∃ d, owns (c : Thread nD τ) (mem3 W h t) fullShare ((data W h c).before 3 t d))
        ∗ (∃ d, owns (c : Thread nD τ) (mem4 W h t) fullShare ((data W h c).before 4 t d)))
      ⊢ wp frame (wpE (defs₀ (F := F)) Variants.none c none) Set.univ (bodyAt W h t) (fun _ =>
          iprop((data W h c).Φ t.succ ∗ (data W h c).owesAt () t.succ
            ∗ owns (c : Thread nD τ) (mem0 W h t) fullShare ((data W h c).after 0 t)
            ∗ owns (c : Thread nD τ) (mem1 W h t) fullShare ((data W h c).after 1 t)
            ∗ owns (c : Thread nD τ) (mem2 W h t) fullShare ((data W h c).after 2 t)
            ∗ owns (c : Thread nD τ) (mem3 W h t) fullShare ((data W h c).after 3 t)
            ∗ owns (c : Thread nD τ) (mem4 W h t) fullShare ((data W h c).after 4 t))) := by
  simp only [before_0, before_1, before_2, before_3]
  rw [show (data W h c).Φ t.succ = (data W h c).Φ t.castSucc from rfl,
    show (data W h c).owesAt () t.succ = (data W h c).owesAt () t.castSucc from rfl,
    after_0, after_1, after_2, after_3, after_4,
    show (data W h c).Φ t.castSucc = iprop(Pipeline.scopedRest spec1 c ∗ Pipeline.prefHeld pre1 c (fun _ => fullShare) (tabs W)) from rfl, tables_split]
  unfold outBlk
  iintro ⟨⟨HΦ, ⟨HT0, HT1⟩⟩, Ho, ⟨%d0, H0⟩, ⟨%d1, H1⟩, ⟨%d2, H2⟩, ⟨%d3, H3⟩, ⟨%d4, H4⟩⟩
  iapply body_run c (grid1.coords t) te (Memref.isWhole_whole _) tv (Memref.isWhole_whole _) _ _ _ _ _ _ _ _ _ _ (blk W h c 0 t) (blk W h c 1 t) (blk W h c 2 t) (blk W h c 3 t) (tabs W 0) (tabs W 1) Set.univ _
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem body_row (h : TabsOk W) (t : Fin (cfgT W h).N) :
    defs₀ (F := F) .tc (cfgT W h).body ((cfgT W h).bodyArgs t ((cfgT W h).slots t)) = bodyAt W h t := by
  unfold defs₀; rw [Defs.onTc_tc]
  exact congrFun (congrFun (congrFun (congrFun (congrFun (congrFun (congrFun (congrFun (congrFun (congrFun (congrFun (congrFun (congrFun (congrFun (congrFun second_body _) _) _) _) _) _) _) _) _) _) _) _) _) _) _

theorem body_obl (h : TabsOk W) (c : Dev nD) : BodyObligation (data (F := F) W h c) (defs₀ (F := F)) Variants.none () Set.univ := fun t => by
  have i4 : (cfgT W h).idle (4 : Fin 5) ((cfgT W h).grid.coords t) = false := out_never_idle _ _
  rw [bigSep_W1, bigSep_W1, body_row W h]
  rewrite [i4]
  exact triple_restated (body_sound W h c t) rfl .rfl fun _ => .rfl

/-- What the call's output array holds after it. -/
def outArr (h : TabsOk W) (c : Dev nD) : S36864x1024.Idx → Elt F .bf16 := (data W h c).arrAt 4 (cfgT W h).N

end Cert.KernelIdeal.Second
end
-- ==== Proof.SecondValue.lean ====
module

public import proofs.«01_k».proof.Proof.Second
public import proofs.«01_k».proof.Proof.Tile
public import Idealize.ShloMosaic.Lib.Pipeline.ValueKit
public import Idealize.ShloMosaic.Lib.Pipeline.Covers

@[expose] public section

set_option maxRecDepth 16384

noncomputable section

namespace Cert.KernelIdeal.Second

open Idealize.ShloMosaic Idealize.ShloMosaic.TcCoe Idealize.ShloMosaic.Tactic
open Idealize.SL.Sem
open Idealize.ShloMosaic.Pipeline (Dat Cfg Window)
open Cert.KernelIdeal.Gen Cert.KernelIdeal.Experts

variable {F : FTy → Type} [FloatOps F]
variable (W : Dev nD → Valuation τ sig (Elt F))

/-- The expert number of tile `t`, off the first table, and its word, off the second. -/
def expert (t : Fin 72) : ℕ := (tabs W 0 (Idealize.ShloMosaic.ix1 t) : BitVec 32).toNat
def word (t : Fin 72) : BitVec 32 := tabs W 1 (Idealize.ShloMosaic.ix1 t)

theorem outBlk_eq (h : TabsOk W) (c : Dev nD) (t : Fin (cfgT W h).N) : outBlk W h c t
    = tileOut (word W ⟨t.val, pt_lt t⟩) (blk W h c 0 t) (blk W h c 1 t) (blk W h c 2 t) (blk W h c 3 t) :=
  congrArg (fun w => tileOut w (blk W h c 0 t) (blk W h c 1 t) (blk W h c 2 t) (blk W h c 3 t)) (read_tab (tabs W 1) t)

theorem index_0 (h : TabsOk W) (t : Fin (cfgT W h).N) : ((cfgT W h).win 0).index t = ![t.val, 0] := by
  have hc := coord_val t
  have ht := pt_lt t
  funext a
  match a with
  | ⟨0, _⟩ => show (BitVec.ofNat 32 (grid1.coords t 0).val).toNat = t.val; rw [hc, BitVec.toNat_ofNat]; omega
  | ⟨1, _⟩ => rfl
theorem index_4 (h : TabsOk W) (t : Fin (cfgT W h).N) : ((cfgT W h).win 4).index t = ![t.val, 0] := index_0 W h t

theorem index_1 (h : TabsOk W) (t : Fin (cfgT W h).N) : ((cfgT W h).win 1).index t = ![expert W ⟨t.val, pt_lt t⟩, 0, 0] := by
  funext a
  match a with
  | ⟨0, _⟩ => exact congrArg BitVec.toNat (read_tab (tabs W 0) t)
  | ⟨1, _⟩ => rfl
  | ⟨2, _⟩ => rfl
theorem index_2 (h : TabsOk W) (t : Fin (cfgT W h).N) : ((cfgT W h).win 2).index t = ![expert W ⟨t.val, pt_lt t⟩, 0, 0] := index_1 W h t
theorem index_3 (h : TabsOk W) (t : Fin (cfgT W h).N) : ((cfgT W h).win 3).index t = ![expert W ⟨t.val, pt_lt t⟩, 0, 0] := index_1 W h t

/-- An admissible table names one of the eight experts. -/
theorem expert_lt (h : TabsOk W) (t : Fin 72) : expert W t < 8 := by
  obtain ⟨hi, _⟩ := h.1 (grid1.coords t)
  have h0 := hi 0
  have e : cc1_transform_1 k1_off1_inb numel1_S1 (tabs W) (grid1.coords t) 0 = expert W t :=
    congrArg BitVec.toNat (read_tab (tabs W 0) t)
  rw [e] at h0
  have : (expert W t + 1) * 1 ≤ 8 := h0
  omega

/-- Tile `t`'s rows are rows `512 t + r` of the gathered tokens. -/
theorem blk_0 (h : TabsOk W) (c : Dev nD) (t : Fin (cfgT W h).N) (r : Fin 512) (d : Fin 1024) (hp : 512 * t.val + r.val < 36864) :
    blk W h c 0 t (ix2 r d) = V W c main_v149 (ix2 ⟨512 * t.val + r.val, hp⟩ d) := by
  unfold blk
  blk_ext [V, index_0 W h t]
/-- Tile `t`'s weights are its expert's. -/
theorem blk_1 (h : TabsOk W) (c : Dev nD) (t : Fin (cfgT W h).N) (d : Fin 1024) (k : Fin 2816) :
    blk W h c 1 t (ix3 0 d k) = V W c main_v0 (ix3 ⟨expert W ⟨t.val, pt_lt t⟩, expert_lt W h _⟩ d k) := by
  unfold blk
  blk_ext [V, index_1 W h t]
theorem blk_2 (h : TabsOk W) (c : Dev nD) (t : Fin (cfgT W h).N) (d : Fin 1024) (k : Fin 2816) :
    blk W h c 2 t (ix3 0 d k) = V W c main_v1 (ix3 ⟨expert W ⟨t.val, pt_lt t⟩, expert_lt W h _⟩ d k) := by
  unfold blk
  blk_ext [V, index_2 W h t]
theorem blk_3 (h : TabsOk W) (c : Dev nD) (t : Fin (cfgT W h).N) (k : Fin 2816) (j : Fin 1024) :
    blk W h c 3 t (ix3 0 k j) = V W c main_v2 (ix3 ⟨expert W ⟨t.val, pt_lt t⟩, expert_lt W h _⟩ k j) := by
  unfold blk
  blk_ext [V, index_3 W h t]

theorem out_covers (h : TabsOk W) : ((cfgT W h).win 4).Covers :=
  ((cfgT W h).win 4).covers_of_indexMap_surj rfl (by decide : ∀ a : Fin 2, 0 < S512x1024.size a) fun β => by
    have n0 : ((cfgT W h).win 4).nblk (0 : Fin 2) = 72 := by
      show (36864 + 512 - 1) / 512 = 72
      norm_num
    have n1 : ((cfgT W h).win 4).nblk (1 : Fin 2) = 1 := by
      show (1024 + 1024 - 1) / 1024 = 1
      norm_num
    have h0 : (β (0 : Fin 2)).val < 72 := (β (0 : Fin 2)).isLt.trans_eq n0
    have h1 : (β (1 : Fin 2)).val < 1 := (β (1 : Fin 2)).isLt.trans_eq n1
    refine ⟨fun a => match a with | ⟨0, _⟩ => ⟨(β (0 : Fin 2)).val, h0⟩, fun a => ?_⟩
    match a with
    | ⟨0, _⟩ => show (BitVec.ofNat 32 (β (0 : Fin 2)).val).toNat = (β (0 : Fin 2)).val; rw [BitVec.toNat_ofNat]; omega
    | ⟨1, _⟩ => show 0 = (β (1 : Fin 2)).val; omega

/-- The result array, read at a row and a column: row `p` is what tile `p / 512` leaves in its row `p % 512`. -/
theorem outArr_blocks (h : TabsOk W) (c : Dev nD) : outArr W h c = fun i : S36864x1024.Idx =>
    outBlk W h c ⟨(i 0).val / 512, by have : (i 0).val < 36864 := (i 0).isLt; show _ < 72; omega⟩
      (ix2 ⟨(i 0).val % 512, by omega⟩ (i 1)) := by
  refine (data W h c).arrAt_eq_of_covers 4 _ (out_covers W h) fun t hf y => ?_
  rw [after_4]
  have e0 : (((((cfgT W h).win 4).blk t).view.emb y) (0 : Fin 2) : ℕ) = 512 * t.val + (y (0 : Fin 2)).val := by
    blk_simp [index_4 W h t]
    show t.val * 512 + (y (0 : Fin 2)).val = _
    omega
  have e1 : (((((cfgT W h).win 4).blk t).view.emb y) (1 : Fin 2) : ℕ) = (y (1 : Fin 2)).val := by
    blk_simp [index_4 W h t]
  have hy0 : (y (0 : Fin 2)).val < 512 := (y (0 : Fin 2)).isLt
  have ht : ∀ x : Fin (cfgT W h).N, x.val = t.val → x = t := fun x hx => Fin.ext hx
  show outBlk W h c t _ = outBlk W h c _ _
  congr 1
  · exact (ht _ (by show _ / 512 = t.val; rw [e0]; omega)).symm
  · funext a
    apply Fin.ext
    match a with
    | ⟨0, _⟩ => show (y (0 : Fin 2)).val = _ % 512; rw [e0]; omega
    | ⟨1, _⟩ => exact e1.symm

/-- Tables that name only experts below 8 are admissible. -/
theorem tabsOk_of (he : ∀ t, expert W t < 8) : TabsOk W := by
  have key : ∀ i : grid1.Coords, cc1_transform_1 k1_off1_inb numel1_S1 (tabs W) i 0 < 8 := fun i => by
    obtain ⟨t, rfl⟩ := grid1.coords_surjective i
    exact (congrArg BitVec.toNat (read_tab (tabs W 0) t)).trans_lt (he ⟨t.val, pt_lt t⟩)
  have k13 : ∀ (i : grid1.Coords) (a : Fin 3), (cc1_transform_1 k1_off1_inb numel1_S1 (tabs W) i a + 1) * S1x1024x2816.size a ≤ S8x1024x2816.size a := fun i a => by
    have hk := key i
    match a with
    | ⟨0, _⟩ => show (cc1_transform_1 k1_off1_inb numel1_S1 (tabs W) i 0 + 1) * 1 ≤ 8; omega
    | ⟨1, _⟩ => show (0 + 1) * 1024 ≤ 1024; omega
    | ⟨2, _⟩ => show (0 + 1) * 2816 ≤ 2816; omega
  have k2 : ∀ (i : grid1.Coords) (a : Fin 3), (cc1_transform_3 k1_off1_inb numel1_S1 (tabs W) i a + 1) * S1x2816x1024.size a ≤ S8x2816x1024.size a := fun i a => by
    have hk : cc1_transform_3 k1_off1_inb numel1_S1 (tabs W) i 0 < 8 := key i
    match a with
    | ⟨0, _⟩ => show (cc1_transform_3 k1_off1_inb numel1_S1 (tabs W) i 0 + 1) * 1 ≤ 8; omega
    | ⟨1, _⟩ => show (0 + 1) * 2816 ≤ 2816; omega
    | ⟨2, _⟩ => show (0 + 1) * 1024 ≤ 1024; omega
  exact ⟨fun i => ⟨k13 i, .inr (Affine.block_words_dvd (of_decide_eq_true rfl) (by decide))⟩,
    fun i => ⟨k13 i, .inr (Affine.block_words_dvd (of_decide_eq_true rfl) (by decide))⟩,
    fun i => ⟨k2 i, .inr (Affine.block_words_dvd (of_decide_eq_true rfl) (by decide))⟩⟩

/-! ## Over the extended reals -/

section ideal

variable (W : Dev nD → Valuation τ sig (Elt Ideal))

/-- The result array, read: row `p` of the output is the gated layer of row `p` of the tokens through its tile's expert where
    the tile's word is positive, and zero elsewhere. -/
theorem outArr_apply (h : TabsOk W) (c : Dev nD) (p : Fin 36864) (j : Fin 1024) (t : Fin 72) (ht : t.val = p.val / 512) :
    outArr W h c (ix2 p j) = if 0 < (word W t).toInt then
      Cert.Moe.swiglu (fun d => V W c main_v149 (ix2 p d)) (fun d k => V W c main_v0 (ix3 ⟨expert W t, expert_lt W h t⟩ d k))
        (fun d k => V W c main_v1 (ix3 ⟨expert W t, expert_lt W h t⟩ d k)) (fun k l => V W c main_v2 (ix3 ⟨expert W t, expert_lt W h t⟩ k l)) j
      else (0 : EReal) := by
  rw [outArr_blocks]
  have hp := p.isLt
  obtain ⟨t', rfl⟩ : ∃ t' : Fin (cfgT W h).N, t = ⟨t'.val, pt_lt t'⟩ := ⟨⟨t.val, t.isLt⟩, rfl⟩
  have ht' : (⟨p.val / 512, by show _ < 72; omega⟩ : Fin (cfgT W h).N) = t' := Fin.ext ht.symm
  show outBlk W h c ⟨p.val / 512, _⟩ (ix2 ⟨p.val % 512, _⟩ j) = _
  rw [ht']
  rw [outBlk_eq]
  unfold tileOut
  have hpp : 512 * t'.val + p.val % 512 = p.val := by have : t'.val = p.val / 512 := ht; omega
  by_cases hw : 0 < (word W ⟨t'.val, pt_lt t'⟩).toInt
  · rw [if_pos ((cond1_iff _).2 hw), if_pos hw]
    refine (tileFF_apply _ _ _ _ _ _).trans ?_
    congr 1
    · funext d
      rw [blk_0 W h c t' _ _ (by show 512 * t'.val + p.val % 512 < 36864; omega)]
      congr 2
      exact Fin.ext hpp
    · funext d k; exact blk_1 W h c t' d k
    · funext d k; exact blk_2 W h c t' d k
    · funext k l; exact blk_3 W h c t' k l
  · rw [if_neg (fun h => hw ((cond1_iff _).1 h)), if_neg hw, pay2_apply]

end ideal

end Cert.KernelIdeal.Second
end
-- ==== Proof.Combine.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.VecWindow

@[expose] public section

set_option maxRecDepth 16384

noncomputable section

namespace Cert.KernelIdeal.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- One block of tokens as the body combines it: each token's two expert results by their weights, the sum by the gate
    row of the modulation, added to the residual. -/
def tileComb (x0 : Vec F S1x512x1024 .f32) (x1 : Vec F S1x6x1024 .f32) (x2 : Vec F S1x1x512x1024 .bf16) (x3 : Vec F S1x1x512x1024 .bf16) (x4 : Vec F S1x512x8 .f32) : Vec F S1x512x1024 .f32 :=
  k2_pay1 (VecWindow.window x4 ![0, 0, 2] S1x512x1.size inb_S1x512x8_S1x512x1_0_0_2) (VecWindow.window x4 ![0, 0, 3] S1x512x1.size inb_S1x512x8_S1x512x1_0_0_3)
    x0 (VecWindow.window x1 ![0, 5, 0] S1x1x1024.size inb_S1x6x1024_S1x1x1024_0_5_0) x2 x3

set_option maxHeartbeats 2000000 in
/-- The body on whole staging buffers: the inputs come back as they were, and the output's buffer holds `tileComb` of them. -/
theorem body_run (c : Dev nD) (i : grid2.Coords) (arg2 : Memref sig .tc .vmem S1x512x1024 .f32) (harg2 : arg2.IsWhole) (arg3 : Memref sig .tc .vmem S1x6x1024 .f32) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x8 .f32) (harg6 : arg6.IsWhole) (arg7 : Memref sig .tc .hbm S36864x1024 .bf16) (harg7 : arg7.IsWhole) (arg8 : Memref sig .tc .vmem S1x512x1024 .f32) (harg8 : arg8.IsWhole)
    (x0 : Vec F S1x512x1024 .f32) (x1 : Vec F S1x6x1024 .f32) (x2 : Vec F S1x1x512x1024 .bf16) (x3 : Vec F S1x1x512x1024 .bf16) (x4 : Vec F S1x512x8 .f32)
    (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare (tileComb x0 x1 x2 x3 x4)) -∗ K ⟨⟩))
      ⊢ wp frame (wpE (defs₀ (F := F)) Variants.none c none) E (cc2_moe_combine i arg2 harg2 arg3 harg3 arg4 harg4 arg5 harg5 arg6 harg6 arg7 harg7 arg8 harg8) K := by
  simp only [cc2_moe_combine_eq_skeleton]; unfold cc2_moe_combine_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1; obtain rfl := harg4.eq_unread hf2; obtain rfl := harg5.eq_unread hf3; obtain rfl := harg6.eq_unread hf4
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  refine (View.read_writes_full _ _ _ _ _).trans ?_
  unfold tileComb
  conv_rhs => rw [← hf0, ← hf1, ← hf2, ← hf3, ← hf4]
  refine congr (congr (congr (congr (congr (congrArg _ ?_) ?_) ?_) ?_) ?_) ?_
  · rfl
  · rfl
  · exact View.readAt_full _ _ _
  · rfl
  · exact View.readAt_full _ _ _
  · exact View.readAt_full _ _ _

/-- The second combining call's body is the first's: the two calls differ in an operand that the body never reads. -/
theorem second_body (i : grid3.Coords) (arg2 : Memref sig .tc .vmem S1x512x1024 .f32) (harg2 : arg2.IsWhole) (arg3 : Memref sig .tc .vmem S1x6x1024 .f32) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x512x8 .f32) (harg6 : arg6.IsWhole) (arg7 : Memref sig .tc .hbm S36864x1024 .bf16) (harg7 : arg7.IsWhole) (arg8 : Memref sig .tc .vmem S1x512x1024 .f32) (harg8 : arg8.IsWhole) :
    cc3_moe_combine (F := F) i arg2 harg2 arg3 harg3 arg4 harg4 arg5 harg5 arg6 harg6 arg8 harg8
      = cc2_moe_combine (F := F) i arg2 harg2 arg3 harg3 arg4 harg4 arg5 harg5 arg6 harg6 arg7 harg7 arg8 harg8 := rfl

end Cert.KernelIdeal.Combine
end
-- ==== Proof.Third.lean ====
module

public import proofs.«01_k».proof.Proof.Combine
public import proofs.«01_k».proof.Proof.Gen.KernelIdeal.Points
public import proofs.«01_k».proof.Proof.Gen.KernelIdeal.Regions
public import Idealize.ShloMosaic.Lib.Pipeline.RegionArraysTS

@[expose] public section

set_option maxRecDepth 16384

noncomputable section

namespace Cert.KernelIdeal.Third

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Combine

variable {F : FTy → Type} [FloatOps F]

variable (W : Dev nD → Valuation τ sig (Elt F))

/-- The contents of core `c`'s buffers at the call. -/
abbrev V (c : Dev nD) (b : Ref sig .tc) : Buf (Elt F) ((c : Thread nD τ).loc b) := W c (Proc.devRef .tc b)

/-- Window `w`'s block at point `t`, off its array at the call. -/
def blk (c : Dev nD) (w : Fin cfg2.W) (t : Fin cfg2.N) : ((cfg2.win w).xblock (cfg2.grid.coords t)).Idx → Elt F (cfg2.win w).elt :=
  ((cfg2.win w).blk t).view.read (Elt F) (V W c (Pipeline.arrRef spec2 w))

/-- The output block after the body at point `t`. -/
def outBlk (c : Dev nD) (t : Fin cfg2.N) : Vec F S1x512x1024 .f32 :=
  tileComb (blk W c 0 t) (blk W c 1 t) (blk W c 2 t) (blk W c 3 t) (blk W c 4 t)

/-- The pipeline's proof data: arrays as at the call, each input's buffer left at its block, the output's at `outBlk`;
    the two windows on the array of expert results hold half of it each. -/
def data (c : Dev nD) : Dat τ (Elt F) Unit ℕ (UR sig nD τ) ℕ cfg2 c where
  A w := V W c (Pipeline.arrRef spec2 w)
  after w t := match w with
    | ⟨0, _⟩ => blk W c 0 t
    | ⟨1, _⟩ => blk W c 1 t
    | ⟨2, _⟩ => blk W c 2 t
    | ⟨3, _⟩ => blk W c 3 t
    | ⟨4, _⟩ => blk W c 4 t
    | ⟨5, _⟩ => outBlk W c t
  Φ _ := Pipeline.scopedRest spec2 c
  q w := Pipeline.shareOf spec2 w
  owed _ := 0

theorem data_A (c : Dev nD) (w : Fin cfg2.W) : (data W c).A w = V W c (Pipeline.arrRef spec2 w) := by
  dsimp only [data]

theorem after_0 (c : Dev nD) (t : Fin cfg2.N) : (data W c).after 0 t = blk W c 0 t := rfl
theorem after_1 (c : Dev nD) (t : Fin cfg2.N) : (data W c).after 1 t = blk W c 1 t := rfl
theorem after_2 (c : Dev nD) (t : Fin cfg2.N) : (data W c).after 2 t = blk W c 2 t := rfl
theorem after_3 (c : Dev nD) (t : Fin cfg2.N) : (data W c).after 3 t = blk W c 3 t := rfl
theorem after_4 (c : Dev nD) (t : Fin cfg2.N) : (data W c).after 4 t = blk W c 4 t := rfl
theorem after_5 (c : Dev nD) (t : Fin cfg2.N) : (data W c).after 5 t = outBlk W c t := rfl

theorem before_0 (c : Dev nD) (t : Fin cfg2.N) (d) : (data W c).before 0 t d = blk W c 0 t :=
  ((data W c).before_in_eq_fetched 0 rfl (fun _ => rfl) (fun _ _ _ => rfl) (fun t => by rw [after_0]; unfold Dat.blockOf blk; rw [data_A]; try rfl) t d).trans
    (by unfold Dat.fetched Dat.blockOf blk; rw [data_A]; try rfl)
theorem before_1 (c : Dev nD) (t : Fin cfg2.N) (d) : (data W c).before 1 t d = blk W c 1 t :=
  ((data W c).before_in_eq_fetched 1 rfl (fun _ => rfl) (fun _ _ _ => rfl) (fun t => by rw [after_1]; unfold Dat.blockOf blk; rw [data_A]; try rfl) t d).trans
    (by unfold Dat.fetched Dat.blockOf blk; rw [data_A]; try rfl)
theorem before_2 (c : Dev nD) (t : Fin cfg2.N) (d) : (data W c).before 2 t d = blk W c 2 t :=
  ((data W c).before_in_eq_fetched 2 rfl (fun _ => rfl) (fun _ _ _ => rfl) (fun t => by rw [after_2]; unfold Dat.blockOf blk; rw [data_A]; try rfl) t d).trans
    (by unfold Dat.fetched Dat.blockOf blk; rw [data_A]; try rfl)
theorem before_3 (c : Dev nD) (t : Fin cfg2.N) (d) : (data W c).before 3 t d = blk W c 3 t :=
  ((data W c).before_in_eq_fetched 3 rfl (fun _ => rfl) (fun _ _ _ => rfl) (fun t => by rw [after_3]; unfold Dat.blockOf blk; rw [data_A]; try rfl) t d).trans
    (by unfold Dat.fetched Dat.blockOf blk; rw [data_A]; try rfl)
theorem before_4 (c : Dev nD) (t : Fin cfg2.N) (d) : (data W c).before 4 t d = blk W c 4 t :=
  ((data W c).before_in_eq_fetched 4 rfl (fun _ => rfl) (fun _ _ _ => rfl) (fun t => by rw [after_4]; unfold Dat.blockOf blk; rw [data_A]; try rfl) t d).trans
    (by unfold Dat.fetched Dat.blockOf blk; rw [data_A]; try rfl)

/-- The body as the pipeline calls it at point `t`, written as the combining body. -/
abbrev bodyAt (t : Fin cfg2.N) : Prog (TpuEff nD τ sig (Elt F) Λ₀ .tc) PUnit :=
  cc2_moe_combine (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4))
    (Memref.whole main_v150) (Memref.isWhole_whole _) (win2_5.stage (cfg2.slots t 5)) (hstage2_5 ((cfg2.slots t 5).cast nbuf2_5))

theorem body_sound (c : Dev nD) (t : Fin cfg2.N) :
    iprop((data W c).Φ t.castSucc ∗ (data W c).owesAt () t.castSucc
        ∗ (∃ d, owns (c : Thread nD τ) (st2_0 t) fullShare ((data W c).before 0 t d))
        ∗ (∃ d, owns (c : Thread nD τ) (st2_1 t) fullShare ((data W c).before 1 t d))
        ∗ (∃ d, owns (c : Thread nD τ) (st2_2 t) fullShare ((data W c).before 2 t d))
        ∗ (∃ d, owns (c : Thread nD τ) (st2_3 t) fullShare ((data W c).before 3 t d))
        ∗ (∃ d, owns (c : Thread nD τ) (st2_4 t) fullShare ((data W c).before 4 t d))
        ∗ (∃ d, owns (c : Thread nD τ) (st2_5 t) fullShare ((data W c).before 5 t d)))
      ⊢ wp frame (wpE (defs₀ (F := F)) Variants.none c none) Set.univ (bodyAt t) (fun _ =>
          iprop((data W c).Φ t.succ ∗ (data W c).owesAt () t.succ
            ∗ owns (c : Thread nD τ) (st2_0 t) fullShare ((data W c).after 0 t)
            ∗ owns (c : Thread nD τ) (st2_1 t) fullShare ((data W c).after 1 t)
            ∗ owns (c : Thread nD τ) (st2_2 t) fullShare ((data W c).after 2 t)
            ∗ owns (c : Thread nD τ) (st2_3 t) fullShare ((data W c).after 3 t)
            ∗ owns (c : Thread nD τ) (st2_4 t) fullShare ((data W c).after 4 t)
            ∗ owns (c : Thread nD τ) (st2_5 t) fullShare ((data W c).after 5 t))) := by
  simp only [before_0, before_1, before_2, before_3, before_4]
  rw [show (data W c).Φ t.succ = (data W c).Φ t.castSucc from rfl,
    show (data W c).owesAt () t.succ = (data W c).owesAt () t.castSucc from rfl,
    after_0, after_1, after_2, after_3, after_4, after_5]
  unfold outBlk
  iintro ⟨HΦ, Ho, ⟨%d0, H0⟩, ⟨%d1, H1⟩, ⟨%d2, H2⟩, ⟨%d3, H3⟩, ⟨%d4, H4⟩, ⟨%d5, H5⟩⟩
  iapply body_run c (grid2.coords t) _ _ _ _ _ _ _ _ _ _ _ _ _ _ (blk W c 0 t) (blk W c 1 t) (blk W c 2 t) (blk W c 3 t) (blk W c 4 t) Set.univ _
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_row (t : Fin cfg2.N) : defs₀ (F := F) .tc cfg2.body (cfg2.bodyArgs t (cfg2.slots t)) = bodyAt t := by
  unfold defs₀; rw [Defs.onTc_tc]

theorem body_obl (c : Dev nD) : BodyObligation (data (F := F) W c) (defs₀ (F := F)) Variants.none () Set.univ := fun t => by
  have i5 : cfg2.idle (5 : Fin 6) (cfg2.grid.coords t) = false := rfl
  rw [bigSep_W2, bigSep_W2, body_row]
  rewrite [i5]
  exact triple_restated (body_sound W c t) rfl .rfl fun _ => .rfl

/-- What the call's output array holds after it. -/
def outArr (c : Dev nD) : S4x8192x1024.Idx → Elt F .f32 := (data W c).arrAt 5 cfg2.N

end Cert.KernelIdeal.Third
end
-- ==== Proof.Fourth.lean ====
module

public import proofs.«01_k».proof.Proof.Combine
public import proofs.«01_k».proof.Proof.Gen.KernelIdeal.Points
public import proofs.«01_k».proof.Proof.Gen.KernelIdeal.Regions
public import Idealize.ShloMosaic.Lib.Pipeline.RegionArraysTS

@[expose] public section

set_option maxRecDepth 16384

noncomputable section

namespace Cert.KernelIdeal.Fourth

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Combine

variable {F : FTy → Type} [FloatOps F]

variable (W : Dev nD → Valuation τ sig (Elt F))

/-- The contents of core `c`'s buffers at the call. -/
abbrev V (c : Dev nD) (b : Ref sig .tc) : Buf (Elt F) ((c : Thread nD τ).loc b) := W c (Proc.devRef .tc b)

/-- Window `w`'s block at point `t`, off its array at the call. -/
def blk (c : Dev nD) (w : Fin cfg3.W) (t : Fin cfg3.N) : ((cfg3.win w).xblock (cfg3.grid.coords t)).Idx → Elt F (cfg3.win w).elt :=
  ((cfg3.win w).blk t).view.read (Elt F) (V W c (Pipeline.arrRef spec3 w))

/-- The output block after the body at point `t`. -/
def outBlk (c : Dev nD) (t : Fin cfg3.N) : Vec F S1x512x1024 .f32 :=
  tileComb (blk W c 0 t) (blk W c 1 t) (blk W c 2 t) (blk W c 3 t) (blk W c 4 t)

/-- The pipeline's proof data: arrays as at the call, each input's buffer left at its block, the output's at `outBlk`;
    the two windows on the array of expert results hold half of it each. -/
def data (c : Dev nD) : Dat τ (Elt F) Unit ℕ (UR sig nD τ) ℕ cfg3 c where
  A w := V W c (Pipeline.arrRef spec3 w)
  after w t := match w with
    | ⟨0, _⟩ => blk W c 0 t
    | ⟨1, _⟩ => blk W c 1 t
    | ⟨2, _⟩ => blk W c 2 t
    | ⟨3, _⟩ => blk W c 3 t
    | ⟨4, _⟩ => blk W c 4 t
    | ⟨5, _⟩ => outBlk W c t
  Φ _ := Pipeline.scopedRest spec3 c
  q w := Pipeline.shareOf spec3 w
  owed _ := 0

theorem data_A (c : Dev nD) (w : Fin cfg3.W) : (data W c).A w = V W c (Pipeline.arrRef spec3 w) := by
  dsimp only [data]

theorem after_0 (c : Dev nD) (t : Fin cfg3.N) : (data W c).after 0 t = blk W c 0 t := rfl
theorem after_1 (c : Dev nD) (t : Fin cfg3.N) : (data W c).after 1 t = blk W c 1 t := rfl
theorem after_2 (c : Dev nD) (t : Fin cfg3.N) : (data W c).after 2 t = blk W c 2 t := rfl
theorem after_3 (c : Dev nD) (t : Fin cfg3.N) : (data W c).after 3 t = blk W c 3 t := rfl
theorem after_4 (c : Dev nD) (t : Fin cfg3.N) : (data W c).after 4 t = blk W c 4 t := rfl
theorem after_5 (c : Dev nD) (t : Fin cfg3.N) : (data W c).after 5 t = outBlk W c t := rfl

theorem before_0 (c : Dev nD) (t : Fin cfg3.N) (d) : (data W c).before 0 t d = blk W c 0 t :=
  ((data W c).before_in_eq_fetched 0 rfl (fun _ => rfl) (fun _ _ _ => rfl) (fun t => by rw [after_0]; unfold Dat.blockOf blk; rw [data_A]; try rfl) t d).trans
    (by unfold Dat.fetched Dat.blockOf blk; rw [data_A]; try rfl)
theorem before_1 (c : Dev nD) (t : Fin cfg3.N) (d) : (data W c).before 1 t d = blk W c 1 t :=
  ((data W c).before_in_eq_fetched 1 rfl (fun _ => rfl) (fun _ _ _ => rfl) (fun t => by rw [after_1]; unfold Dat.blockOf blk; rw [data_A]; try rfl) t d).trans
    (by unfold Dat.fetched Dat.blockOf blk; rw [data_A]; try rfl)
theorem before_2 (c : Dev nD) (t : Fin cfg3.N) (d) : (data W c).before 2 t d = blk W c 2 t :=
  ((data W c).before_in_eq_fetched 2 rfl (fun _ => rfl) (fun _ _ _ => rfl) (fun t => by rw [after_2]; unfold Dat.blockOf blk; rw [data_A]; try rfl) t d).trans
    (by unfold Dat.fetched Dat.blockOf blk; rw [data_A]; try rfl)
theorem before_3 (c : Dev nD) (t : Fin cfg3.N) (d) : (data W c).before 3 t d = blk W c 3 t :=
  ((data W c).before_in_eq_fetched 3 rfl (fun _ => rfl) (fun _ _ _ => rfl) (fun t => by rw [after_3]; unfold Dat.blockOf blk; rw [data_A]; try rfl) t d).trans
    (by unfold Dat.fetched Dat.blockOf blk; rw [data_A]; try rfl)
theorem before_4 (c : Dev nD) (t : Fin cfg3.N) (d) : (data W c).before 4 t d = blk W c 4 t :=
  ((data W c).before_in_eq_fetched 4 rfl (fun _ => rfl) (fun _ _ _ => rfl) (fun t => by rw [after_4]; unfold Dat.blockOf blk; rw [data_A]; try rfl) t d).trans
    (by unfold Dat.fetched Dat.blockOf blk; rw [data_A]; try rfl)

/-- The body as the pipeline calls it at point `t`, written as the combining body. -/
abbrev bodyAt (t : Fin cfg3.N) : Prog (TpuEff nD τ sig (Elt F) Λ₀ .tc) PUnit :=
  cc2_moe_combine (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4))
    (Memref.whole main_v150) (Memref.isWhole_whole _) (win3_5.stage (cfg3.slots t 5)) (hstage3_5 ((cfg3.slots t 5).cast nbuf3_5))

theorem body_sound (c : Dev nD) (t : Fin cfg3.N) :
    iprop((data W c).Φ t.castSucc ∗ (data W c).owesAt () t.castSucc
        ∗ (∃ d, owns (c : Thread nD τ) (st3_0 t) fullShare ((data W c).before 0 t d))
        ∗ (∃ d, owns (c : Thread nD τ) (st3_1 t) fullShare ((data W c).before 1 t d))
        ∗ (∃ d, owns (c : Thread nD τ) (st3_2 t) fullShare ((data W c).before 2 t d))
        ∗ (∃ d, owns (c : Thread nD τ) (st3_3 t) fullShare ((data W c).before 3 t d))
        ∗ (∃ d, owns (c : Thread nD τ) (st3_4 t) fullShare ((data W c).before 4 t d))
        ∗ (∃ d, owns (c : Thread nD τ) (st3_5 t) fullShare ((data W c).before 5 t d)))
      ⊢ wp frame (wpE (defs₀ (F := F)) Variants.none c none) Set.univ (bodyAt t) (fun _ =>
          iprop((data W c).Φ t.succ ∗ (data W c).owesAt () t.succ
            ∗ owns (c : Thread nD τ) (st3_0 t) fullShare ((data W c).after 0 t)
            ∗ owns (c : Thread nD τ) (st3_1 t) fullShare ((data W c).after 1 t)
            ∗ owns (c : Thread nD τ) (st3_2 t) fullShare ((data W c).after 2 t)
            ∗ owns (c : Thread nD τ) (st3_3 t) fullShare ((data W c).after 3 t)
            ∗ owns (c : Thread nD τ) (st3_4 t) fullShare ((data W c).after 4 t)
            ∗ owns (c : Thread nD τ) (st3_5 t) fullShare ((data W c).after 5 t))) := by
  simp only [before_0, before_1, before_2, before_3, before_4]
  rw [show (data W c).Φ t.succ = (data W c).Φ t.castSucc from rfl,
    show (data W c).owesAt () t.succ = (data W c).owesAt () t.castSucc from rfl,
    after_0, after_1, after_2, after_3, after_4, after_5]
  unfold outBlk
  iintro ⟨HΦ, Ho, ⟨%d0, H0⟩, ⟨%d1, H1⟩, ⟨%d2, H2⟩, ⟨%d3, H3⟩, ⟨%d4, H4⟩, ⟨%d5, H5⟩⟩
  iapply body_run c (grid3.coords t) _ _ _ _ _ _ _ _ _ _ _ _ _ _ (blk W c 0 t) (blk W c 1 t) (blk W c 2 t) (blk W c 3 t) (blk W c 4 t) Set.univ _
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_row (t : Fin cfg3.N) : defs₀ (F := F) .tc cfg3.body (cfg3.bodyArgs t (cfg3.slots t)) = bodyAt t := by
  unfold defs₀; rw [Defs.onTc_tc]
  exact second_body _ _ _ _ _ _ _ _ _ _ _ _ _ _ _

theorem body_obl (c : Dev nD) : BodyObligation (data (F := F) W c) (defs₀ (F := F)) Variants.none () Set.univ := fun t => by
  have i5 : cfg3.idle (5 : Fin 6) (cfg3.grid.coords t) = false := rfl
  rw [bigSep_W3, bigSep_W3, body_row]
  rewrite [i5]
  exact triple_restated (body_sound W c t) rfl .rfl fun _ => .rfl

/-- What the call's output array holds after it. -/
def outArr (c : Dev nD) : S4x8192x1024.Idx → Elt F .f32 := (data W c).arrAt 5 cfg3.N

end Cert.KernelIdeal.Fourth
end
-- ==== Proof.Host.lean ====
module

public import proofs.«01_k».proof.Proof.Gen.KernelIdeal.Regions
public import Idealize.ShloMosaic.Lib.StableHlo.Run
public import Idealize.ShloMosaic.Lib.Tactic.CleanTypes

@[expose] public section

set_option maxRecDepth 16384

noncomputable section

namespace Cert.KernelIdeal.Host

open Idealize.ShloMosaic Idealize.ShloMosaic.TcCoe
open Idealize.ShloMosaic.StableHlo
open Cert.KernelIdeal.Gen

variable {F : FTy → Type} [FloatOps F]

/-! ## The dispatch of one group of two batches, as functions of the words of its 32768 choices -/

/-- The words of a group's choices: first every token's first choice, then every token's second. -/
def choices (g : Vec F S2x8192x8 .f32) : IVec S32768 32 :=
  fptosi 32 (concatenate S32768 0
    [⟨S16384, shapeCast S16384 (shapeCast S2x8192 (extractStridedSlice S2x8192x1 ![0, 0, 0] g slices_S2x8192x8_S2x8192x1_0_0_0) shapeCasts_S2x8192x1_S2x8192) shapeCasts_S2x8192_S16384⟩,
     ⟨S16384, shapeCast S16384 (shapeCast S2x8192 (extractStridedSlice S2x8192x1 ![0, 0, 1] g slices_S2x8192x8_S2x8192x1_0_0_1) shapeCasts_S2x8192x1_S2x8192) shapeCasts_S2x8192_S16384⟩]
    concatenates_S16384_S16384_S32768_d0)

/-- The words of the first group's choices, and of the second's, from the routing of all batches. -/
def firstOf (r : Vec F S4x8192x8 .f32) : IVec S32768 32 := choices (extractStridedSlice S2x8192x8 ![0, 0, 0] r slices_S4x8192x8_S2x8192x8_0_0_0)
def secondOf (r : Vec F S4x8192x8 .f32) : IVec S32768 32 := choices (extractStridedSlice S2x8192x8 ![2, 0, 0] r slices_S4x8192x8_S2x8192x8_2_0_0)

/-- The order in which a stable sort by word lists the entries. -/
def order (e : IVec S32768 32) : IVec S32768 32 := (Host.sort2 S32768 0 comparator_i32_i32_d0 e (iotaInDim S32768 32 0)).2

/-- Row `t` is the indicator of entry `t`'s word among the eight experts. -/
def oneHot (e : IVec S32768 32) : IVec S32768x8 32 :=
  extui 32 (cmpi .eq (broadcastInDim S32768x8 ![0, 1] bcast_S32768x1_S32768x8_0_1 (broadcastInDim S32768x1 ![0] bcast_S32768_S32768x1_0 e))
    (broadcastInDim S32768x8 ![0, 1] bcast_S1x8_S32768x8_0_1 (iotaInDim S1x8 32 1))) natLt_1_32

/-- How many entries each expert has, from the indicators. -/
def countOf (oh : IVec S32768x8 32) : IVec S8 32 := Host.reduce IntOp.addi oh (constantI S_ 32 0#32) reducesTo_S32768x8_S8_d0 h_S_

/-- A constant for each expert. -/
def const8 (k : BitVec 32) : IVec S8 32 := broadcastInDim S8 ![] bcast_S_S8 (constantI S_ 32 k)

/-- Floor division by 512 of each expert's word. -/
def floor512 (x : IVec S8 32) : IVec S8 32 :=
  select (andi (cmpi .ne (signi x) (broadcastInDim S8 ![] bcast_S_S8 (signi (constantI S_ 32 512#32))))
      (cmpi .ne (Host.remsi x (const8 512#32)) (const8 0#32)))
    (subi (Host.divsi x (const8 512#32)) (const8 1#32)) (Host.divsi x (const8 512#32))

/-- Each expert's count brought up to whole tiles. -/
def padOf (cnt : IVec S8 32) : IVec S8 32 := muli (floor512 (subi (addi cnt (const8 512#32)) (const8 1#32))) (const8 512#32)

/-- Running sums over the experts. -/
def running (x : IVec S8 32) : IVec S8 32 :=
  Host.reduceWindow IntOp.addi ![8] ![1] ![7] ![0] x (broadcastInDim S_ ![] bcast_S_S_ (constantI S_ 32 0#32)) reduceWindows_S8_S8_w8s1p7_0 h_S_

/-- How far an expert's entries move from the sorted list to the padded one. -/
def shiftOf (pst cend cnt : IVec S8 32) : IVec S8 32 := subi pst (subi cend cnt)

/-- How many experts' padded ranges end at or before each tile. -/
def ended (pend : IVec S8 32) : IVec S72 32 :=
  Host.reduce IntOp.addi (extui 32 (cmpi .sge
    (broadcastInDim S72x8 ![0, 1] bcast_S72x1_S72x8_0_1 (broadcastInDim S72x1 ![0] bcast_S72_S72x1_0 (muli (iotaInDim S72 32 0) (broadcastInDim S72 ![] bcast_S_S72 (constantI S_ 32 512#32)))))
    (broadcastInDim S72x8 ![0, 1] bcast_S1x8_S72x8_0_1 (broadcastInDim S1x8 ![1] bcast_S8_S1x8_1 pend))) natLt_1_32) (constantI S_ 32 0#32) reducesTo_S72x8_S72_d1 h_S_

/-- The tiles' experts, -/
def tileExp (pend : IVec S8 32) : IVec S72 32 := minsi (ended pend) (broadcastInDim S72 ![] bcast_S_S72 (constantI S_ 32 7#32))

/-- and whether a tile is used at all. -/
def tileValid (pend : IVec S8 32) : IVec S72 32 :=
  extui 32 (cmpi .slt (ended pend) (broadcastInDim S72 ![] bcast_S_S72 (constantI S_ 32 8#32))) natLt_1_32

/-- The padded row of each entry: its rank moved by its expert's shift. -/
def slotOf (rank : IVec S32768 32) (oh : IVec S32768x8 32) (sh : IVec S8 32) : IVec S32768 32 :=
  addi rank (Host.reduce IntOp.addi (muli oh
    (broadcastInDim S32768x8 ![0, 1] bcast_S1x8_S32768x8_0_1 (broadcastInDim S1x8 ![1] bcast_S8_S1x8_1 sh))) (constantI S_ 32 0#32) reducesTo_S32768x8_S32768_d1 h_S_)

/-- Row `i` is the indicator of tile `i`'s expert. -/
def tileHot (te : IVec S72 32) : IVec S72x8 32 :=
  extui 32 (cmpi .eq (broadcastInDim S72x8 ![0, 1] bcast_S72x1_S72x8_0_1 (broadcastInDim S72x1 ![0] bcast_S72_S72x1_0 te))
    (broadcastInDim S72x8 ![0, 1] bcast_S1x8_S72x8_0_1 (iotaInDim S1x8 32 1))) natLt_1_32

/-- The shift of each tile's expert. -/
def tileShift (hot : IVec S72x8 32) (sh : IVec S8 32) : IVec S72 32 :=
  Host.reduce IntOp.addi (muli hot
    (broadcastInDim S72x8 ![0, 1] bcast_S1x8_S72x8_0_1 (broadcastInDim S1x8 ![1] bcast_S8_S1x8_1 sh))) (constantI S_ 32 0#32) reducesTo_S72x8_S72_d1 h_S_

/-- A constant for each padded row. -/
def constRow (k : BitVec 32) : IVec S36864 32 := broadcastInDim S36864 ![] bcast_S_S36864 (constantI S_ 32 k)

/-- The place in the sorted list that each padded row is filled from. -/
def placeOf (ts : IVec S72 32) : IVec S36864 32 :=
  minsi (constRow 32767#32) (maxsi (constRow 0#32)
    (subi (iotaInDim S36864 32 0) (shapeCast S36864 (broadcastInDim S72x512 ![0] bcast_S72_S72x512_0 ts) shapeCasts_S72x512_S36864)))

/-- Negative row numbers count from the end of 32768 rows. -/
def wrapRow (x : IVec S36864 32) : IVec S36864 32 := select (cmpi .slt x (constRow 0#32)) (addi x (constRow 32768#32)) x

/-- The entries found at given places of the sorted list. -/
def fillOf (ord : IVec S32768 32) (pl : IVec S36864 32) : IVec S36864 32 :=
  Host.gather gather_S32768_S36864x1_S36864_n_0_n_n_0_1_1 ord (broadcastInDim S36864x1 ![0] bcast_S36864_S36864x1_0 (wrapRow pl))

/-- The number of tokens of a group, as the remainder's divisor. -/
def tokens : IVec S_ 32 := select (cmpi .eq (constantI S_ 32 16384#32) (constantI S_ 32 0#32)) (constantI S_ 32 1#32) (constantI S_ 32 16384#32)

/-- Remainder by the number of tokens of a group. -/
def modTokens (x : IVec S36864 32) : IVec S36864 32 :=
  select (andi (cmpi .ne (cmpi .slt (Host.remsi x (broadcastInDim S36864 ![] bcast_S_S36864 tokens)) (constRow 0#32))
        (broadcastInDim S36864 ![] bcast_S_S36864 (cmpi .slt tokens (constantI S_ 32 0#32))))
      (cmpi .ne (Host.remsi x (broadcastInDim S36864 ![] bcast_S_S36864 tokens)) (constRow 0#32)))
    (addi (Host.remsi x (broadcastInDim S36864 ![] bcast_S_S36864 tokens)) (broadcastInDim S36864 ![] bcast_S_S36864 tokens))
    (Host.remsi x (broadcastInDim S36864 ![] bcast_S_S36864 tokens))

/-- The rows of tokens at the entries `en`, of a group whose tokens begin at row `b`. -/
def rowsOf (b : BitVec 32) (en : IVec S36864 32) (h : Vec F S4x8192x1024 .bf16) : Vec F S36864x1024 .bf16 :=
  Host.gather gather_S32768x1024_S36864x1_S36864x1024_1_0_n_n_0_1_11024 (shapeCast S32768x1024 h shapeCasts_S4x8192x1024_S32768x1024)
    (broadcastInDim S36864x1 ![0] bcast_S36864_S36864x1_0 (wrapRow (addi (modTokens en) (constRow b))))

/-- Each entry's row of the experts' results, by choice, batch and token. -/
def collect (sl : IVec S32768 32) (y : Vec F S36864x1024 .bf16) : Vec F S2x2x8192x1024 .bf16 :=
  shapeCast S2x2x8192x1024 (Host.gather gather_S36864x1024_S32768x1_S32768x1024_1_0_n_n_0_1_11024 y
    (broadcastInDim S32768x1 ![0] bcast_S32768_S32768x1_0 (select (cmpi .slt sl (broadcastInDim S32768 ![] bcast_S_S32768 (constantI S_ 32 0#32)))
      (addi sl (broadcastInDim S32768 ![] bcast_S_S32768 (constantI S_ 32 36864#32))) sl))) shapeCasts_S32768x1024_S2x2x8192x1024

/-! From the words alone: -/

def counts (e : IVec S32768 32) : IVec S8 32 := countOf (oneHot e)
def padded (e : IVec S32768 32) : IVec S8 32 := padOf (counts e)
def pends (e : IVec S32768 32) : IVec S8 32 := running (padded e)
def shift (e : IVec S32768 32) : IVec S8 32 := shiftOf (subi (pends e) (padded e)) (running (counts e)) (counts e)
def slots (e : IVec S32768 32) : IVec S32768 32 := slotOf (order (order e)) (oneHot e) (shift e)
def places (e : IVec S32768 32) : IVec S36864 32 := placeOf (tileShift (tileHot (tileExp (pends e))) (shift e))
def fills (e : IVec S32768 32) : IVec S36864 32 := fillOf (order e) (places e)

/-! ## What each stretch of host operations computes, from any contents `X` before it -/

theorem g0_order (X : Valuation τ sig (Elt F)) : StableHlo.after hostOps0_1 X main_v12 = order (X main_v11) := by
  after_results_simp
  try simp only [TRef.ofBuf, TRef.toBuf, cast_eq]
  try rfl
theorem g0_rank (X : Valuation τ sig (Elt F)) : StableHlo.after hostOps0_2 X main_v13 = order (X main_v12) := by
  after_results_simp
  try simp only [TRef.ofBuf, TRef.toBuf, cast_eq]
  try rfl
theorem g0_hot (X : Valuation τ sig (Elt F)) : StableHlo.after hostOps0_3 X main_v14 = oneHot (X main_v11) := by
  after_results_simp
  try simp only [TRef.ofBuf, TRef.toBuf, cast_eq]
  try rfl
theorem g0_count (X : Valuation τ sig (Elt F)) : StableHlo.after hostOps0_4 X main_v15 = countOf (X main_v14) := by
  after_results_simp
  try simp only [TRef.ofBuf, TRef.toBuf, cast_eq]
  try rfl
theorem g0_pad (X : Valuation τ sig (Elt F)) : StableHlo.after hostOps0_6 (StableHlo.after hostOps0_5 (StableHlo.after hostOps0_4 X)) main_v22 = padOf (countOf (X main_v14)) := by
  after_results_simp
  try simp only [TRef.ofBuf, TRef.toBuf, cast_eq]
  try rfl
theorem g0_pend (X : Valuation τ sig (Elt F)) : StableHlo.after hostOps0_7 X main_v23 = running (X main_v22) := by
  after_results_simp
  try simp only [TRef.ofBuf, TRef.toBuf, cast_eq]
  try rfl
theorem g0_start (X : Valuation τ sig (Elt F)) : StableHlo.after hostOps0_8 X main_v24 = subi (X main_v23) (X main_v22) := by
  after_results_simp
  try simp only [TRef.ofBuf, TRef.toBuf, cast_eq]
  try rfl
theorem g0_cend (X : Valuation τ sig (Elt F)) : StableHlo.after hostOps0_9 X main_v25 = running (X main_v15) := by
  after_results_simp
  try simp only [TRef.ofBuf, TRef.toBuf, cast_eq]
  try rfl
theorem g0_shift (X : Valuation τ sig (Elt F)) : StableHlo.after hostOps0_10 X main_v27 = shiftOf (X main_v24) (X main_v25) (X main_v15) := by
  after_results_simp
  try simp only [TRef.ofBuf, TRef.toBuf, cast_eq]
  try rfl
theorem g0_valid (X : Valuation τ sig (Elt F)) : StableHlo.after hostOps0_10 X main_v40 = tileValid (X main_v23) := by
  after_results_simp
  try simp only [TRef.ofBuf, TRef.toBuf, cast_eq]
  try rfl
theorem g0_exp (X : Valuation τ sig (Elt F)) : StableHlo.after hostOps0_10 X main_v42 = tileExp (X main_v23) := by
  after_results_simp
  try simp only [TRef.ofBuf, TRef.toBuf, cast_eq]
  try rfl
theorem g0_slot (X : Valuation τ sig (Elt F)) : StableHlo.after hostOps0_10 X main_v47 = slotOf (X main_v13) (X main_v14) (shiftOf (X main_v24) (X main_v25) (X main_v15)) := by
  after_results_simp
  try simp only [TRef.ofBuf, TRef.toBuf, cast_eq]
  try rfl
theorem g0_tileHot (X : Valuation τ sig (Elt F)) : StableHlo.after hostOps0_11 X main_v48 = tileHot (X main_v42) := by
  after_results_simp
  try simp only [TRef.ofBuf, TRef.toBuf, cast_eq]
  try rfl
theorem g0_place (X : Valuation τ sig (Elt F)) : StableHlo.after hostOps0_13 (StableHlo.after hostOps0_12 X) main_v57 = placeOf (tileShift (X main_v48) (X main_v27)) := by
  after_results_simp
  try simp only [TRef.ofBuf, TRef.toBuf, cast_eq]
  try rfl
theorem g0_fill (X : Valuation τ sig (Elt F)) : StableHlo.after hostOps0_14 X main_v64 = fillOf (X main_v12) (X main_v57) := by
  after_results_simp
  try simp only [TRef.ofBuf, TRef.toBuf, cast_eq]
  try rfl
theorem g0_token (X : Valuation τ sig (Elt F)) : StableHlo.after hostOps0_15 (StableHlo.after hostOps0_14 X) main_v65 = modTokens (fillOf (X main_v12) (X main_v57)) := by
  after_results_simp
  try simp only [TRef.ofBuf, TRef.toBuf, cast_eq]
  try rfl
theorem g0_rows (X : Valuation τ sig (Elt F)) (en : IVec S36864 32) (h : X main_v65 = modTokens en) : StableHlo.after hostOps0_16 X main_v75 = rowsOf 0#32 en (X main_arg0) := by
  after_results_simp
  unfold rowsOf
  rw [← h]
  rfl

theorem g1_words (X : Valuation τ sig (Elt F)) : StableHlo.after hostOps1 X main_v85 = secondOf (X main_arg3) := by
  after_results_simp
  try simp only [TRef.ofBuf, TRef.toBuf, cast_eq]
  try rfl

theorem g1_order (X : Valuation τ sig (Elt F)) : StableHlo.after hostOps1_1 X main_v86 = order (X main_v85) := by
  after_results_simp
  try simp only [TRef.ofBuf, TRef.toBuf, cast_eq]
  try rfl
theorem g1_rank (X : Valuation τ sig (Elt F)) : StableHlo.after hostOps1_2 X main_v87 = order (X main_v86) := by
  after_results_simp
  try simp only [TRef.ofBuf, TRef.toBuf, cast_eq]
  try rfl
theorem g1_hot (X : Valuation τ sig (Elt F)) : StableHlo.after hostOps1_3 X main_v88 = oneHot (X main_v85) := by
  after_results_simp
  try simp only [TRef.ofBuf, TRef.toBuf, cast_eq]
  try rfl
theorem g1_count (X : Valuation τ sig (Elt F)) : StableHlo.after hostOps1_4 X main_v89 = countOf (X main_v88) := by
  after_results_simp
  try simp only [TRef.ofBuf, TRef.toBuf, cast_eq]
  try rfl
theorem g1_pad (X : Valuation τ sig (Elt F)) : StableHlo.after hostOps1_6 (StableHlo.after hostOps1_5 (StableHlo.after hostOps1_4 X)) main_v96 = padOf (countOf (X main_v88)) := by
  after_results_simp
  try simp only [TRef.ofBuf, TRef.toBuf, cast_eq]
  try rfl
theorem g1_pend (X : Valuation τ sig (Elt F)) : StableHlo.after hostOps1_7 X main_v97 = running (X main_v96) := by
  after_results_simp
  try simp only [TRef.ofBuf, TRef.toBuf, cast_eq]
  try rfl
theorem g1_start (X : Valuation τ sig (Elt F)) : StableHlo.after hostOps1_8 X main_v98 = subi (X main_v97) (X main_v96) := by
  after_results_simp
  try simp only [TRef.ofBuf, TRef.toBuf, cast_eq]
  try rfl
theorem g1_cend (X : Valuation τ sig (Elt F)) : StableHlo.after hostOps1_9 X main_v99 = running (X main_v89) := by
  after_results_simp
  try simp only [TRef.ofBuf, TRef.toBuf, cast_eq]
  try rfl
theorem g1_shift (X : Valuation τ sig (Elt F)) : StableHlo.after hostOps1_10 X main_v101 = shiftOf (X main_v98) (X main_v99) (X main_v89) := by
  after_results_simp
  try simp only [TRef.ofBuf, TRef.toBuf, cast_eq]
  try rfl
theorem g1_valid (X : Valuation τ sig (Elt F)) : StableHlo.after hostOps1_10 X main_v114 = tileValid (X main_v97) := by
  after_results_simp
  try simp only [TRef.ofBuf, TRef.toBuf, cast_eq]
  try rfl
theorem g1_exp (X : Valuation τ sig (Elt F)) : StableHlo.after hostOps1_10 X main_v116 = tileExp (X main_v97) := by
  after_results_simp
  try simp only [TRef.ofBuf, TRef.toBuf, cast_eq]
  try rfl
theorem g1_slot (X : Valuation τ sig (Elt F)) : StableHlo.after hostOps1_10 X main_v121 = slotOf (X main_v87) (X main_v88) (shiftOf (X main_v98) (X main_v99) (X main_v89)) := by
  after_results_simp
  try simp only [TRef.ofBuf, TRef.toBuf, cast_eq]
  try rfl
theorem g1_tileHot (X : Valuation τ sig (Elt F)) : StableHlo.after hostOps1_11 X main_v122 = tileHot (X main_v116) := by
  after_results_simp
  try simp only [TRef.ofBuf, TRef.toBuf, cast_eq]
  try rfl
theorem g1_place (X : Valuation τ sig (Elt F)) : StableHlo.after hostOps1_13 (StableHlo.after hostOps1_12 X) main_v131 = placeOf (tileShift (X main_v122) (X main_v101)) := by
  after_results_simp
  try simp only [TRef.ofBuf, TRef.toBuf, cast_eq]
  try rfl
theorem g1_fill (X : Valuation τ sig (Elt F)) : StableHlo.after hostOps1_14 X main_v138 = fillOf (X main_v86) (X main_v131) := by
  after_results_simp
  try simp only [TRef.ofBuf, TRef.toBuf, cast_eq]
  try rfl
theorem g1_token (X : Valuation τ sig (Elt F)) : StableHlo.after hostOps1_15 (StableHlo.after hostOps1_14 X) main_v139 = modTokens (fillOf (X main_v86) (X main_v131)) := by
  after_results_simp
  try simp only [TRef.ofBuf, TRef.toBuf, cast_eq]
  try rfl
theorem g1_rows (X : Valuation τ sig (Elt F)) (en : IVec S36864 32) (h : X main_v139 = modTokens en) : StableHlo.after hostOps1_16 X main_v149 = rowsOf 16384#32 en (X main_arg0) := by
  after_results_simp
  unfold rowsOf
  rw [← h]
  rfl

/-! ## The buffers of each group -/

variable (m : (ℓ : Loc nD τ sig) → Buf (Elt F) ℓ)

/-- The words of the first group's choices, -/
def firstWords (c : Dev nD) : IVec S32768 32 := firstOf (m ((c : Thread nD τ).loc main_arg3))

/-- and of the second's. -/
def secondWords (c : Dev nD) : IVec S32768 32 := secondOf (m ((c : Thread nD τ).loc main_arg3))

theorem first_words (c : Dev nD) : V1 m c main_v11 = firstWords m c := by
  after_results_simp
  try simp only [TRef.ofBuf, TRef.toBuf, cast_eq]
  try rfl

theorem first_order (c : Dev nD) : V2 m c main_v12 = order (firstWords m c) :=
  (g0_order (V1 m c)).trans (congrArg order (first_words m c))
theorem first_rank (c : Dev nD) : V3 m c main_v13 = order (order (firstWords m c)) :=
  (g0_rank (V2 m c)).trans (congrArg order (first_order m c))
theorem first_hot (c : Dev nD) : V4 m c main_v14 = oneHot (firstWords m c) :=
  (g0_hot (V3 m c)).trans (congrArg oneHot ((V3_of m c main_v11 (by decide)).trans <| (V2_of m c main_v11 (by decide)).trans <| first_words m c))
theorem first_count (c : Dev nD) : V5 m c main_v15 = counts (firstWords m c) :=
  (g0_count (V4 m c)).trans (congrArg countOf (first_hot m c))
theorem first_pad (c : Dev nD) : V7 m c main_v22 = padded (firstWords m c) :=
  (g0_pad (V4 m c)).trans (congrArg (fun x => padOf (countOf x)) (first_hot m c))
theorem first_pend (c : Dev nD) : V8 m c main_v23 = pends (firstWords m c) :=
  (g0_pend (V7 m c)).trans (congrArg running (first_pad m c))
theorem first_start (c : Dev nD) : V9 m c main_v24 = subi (pends (firstWords m c)) (padded (firstWords m c)) :=
  (g0_start (V8 m c)).trans (congrArg₂ subi (first_pend m c) ((V8_of m c main_v22 (by decide)).trans <| first_pad m c))
theorem first_cend (c : Dev nD) : V10 m c main_v25 = running (counts (firstWords m c)) :=
  (g0_cend (V9 m c)).trans (congrArg running ((V9_of m c main_v15 (by decide)).trans <| (V8_of m c main_v15 (by decide)).trans <| (V7_of m c main_v15 (by decide)).trans <| (V6_of m c main_v15 (by decide)).trans <| first_count m c))
theorem first_shift (c : Dev nD) : V11 m c main_v27 = shift (firstWords m c) :=
  (g0_shift (V10 m c)).trans (congr (congrArg₂ shiftOf ((V10_of m c main_v24 (by decide)).trans <| first_start m c) (first_cend m c)) ((V10_of m c main_v15 (by decide)).trans <| (V9_of m c main_v15 (by decide)).trans <| (V8_of m c main_v15 (by decide)).trans <| (V7_of m c main_v15 (by decide)).trans <| (V6_of m c main_v15 (by decide)).trans <| first_count m c))
theorem first_valid (c : Dev nD) : V11 m c main_v40 = tileValid (pends (firstWords m c)) :=
  (g0_valid (V10 m c)).trans (congrArg tileValid ((V10_of m c main_v23 (by decide)).trans <| (V9_of m c main_v23 (by decide)).trans <| first_pend m c))
theorem first_exp (c : Dev nD) : V11 m c main_v42 = tileExp (pends (firstWords m c)) :=
  (g0_exp (V10 m c)).trans (congrArg tileExp ((V10_of m c main_v23 (by decide)).trans <| (V9_of m c main_v23 (by decide)).trans <| first_pend m c))
theorem first_slot (c : Dev nD) : V11 m c main_v47 = slots (firstWords m c) :=
  (g0_slot (V10 m c)).trans (congr (congrArg₂ slotOf ((V10_of m c main_v13 (by decide)).trans <| (V9_of m c main_v13 (by decide)).trans <| (V8_of m c main_v13 (by decide)).trans <| (V7_of m c main_v13 (by decide)).trans <| (V6_of m c main_v13 (by decide)).trans <| (V5_of m c main_v13 (by decide)).trans <| (V4_of m c main_v13 (by decide)).trans <| first_rank m c) ((V10_of m c main_v14 (by decide)).trans <| (V9_of m c main_v14 (by decide)).trans <| (V8_of m c main_v14 (by decide)).trans <| (V7_of m c main_v14 (by decide)).trans <| (V6_of m c main_v14 (by decide)).trans <| (V5_of m c main_v14 (by decide)).trans <| first_hot m c)) (congr (congrArg₂ shiftOf ((V10_of m c main_v24 (by decide)).trans <| first_start m c) (first_cend m c)) ((V10_of m c main_v15 (by decide)).trans <| (V9_of m c main_v15 (by decide)).trans <| (V8_of m c main_v15 (by decide)).trans <| (V7_of m c main_v15 (by decide)).trans <| (V6_of m c main_v15 (by decide)).trans <| first_count m c)))
theorem first_tileHot (c : Dev nD) : V12 m c main_v48 = tileHot (tileExp (pends (firstWords m c))) :=
  (g0_tileHot (V11 m c)).trans (congrArg tileHot (first_exp m c))
theorem first_place (c : Dev nD) : V14 m c main_v57 = places (firstWords m c) :=
  (g0_place (V12 m c)).trans (congrArg placeOf (congrArg₂ tileShift (first_tileHot m c) ((V12_of m c main_v27 (by decide)).trans <| first_shift m c)))
theorem first_token (c : Dev nD) : V16 m c main_v65 = modTokens (fills (firstWords m c)) :=
  (g0_token (V14 m c)).trans (congrArg modTokens (congrArg₂ fillOf ((V14_of m c main_v12 (by decide)).trans <| (V13_of m c main_v12 (by decide)).trans <| (V12_of m c main_v12 (by decide)).trans <| (V11_of m c main_v12 (by decide)).trans <| (V10_of m c main_v12 (by decide)).trans <| (V9_of m c main_v12 (by decide)).trans <| (V8_of m c main_v12 (by decide)).trans <| (V7_of m c main_v12 (by decide)).trans <| (V6_of m c main_v12 (by decide)).trans <| (V5_of m c main_v12 (by decide)).trans <| (V4_of m c main_v12 (by decide)).trans <| (V3_of m c main_v12 (by decide)).trans <| first_order m c) (first_place m c)))

/-! At the experts' call of this group: -/

theorem first_call_valid (c : Dev nD) : V17 m c main_v40 = tileValid (pends (firstWords m c)) :=
  (V17_of m c main_v40 (by decide)).trans <| (V16_of m c main_v40 (by decide)).trans <| (V15_of m c main_v40 (by decide)).trans <| (V14_of m c main_v40 (by decide)).trans <| (V13_of m c main_v40 (by decide)).trans <| (V12_of m c main_v40 (by decide)).trans <| first_valid m c
theorem first_call_exp (c : Dev nD) : V17 m c main_v42 = tileExp (pends (firstWords m c)) :=
  (V17_of m c main_v42 (by decide)).trans <| (V16_of m c main_v42 (by decide)).trans <| (V15_of m c main_v42 (by decide)).trans <| (V14_of m c main_v42 (by decide)).trans <| (V13_of m c main_v42 (by decide)).trans <| (V12_of m c main_v42 (by decide)).trans <| first_exp m c
theorem first_call_slot (c : Dev nD) : V17 m c main_v47 = slots (firstWords m c) :=
  (V17_of m c main_v47 (by decide)).trans <| (V16_of m c main_v47 (by decide)).trans <| (V15_of m c main_v47 (by decide)).trans <| (V14_of m c main_v47 (by decide)).trans <| (V13_of m c main_v47 (by decide)).trans <| (V12_of m c main_v47 (by decide)).trans <| first_slot m c
theorem first_call_rows (c : Dev nD) : V17 m c main_v75 = rowsOf 0#32 (fills (firstWords m c)) (V16 m c main_arg0) :=
  g0_rows (V16 m c) (fills (firstWords m c)) (first_token m c)

variable (outs : Outs (F := F))

theorem V18_arg3 (c : Dev nD) : V18 m outs c main_arg3 = m ((c : Thread nD τ).loc main_arg3) :=
  (V18_of m outs c main_arg3 (by decide)).trans <| (V17_of m c main_arg3 (by decide)).trans <| (V16_of m c main_arg3 (by decide)).trans <| (V15_of m c main_arg3 (by decide)).trans <| (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans <| rfl

theorem second_words (c : Dev nD) : V19 m outs c main_v85 = secondWords m c :=
  (g1_words (V18 m outs c)).trans (congrArg secondOf (V18_arg3 m outs c))

theorem second_order (c : Dev nD) : V20 m outs c main_v86 = order (secondWords m c) :=
  (g1_order (V19 m outs c)).trans (congrArg order (second_words m outs c))
theorem second_rank (c : Dev nD) : V21 m outs c main_v87 = order (order (secondWords m c)) :=
  (g1_rank (V20 m outs c)).trans (congrArg order (second_order m outs c))
theorem second_hot (c : Dev nD) : V22 m outs c main_v88 = oneHot (secondWords m c) :=
  (g1_hot (V21 m outs c)).trans (congrArg oneHot ((V21_of m outs c main_v85 (by decide)).trans <| (V20_of m outs c main_v85 (by decide)).trans <| second_words m outs c))
theorem second_count (c : Dev nD) : V23 m outs c main_v89 = counts (secondWords m c) :=
  (g1_count (V22 m outs c)).trans (congrArg countOf (second_hot m outs c))
theorem second_pad (c : Dev nD) : V25 m outs c main_v96 = padded (secondWords m c) :=
  (g1_pad (V22 m outs c)).trans (congrArg (fun x => padOf (countOf x)) (second_hot m outs c))
theorem second_pend (c : Dev nD) : V26 m outs c main_v97 = pends (secondWords m c) :=
  (g1_pend (V25 m outs c)).trans (congrArg running (second_pad m outs c))
theorem second_start (c : Dev nD) : V27 m outs c main_v98 = subi (pends (secondWords m c)) (padded (secondWords m c)) :=
  (g1_start (V26 m outs c)).trans (congrArg₂ subi (second_pend m outs c) ((V26_of m outs c main_v96 (by decide)).trans <| second_pad m outs c))
theorem second_cend (c : Dev nD) : V28 m outs c main_v99 = running (counts (secondWords m c)) :=
  (g1_cend (V27 m outs c)).trans (congrArg running ((V27_of m outs c main_v89 (by decide)).trans <| (V26_of m outs c main_v89 (by decide)).trans <| (V25_of m outs c main_v89 (by decide)).trans <| (V24_of m outs c main_v89 (by decide)).trans <| second_count m outs c))
theorem second_shift (c : Dev nD) : V29 m outs c main_v101 = shift (secondWords m c) :=
  (g1_shift (V28 m outs c)).trans (congr (congrArg₂ shiftOf ((V28_of m outs c main_v98 (by decide)).trans <| second_start m outs c) (second_cend m outs c)) ((V28_of m outs c main_v89 (by decide)).trans <| (V27_of m outs c main_v89 (by decide)).trans <| (V26_of m outs c main_v89 (by decide)).trans <| (V25_of m outs c main_v89 (by decide)).trans <| (V24_of m outs c main_v89 (by decide)).trans <| second_count m outs c))
theorem second_valid (c : Dev nD) : V29 m outs c main_v114 = tileValid (pends (secondWords m c)) :=
  (g1_valid (V28 m outs c)).trans (congrArg tileValid ((V28_of m outs c main_v97 (by decide)).trans <| (V27_of m outs c main_v97 (by decide)).trans <| second_pend m outs c))
theorem second_exp (c : Dev nD) : V29 m outs c main_v116 = tileExp (pends (secondWords m c)) :=
  (g1_exp (V28 m outs c)).trans (congrArg tileExp ((V28_of m outs c main_v97 (by decide)).trans <| (V27_of m outs c main_v97 (by decide)).trans <| second_pend m outs c))
theorem second_slot (c : Dev nD) : V29 m outs c main_v121 = slots (secondWords m c) :=
  (g1_slot (V28 m outs c)).trans (congr (congrArg₂ slotOf ((V28_of m outs c main_v87 (by decide)).trans <| (V27_of m outs c main_v87 (by decide)).trans <| (V26_of m outs c main_v87 (by decide)).trans <| (V25_of m outs c main_v87 (by decide)).trans <| (V24_of m outs c main_v87 (by decide)).trans <| (V23_of m outs c main_v87 (by decide)).trans <| (V22_of m outs c main_v87 (by decide)).trans <| second_rank m outs c) ((V28_of m outs c main_v88 (by decide)).trans <| (V27_of m outs c main_v88 (by decide)).trans <| (V26_of m outs c main_v88 (by decide)).trans <| (V25_of m outs c main_v88 (by decide)).trans <| (V24_of m outs c main_v88 (by decide)).trans <| (V23_of m outs c main_v88 (by decide)).trans <| second_hot m outs c)) (congr (congrArg₂ shiftOf ((V28_of m outs c main_v98 (by decide)).trans <| second_start m outs c) (second_cend m outs c)) ((V28_of m outs c main_v89 (by decide)).trans <| (V27_of m outs c main_v89 (by decide)).trans <| (V26_of m outs c main_v89 (by decide)).trans <| (V25_of m outs c main_v89 (by decide)).trans <| (V24_of m outs c main_v89 (by decide)).trans <| second_count m outs c)))
theorem second_tileHot (c : Dev nD) : V30 m outs c main_v122 = tileHot (tileExp (pends (secondWords m c))) :=
  (g1_tileHot (V29 m outs c)).trans (congrArg tileHot (second_exp m outs c))
theorem second_place (c : Dev nD) : V32 m outs c main_v131 = places (secondWords m c) :=
  (g1_place (V30 m outs c)).trans (congrArg placeOf (congrArg₂ tileShift (second_tileHot m outs c) ((V30_of m outs c main_v101 (by decide)).trans <| second_shift m outs c)))
theorem second_token (c : Dev nD) : V34 m outs c main_v139 = modTokens (fills (secondWords m c)) :=
  (g1_token (V32 m outs c)).trans (congrArg modTokens (congrArg₂ fillOf ((V32_of m outs c main_v86 (by decide)).trans <| (V31_of m outs c main_v86 (by decide)).trans <| (V30_of m outs c main_v86 (by decide)).trans <| (V29_of m outs c main_v86 (by decide)).trans <| (V28_of m outs c main_v86 (by decide)).trans <| (V27_of m outs c main_v86 (by decide)).trans <| (V26_of m outs c main_v86 (by decide)).trans <| (V25_of m outs c main_v86 (by decide)).trans <| (V24_of m outs c main_v86 (by decide)).trans <| (V23_of m outs c main_v86 (by decide)).trans <| (V22_of m outs c main_v86 (by decide)).trans <| (V21_of m outs c main_v86 (by decide)).trans <| second_order m outs c) (second_place m outs c)))

/-! At the experts' call of this group: -/

theorem second_call_valid (c : Dev nD) : V35 m outs c main_v114 = tileValid (pends (secondWords m c)) :=
  (V35_of m outs c main_v114 (by decide)).trans <| (V34_of m outs c main_v114 (by decide)).trans <| (V33_of m outs c main_v114 (by decide)).trans <| (V32_of m outs c main_v114 (by decide)).trans <| (V31_of m outs c main_v114 (by decide)).trans <| (V30_of m outs c main_v114 (by decide)).trans <| second_valid m outs c
theorem second_call_exp (c : Dev nD) : V35 m outs c main_v116 = tileExp (pends (secondWords m c)) :=
  (V35_of m outs c main_v116 (by decide)).trans <| (V34_of m outs c main_v116 (by decide)).trans <| (V33_of m outs c main_v116 (by decide)).trans <| (V32_of m outs c main_v116 (by decide)).trans <| (V31_of m outs c main_v116 (by decide)).trans <| (V30_of m outs c main_v116 (by decide)).trans <| second_exp m outs c
theorem second_call_slot (c : Dev nD) : V35 m outs c main_v121 = slots (secondWords m c) :=
  (V35_of m outs c main_v121 (by decide)).trans <| (V34_of m outs c main_v121 (by decide)).trans <| (V33_of m outs c main_v121 (by decide)).trans <| (V32_of m outs c main_v121 (by decide)).trans <| (V31_of m outs c main_v121 (by decide)).trans <| (V30_of m outs c main_v121 (by decide)).trans <| second_slot m outs c
theorem second_call_rows (c : Dev nD) : V35 m outs c main_v149 = rowsOf 16384#32 (fills (secondWords m c)) (V34 m outs c main_arg0) :=
  g1_rows (V34 m outs c) (fills (secondWords m c)) (second_token m outs c)

end Cert.KernelIdeal.Host
end
-- ==== Proof.Tables.lean ====
module

public import proofs.«01_k».proof.Proof.Host
public import Idealize.ShloMosaic.Lib.Routing.Ops
public import Idealize.ShloMosaic.Lib.Tactic.WordOmega

@[expose] public section

set_option maxRecDepth 16384

noncomputable section

namespace Cert.Dispatch

open Idealize.ShloMosaic
open Cert.KernelIdeal.Host
open Idealize.ShloMosaic.Routing Idealize.ShloMosaic.ValueIdx

/-- The number of experts whose padded range ends at or before tile `t`. -/
theorem ended_apply (pend : IVec (shape1 8) 32) (p : ℕ → ℕ) (hp : ∀ k : Fin 8, (pend (ix1 k)).toInt = p k.val) (t : Fin 72) :
    ended pend (ix1 t) = BitVec.ofNat 32 (Nat.count (fun k => p k ≤ 512 * t.val) 8) := by
  unfold ended
  refine reduce_count (n := 72) (m := 8) (by decide) _ _ _ _ t (fun k => p k ≤ 512 * t.val) fun k => ?_
  have e : (IntOp.cmpi .sge (IntOp.muli (BitVec.ofNat 32 t.val) 512#32) (pend (ix1 k)) = 1#1) ↔ p k.val ≤ 512 * t.val := by
    have ht := t.isLt
    have hn : (IntOp.muli (BitVec.ofNat 32 t.val) 512#32).toNat = 512 * t.val := by
      show ((BitVec.ofNat 32 t.val) * 512#32).toNat = _
      rw [BitVec.toNat_mul, BitVec.toNat_ofNat, BitVec.toNat_ofNat]
      omega
    have h1 : (IntOp.muli (BitVec.ofNat 32 t.val) 512#32).toInt = 512 * t.val := by
      rw [BitVec.toInt_eq_toNat_cond, hn, if_pos (by omega)]
      omega
    have hb : ∀ b : Bool, BitVec.ofBool b = 1#1 ↔ b = true := by decide
    unfold IntOp.cmpi
    refine (hb _).trans ?_
    show decide ((pend (ix1 k)).toInt ≤ (IntOp.muli (BitVec.ofNat 32 t.val) 512#32).toInt) = true ↔ _
    rw [hp, h1, decide_eq_true_iff]
    omega
  rw [← e]
  show IntOp.cmpi .sge _ _ = 1#1 ↔ _
  rw [bcRows (n := 72) (m := 8), bcCols (n := 72) (m := 8)]
  rfl

/-- However the padded ranges end, a count of them is a word from 0 to 8. -/
theorem ended_small (pend : IVec (shape1 8) 32) (t : Fin 72) : (ended pend (ix1 t)).toNat ≤ 8 := by
  unfold ended
  rw [StableHlo.Predicate.toNat_reduce_count_cols (n := 72) (m := 8) (by decide)]
  exact (Finset.card_le_univ _).trans (by simp)

/-- The tiles' experts are below 8, whatever the routing. -/
theorem tileExp_lt (pend : IVec (shape1 8) 32) (t : Fin 72) : (tileExp pend (ix1 t)).toNat < 8 := by
  have h := ended_small pend t
  show (IntOp.minsi (ended pend (ix1 t)) 7#32).toNat < 8
  generalize ended pend (ix1 t) = w at h
  unfold IntOp.minsi
  split
  · rename_i h2
    have : w.toInt = w.toNat := by rw [BitVec.toInt_eq_toNat_cond, if_pos (by omega)]
    simp [BitVec.sle, BitVec.slt, this] at h2
    omega
  · simp

end Cert.Dispatch
end
-- ==== Proof.Stages.lean ====
module

public import proofs.«01_k».proof.Proof.FirstValue
public import proofs.«01_k».proof.Proof.SecondValue
public import proofs.«01_k».proof.Proof.Third
public import proofs.«01_k».proof.Proof.Fourth
public import proofs.«01_k».proof.Proof.Tables

@[expose] public section

set_option maxRecDepth 16384

noncomputable section

namespace Cert.KernelIdeal.Layer

open Idealize.ShloMosaic Idealize.ShloMosaic.TcCoe
open Idealize.SL.Sem
open Idealize.ShloMosaic.Pipeline (Dat Cfg Window)
open Cert.KernelIdeal.Gen Cert.KernelIdeal.Host

variable {F : FTy → Type} [FloatOps F]
variable (m : (ℓ : Loc nD τ sig) → Buf (Elt F) ℓ)

/-! ## What every buffer holds before and after each of the four calls -/

/-- Before the first call, -/
def W0 (c : Dev nD) : Valuation τ sig (Elt F) := V17 m c

/-- whose table is admissible. -/
theorem ok0 : First.TabsOk (W0 m) := First.tabsOk_of _ fun t => by
  unfold First.expert
  show (V17 m (0 : Dev nD) main_v42 _ : BitVec 32).toNat < 8
  exact (congrArg (fun v : IVec S72 32 => (v (Idealize.ShloMosaic.ix1 t)).toNat) (first_call_exp m 0)).trans_lt (Cert.Dispatch.tileExp_lt _ t)

/-- After it, -/
def U0 (c : Dev nD) : Valuation τ sig (Elt F) := Function.update (W0 m c) main_v76 (First.outArr (W0 m) (ok0 m) c)
def outs1 : Outs (F := F) := fun _ r c => U0 m c r
/-- before the second, -/
def W1 (c : Dev nD) : Valuation τ sig (Elt F) := V35 m (outs1 m) c

theorem ok1 : Second.TabsOk (W1 m) := Second.tabsOk_of _ fun t => by
  unfold Second.expert
  show (V35 m (outs1 m) (0 : Dev nD) main_v116 _ : BitVec 32).toNat < 8
  exact (congrArg (fun v : IVec S72 32 => (v (Idealize.ShloMosaic.ix1 t)).toNat) (second_call_exp m (outs1 m) 0)).trans_lt (Cert.Dispatch.tileExp_lt _ t)

/-- after it, -/
def U1 (c : Dev nD) : Valuation τ sig (Elt F) := Function.update (W1 m c) main_v150 (Second.outArr (W1 m) (ok1 m) c)
def outs2 : Outs (F := F) := fun J r c => if J = 18 then U0 m c r else U1 m c r
/-- before the third, -/
def W2 (c : Dev nD) : Valuation τ sig (Elt F) := V37 m (outs2 m) c
/-- after it, -/
def U2 (c : Dev nD) : Valuation τ sig (Elt F) := Function.update (W2 m c) main_v159 (Third.outArr (W2 m) c)
def outs3 : Outs (F := F) := fun J r c => if J = 18 then U0 m c r else if J = 36 then U1 m c r else U2 m c r
/-- before the fourth, -/
def W3 (c : Dev nD) : Valuation τ sig (Elt F) := V39 m (outs3 m) c
/-- and at the end. -/
def U3 (c : Dev nD) : Valuation τ sig (Elt F) := Function.update (W3 m c) main_v168 (Fourth.outArr (W3 m) c)
def outs : Outs (F := F) := fun J r c => if J = 18 then U0 m c r else if J = 36 then U1 m c r else if J = 38 then U2 m c r else U3 m c r

theorem outs_18 (r : Ref sig .tc) (c : Dev nD) : outs m 18 r c = U0 m c r := by unfold outs; exact if_pos rfl
theorem outs_36 (r : Ref sig .tc) (c : Dev nD) : outs m 36 r c = U1 m c r := by
  unfold outs; exact (if_neg (by decide)).trans (if_pos rfl)
theorem outs_38 (r : Ref sig .tc) (c : Dev nD) : outs m 38 r c = U2 m c r := by
  unfold outs; exact (if_neg (by decide)).trans ((if_neg (by decide)).trans (if_pos rfl))
theorem outs_40 (r : Ref sig .tc) (c : Dev nD) : outs m 40 r c = U3 m c r := by
  unfold outs; exact (if_neg (by decide)).trans ((if_neg (by decide)).trans (if_neg (by decide)))
theorem outs2_18 (r : Ref sig .tc) (c : Dev nD) : outs2 m 18 r c = U0 m c r := by unfold outs2; exact if_pos rfl
theorem outs2_36 (r : Ref sig .tc) (c : Dev nD) : outs2 m 36 r c = U1 m c r := by unfold outs2; exact if_neg (by decide)
theorem outs3_18 (r : Ref sig .tc) (c : Dev nD) : outs3 m 18 r c = U0 m c r := by unfold outs3; exact if_pos rfl
theorem outs3_36 (r : Ref sig .tc) (c : Dev nD) : outs3 m 36 r c = U1 m c r := by
  unfold outs3; exact (if_neg (by decide)).trans (if_pos rfl)
theorem outs3_38 (r : Ref sig .tc) (c : Dev nD) : outs3 m 38 r c = U2 m c r := by
  unfold outs3; exact (if_neg (by decide)).trans (if_neg (by decide))

theorem after_18 (o : Outs (F := F)) (c : Dev nD) (h : o 18 main_v76 c = U0 m c main_v76) : V18 m o c = U0 m c := by
  show Function.update (V17 m c) main_v76 (o 18 main_v76 c) = _
  rw [h]
  unfold U0
  rw [Function.update_self]
  rfl

theorem at_18 (c : Dev nD) : V18 m (outs m) c = U0 m c := after_18 m _ c (outs_18 m _ c)
theorem at_18_1 (c : Dev nD) : V18 m (outs1 m) c = U0 m c := after_18 m _ c rfl
theorem at_18_2 (c : Dev nD) : V18 m (outs2 m) c = U0 m c := after_18 m _ c (outs2_18 m _ c)
theorem at_18_3 (c : Dev nD) : V18 m (outs3 m) c = U0 m c := after_18 m _ c (outs3_18 m _ c)

/-- What the second group's host work finds depends on the first call's result alone. -/
theorem at_35_of (o o' : Outs (F := F)) (c : Dev nD) (h : V18 m o c = V18 m o' c) : V35 m o c = V35 m o' c :=
  congrArg (fun X => StableHlo.after hostOps1_16 (StableHlo.after hostOps1_15 (StableHlo.after hostOps1_14 (StableHlo.after hostOps1_13
    (StableHlo.after hostOps1_12 (StableHlo.after hostOps1_11 (StableHlo.after hostOps1_10 (StableHlo.after hostOps1_9 (StableHlo.after hostOps1_8
    (StableHlo.after hostOps1_7 (StableHlo.after hostOps1_6 (StableHlo.after hostOps1_5 (StableHlo.after hostOps1_4 (StableHlo.after hostOps1_3
    (StableHlo.after hostOps1_2 (StableHlo.after hostOps1_1 (StableHlo.after hostOps1 X))))))))))))))))) h

theorem at_35 (c : Dev nD) : V35 m (outs m) c = W1 m c := at_35_of m _ _ c ((at_18 m c).trans (at_18_1 m c).symm)
theorem at_35_2 (c : Dev nD) : V35 m (outs2 m) c = W1 m c := at_35_of m _ _ c ((at_18_2 m c).trans (at_18_1 m c).symm)
theorem at_35_3 (c : Dev nD) : V35 m (outs3 m) c = W1 m c := at_35_of m _ _ c ((at_18_3 m c).trans (at_18_1 m c).symm)

theorem after_36 (o : Outs (F := F)) (c : Dev nD) (h : V35 m o c = W1 m c) (h' : o 36 main_v150 c = U1 m c main_v150) : V36 m o c = U1 m c := by
  show Function.update (V35 m o c) main_v150 (o 36 main_v150 c) = _
  rw [h, h']
  unfold U1
  rw [Function.update_self]

theorem at_36 (c : Dev nD) : V36 m (outs m) c = U1 m c := after_36 m _ c (at_35 m c) (outs_36 m _ c)
theorem at_36_2 (c : Dev nD) : V36 m (outs2 m) c = U1 m c := after_36 m _ c (at_35_2 m c) (outs2_36 m _ c)
theorem at_36_3 (c : Dev nD) : V36 m (outs3 m) c = U1 m c := after_36 m _ c (at_35_3 m c) (outs3_36 m _ c)

theorem at_37 (c : Dev nD) : V37 m (outs m) c = W2 m c :=
  congrArg (StableHlo.after hostOps2) ((at_36 m c).trans (at_36_2 m c).symm)
theorem at_37_3 (c : Dev nD) : V37 m (outs3 m) c = W2 m c :=
  congrArg (StableHlo.after hostOps2) ((at_36_3 m c).trans (at_36_2 m c).symm)

theorem after_38 (o : Outs (F := F)) (c : Dev nD) (h : V37 m o c = W2 m c) (h' : ∀ r, o 38 r c = U2 m c r) : V38 m o c = U2 m c := by
  show Function.update (Function.update (V37 m o c) main_v159 (o 38 main_v159 c)) main_v150 (o 38 main_v150 c) = _
  rw [h, h', h']
  have e : Function.update (W2 m c) main_v159 (U2 m c main_v159) = U2 m c := by
    unfold U2
    rw [Function.update_self]
  rw [e]
  exact Function.update_eq_self _ _

theorem at_38 (c : Dev nD) : V38 m (outs m) c = U2 m c := after_38 m _ c (at_37 m c) fun r => outs_38 m r c
theorem at_38_3 (c : Dev nD) : V38 m (outs3 m) c = U2 m c := after_38 m _ c (at_37_3 m c) fun r => outs3_38 m r c

theorem at_39 (c : Dev nD) : V39 m (outs m) c = W3 m c :=
  congrArg (StableHlo.after hostOps3) ((at_38 m c).trans (at_38_3 m c).symm)

theorem at_40 (c : Dev nD) : V40 m (outs m) c = U3 m c := by
  show Function.update (V39 m (outs m) c) main_v168 (outs m 40 main_v168 c) = _
  rw [at_39, outs_40]
  unfold U3
  rw [Function.update_self]

/-! ## The four calls' tables and proof data -/

/-- The tables of the experts' calls; the combining calls have none. -/
def adm : (p : Fin 4) → (pcfgs (F := F) p).Adm
  | ⟨0, _⟩ => First.admT (W0 m) (ok0 m)
  | ⟨1, _⟩ => Second.admT (W1 m) (ok1 m)
  | ⟨2, _⟩ => ⟨fun k => k.elim0, trivial⟩
  | ⟨3, _⟩ => ⟨fun k => k.elim0, trivial⟩

/-- Each call's proof data, at what its buffers hold before it. -/
def pdats : (p : Fin 4) → (c : Dev nD) → Dat τ (Elt F) Unit ℕ (UR sig nD τ) ℕ (Pipeline.pin (pcfgs (F := F)) (adm m) p) c
  | ⟨0, _⟩ => fun c => First.data (W0 m) (ok0 m) c
  | ⟨1, _⟩ => fun c => Second.data (W1 m) (ok1 m) c
  | ⟨2, _⟩ => fun c => Third.data (W2 m) c
  | ⟨3, _⟩ => fun c => Fourth.data (W3 m) c

end Cert.KernelIdeal.Layer
end
-- ==== Proof.Records.lean ====
module

public import proofs.«01_k».proof.Proof.Stages
public import Idealize.ShloMosaic.Lib.Pipeline.RegionsLoop

@[expose] public section

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation RegionSeg)
open Cert.KernelIdeal.Gen Cert.KernelIdeal.Host

variable {F : FTy → Type} [FloatOps F]
variable (m : (ℓ : Loc nD τ sig) → Buf (Elt F) ℓ)

/-- Only the tensor core's cells carry a level, the same for all; no core owes another anything. -/
def L : GSem nD τ sig → Finset Unit := fun g => if g.1.2 = .tc then {()} else ∅
def lv : GSem nD τ sig → Unit → ℕ := fun _ _ => 0

/-- What rides along beside the buffers: the core owing nothing. -/
def rest (c : Dev nD) : sProp (MT nD τ sig Unit (Elt F) ℕ (UR sig nD τ) ℕ) :=
  iprop((∃ Wd, owes (c : Thread nD τ) (0 : CellTallies nD τ sig Unit) Wd) ∗ BI.emp ∗ BI.emp)

abbrev S : Finset (DevRef τ sig) := Pipeline.ucRefs τ sig

theorem cut (p : Fin 4) : Pipeline.LevelCut (pcfgs (F := F)) (adm m) () L lv p (fun _ => 0) (fun _ => 0) where
  hι c w s := by unfold L; rw [if_pos rfl]; exact Finset.mem_singleton_self _
  hιb c w s := le_refl _
  hD c g i h := absurd h (by simp)

/-- A call with one result leaves every buffer but that result's array as it was. -/
theorem afterRegion_one {cfg : Cfg sig Λ₀} {c : Dev nD} (dat : Dat τ (Elt F) Unit ℕ (UR sig nD τ) ℕ cfg c) (X : Valuation τ sig (Elt F))
    (hinj : Function.Injective (Pipeline.arrRef cfg.spec)) (o : Fin cfg.W)
    (hin : ∀ w, w ≠ o → dat.arrAt w cfg.N = X (Proc.devRef .tc (Pipeline.arrRef cfg.spec w))) :
    Pipeline.afterRegion dat X = Function.update X (Proc.devRef .tc (Pipeline.arrRef cfg.spec o)) (dat.arrAt o cfg.N) := by
  funext b
  by_cases h : ∃ w : Fin cfg.W, b = Proc.devRef .tc (Pipeline.arrRef cfg.spec w)
  · obtain ⟨w, rfl⟩ := h
    rw [Pipeline.afterRegion_arr dat X hinj w]
    by_cases hw : w = o
    · subst hw; rw [Function.update_self]
    · have hne : (Proc.devRef .tc (Pipeline.arrRef cfg.spec w) : DevRef τ sig) ≠ Proc.devRef .tc (Pipeline.arrRef cfg.spec o) :=
        fun hh => hw (hinj (Proc.devRef_injective _ hh))
      rw [hin w hw, Function.update_of_ne hne]
  · unfold Pipeline.afterRegion
    rw [dif_neg h]
    rw [Function.update_of_ne fun hh => h ⟨o, hh⟩]

set_option backward.isDefEq.respectTransparency.types false in
/-- The first experts' call as a segment. -/
def reg0 : RegionSeg (pcfgs (F := F)) (adm m) (pdats m) () defs₀ Variants.none L lv 0 :=
  RegionSeg.ofHeldInT (pcfgs (F := F)) (adm m) (pdats m) () defs₀ Variants.none L lv 0 (fun _ => 0) S (fun _ => BI.emp) (fun _ => BI.emp) launch0
    (fun c => (First.body_obl (W0 m) (ok0 m) c).loose) (fun _ _ => rfl) (fun _ => rfl)
    (fun c => (pdats m 0 c).share_full fun _ => rfl)
    (fun c => by
      show _ ⊢ iprop(Pipeline.scopedRest spec0 c ∗ Pipeline.prefHeld pre0 c (fun _ => fullShare) (First.tabs (W0 m)))
      iintro ⟨⟨Hr, -⟩, Ht⟩
      isplitl [Hr]; · iexact Hr
      iexact Ht)
    (fun c => by
      show iprop(Pipeline.scopedRest spec0 c ∗ Pipeline.prefHeld pre0 c (fun _ => fullShare) (First.tabs (W0 m))) ⊢ _
      iintro ⟨Hr, Ht⟩
      isplitl [Hr]
      · isplitl [Hr]; · iexact Hr
        iempintro
      iexact Ht)
    (fun _ => 0) (cut m 0) (fun _ => BI.emp) (W0 m)
    (fun c w => First.data_A (W0 m) (ok0 m) c w) (fun c k => First.tabs_eq (W0 m) c k)
set_option backward.isDefEq.respectTransparency.types false in
/-- The second experts' call as a segment. -/
def reg1 : RegionSeg (pcfgs (F := F)) (adm m) (pdats m) () defs₀ Variants.none L lv 1 :=
  RegionSeg.ofHeldInT (pcfgs (F := F)) (adm m) (pdats m) () defs₀ Variants.none L lv 1 (fun _ => 0) S (fun _ => BI.emp) (fun _ => BI.emp) launch1
    (fun c => (Second.body_obl (W1 m) (ok1 m) c).loose) (fun _ _ => rfl) (fun _ => rfl)
    (fun c => (pdats m 1 c).share_full fun _ => rfl)
    (fun c => by
      show _ ⊢ iprop(Pipeline.scopedRest spec1 c ∗ Pipeline.prefHeld pre1 c (fun _ => fullShare) (Second.tabs (W1 m)))
      iintro ⟨⟨Hr, -⟩, Ht⟩
      isplitl [Hr]; · iexact Hr
      iexact Ht)
    (fun c => by
      show iprop(Pipeline.scopedRest spec1 c ∗ Pipeline.prefHeld pre1 c (fun _ => fullShare) (Second.tabs (W1 m))) ⊢ _
      iintro ⟨Hr, Ht⟩
      isplitl [Hr]
      · isplitl [Hr]; · iexact Hr
        iempintro
      iexact Ht)
    (fun _ => 0) (cut m 1) (fun _ => BI.emp) (W1 m)
    (fun c w => Second.data_A (W1 m) (ok1 m) c w) (fun c k => Second.tabs_eq (W1 m) c k)

theorem third_kept (c : Dev nD) (b : Ref sig .tc) (h : b ≠ main_v159) : U2 m c b = W2 m c b := by
  unfold U2
  rw [Function.update_of_ne (StableHlo.devRef_ne_of_ne h : (Proc.devRef .tc b : DevRef τ sig) ≠ Proc.devRef .tc main_v159)]

theorem third_left (c : Dev nD) (w : Fin 6) : (Third.data (W2 m) c).arrAt w cfg2.N = U2 m c (Pipeline.arrRef spec2 w) := by
  by_cases h : w = 5
  · subst h
    unfold U2
    exact (Function.update_self (Proc.devRef .tc main_v159 : DevRef τ sig) (Third.outArr (W2 m) c) (W2 m c)).symm
  · exact (((Third.data (W2 m) c).arrAt_in w (by revert w; decide) _).trans (Third.data_A (W2 m) c w)).trans
      (third_kept m c _ (by revert w; decide)).symm

set_option backward.isDefEq.respectTransparency.types false in
/-- The third call as a segment: its two readings of the gathered rows share one array. -/
def reg2 : RegionSeg (pcfgs (F := F)) (adm m) (pdats m) () defs₀ Variants.none L lv 2 where
  win := (launch₀2 (F := F)).win
  block_pos := (launch₀2 (F := F)).block_pos
  stage_whole := (launch₀2 (F := F)).stage_whole
  K := PEmpty
  osem k := k.elim
  ho := Pipeline.OwnSemFacts.none _
  hbody c := (Third.body_obl (W2 m) c).loose
  hwaits := Pipeline.hwaits_of_owed_zero _ _ _ _ L lv 2 fun _ _ => rfl
  pre c := iprop(unscopedBufs c (fun b => W2 m c b) ∗ rest c)
  post c := iprop(unscopedBufs c (fun b => U2 m c b) ∗ rest c)
  X _ := BI.emp
  Y _ := BI.emp
  Z c := Pipeline.unscopedRest (Ix := Unit) (Name := ℕ) (U := UR sig nD τ) (Lvl := ℕ) spec2 c (fun b => W2 m c b)
  hentry c := by
    rw [Pipeline.ownSems0_none]
    have hsplit := Pipeline.arrays_of_unscopedBufs_shared (p := 2) (pcfgs (F := F)) (adm m) (pdats m) (launch₀2 (F := F)).win sharedIn2 arr_whole2 c
      (fun _ _ => rfl) (fun b => W2 m c b) fun w => Third.data_A (W2 m) c w
    unfold rest
    iintro ⟨⟨Hub, HO, -⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitr; · iempintro
    iexact Hrest
  hin c := by
    rw [show (pdats m 2 c).Φ 0 = Pipeline.scopedRest spec2 c from rfl]
    iintro ⟨-, -, Hr⟩; iexact Hr
  hout c := by
    rw [Pipeline.ownSems0_none, show (pdats m 2 c).Φ (Fin.last _) = Pipeline.scopedRest spec2 c from rfl]
    iintro Hr
    isplitr; · iempintro
    isplitr; · iempintro
    iexact Hr
  hexit c := by
    have hjoin := Pipeline.unscopedBufs_of_arrays_shared (p := 2) (pcfgs (F := F)) (adm m) (Ix := Unit) (Name := ℕ) (U := UR sig nD τ) (Lvl := ℕ)
      (launch₀2 (F := F)).win sharedIn2 arr_whole2 c (pdats m) (fun _ _ => rfl) (fun b => W2 m c b) (fun b => U2 m c b) ((pdats m 2 c).arrAt · cfg2.N)
      (fun w => (third_left m c w)) (fun b hb => third_kept m c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold rest Pipeline.Dat.owesAt Pipeline.owesWithin
    icases HO with ⟨%Wd, -, HO⟩
    isplitl [HO]; · iexists Wd; iexact HO
    isplitr; · iempintro
    iempintro

theorem fourth_kept (c : Dev nD) (b : Ref sig .tc) (h : b ≠ main_v168) : U3 m c b = W3 m c b := by
  unfold U3
  rw [Function.update_of_ne (StableHlo.devRef_ne_of_ne h : (Proc.devRef .tc b : DevRef τ sig) ≠ Proc.devRef .tc main_v168)]

theorem fourth_left (c : Dev nD) (w : Fin 6) : (Fourth.data (W3 m) c).arrAt w cfg3.N = U3 m c (Pipeline.arrRef spec3 w) := by
  by_cases h : w = 5
  · subst h
    unfold U3
    exact (Function.update_self (Proc.devRef .tc main_v168 : DevRef τ sig) (Fourth.outArr (W3 m) c) (W3 m c)).symm
  · exact (((Fourth.data (W3 m) c).arrAt_in w (by revert w; decide) _).trans (Fourth.data_A (W3 m) c w)).trans
      (fourth_kept m c _ (by revert w; decide)).symm

set_option backward.isDefEq.respectTransparency.types false in
/-- The fourth call as a segment: its two readings of the gathered rows share one array. -/
def reg3 : RegionSeg (pcfgs (F := F)) (adm m) (pdats m) () defs₀ Variants.none L lv 3 where
  win := (launch₀3 (F := F)).win
  block_pos := (launch₀3 (F := F)).block_pos
  stage_whole := (launch₀3 (F := F)).stage_whole
  K := PEmpty
  osem k := k.elim
  ho := Pipeline.OwnSemFacts.none _
  hbody c := (Fourth.body_obl (W3 m) c).loose
  hwaits := Pipeline.hwaits_of_owed_zero _ _ _ _ L lv 3 fun _ _ => rfl
  pre c := iprop(unscopedBufs c (fun b => W3 m c b) ∗ rest c)
  post c := iprop(unscopedBufs c (fun b => U3 m c b) ∗ rest c)
  X _ := BI.emp
  Y _ := BI.emp
  Z c := Pipeline.unscopedRest (Ix := Unit) (Name := ℕ) (U := UR sig nD τ) (Lvl := ℕ) spec3 c (fun b => W3 m c b)
  hentry c := by
    rw [Pipeline.ownSems0_none]
    have hsplit := Pipeline.arrays_of_unscopedBufs_shared (p := 3) (pcfgs (F := F)) (adm m) (pdats m) (launch₀3 (F := F)).win sharedIn3 arr_whole3 c
      (fun _ _ => rfl) (fun b => W3 m c b) fun w => Fourth.data_A (W3 m) c w
    unfold rest
    iintro ⟨⟨Hub, HO, -⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitr; · iempintro
    iexact Hrest
  hin c := by
    rw [show (pdats m 3 c).Φ 0 = Pipeline.scopedRest spec3 c from rfl]
    iintro ⟨-, -, Hr⟩; iexact Hr
  hout c := by
    rw [Pipeline.ownSems0_none, show (pdats m 3 c).Φ (Fin.last _) = Pipeline.scopedRest spec3 c from rfl]
    iintro Hr
    isplitr; · iempintro
    isplitr; · iempintro
    iexact Hr
  hexit c := by
    have hjoin := Pipeline.unscopedBufs_of_arrays_shared (p := 3) (pcfgs (F := F)) (adm m) (Ix := Unit) (Name := ℕ) (U := UR sig nD τ) (Lvl := ℕ)
      (launch₀3 (F := F)).win sharedIn3 arr_whole3 c (pdats m) (fun _ _ => rfl) (fun b => W3 m c b) (fun b => U3 m c b) ((pdats m 3 c).arrAt · cfg3.N)
      (fun w => (fourth_left m c w)) (fun b hb => fourth_kept m c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold rest Pipeline.Dat.owesAt Pipeline.owesWithin
    icases HO with ⟨%Wd, -, HO⟩
    isplitl [HO]; · iexists Wd; iexact HO
    isplitr; · iempintro
    iempintro

end Cert.KernelIdeal.Layer
end
-- ==== Proof.Joints.lean ====
module

public import proofs.«01_k».proof.Proof.Records

@[expose] public section

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation RegionSeg)
open Cert.KernelIdeal.Gen Cert.KernelIdeal.Host

variable {F : FTy → Type} [FloatOps F]
variable (m : (ℓ : Loc nD τ sig) → Buf (Elt F) ℓ)

theorem held_of_eq (X Y : Valuation τ sig (Elt F)) (h : X = Y) (c : Dev nD) :
    iprop(StableHlo.held (c : Thread nD τ) (Pipeline.ucRefs τ sig) X ∗ rest (F := F) c)
      ⊢ iprop(StableHlo.held (c : Thread nD τ) (Pipeline.ucRefs τ sig) Y ∗ rest c) := by
  subst h
  exact BIBase.Entails.rfl

theorem arrs0 : Pipeline.arrRefs spec0 ⊆ Pipeline.ucRefs τ sig := by decide +kernel
theorem tbls0 : Pipeline.tblRefs pre0 ⊆ Pipeline.ucRefs τ sig := by decide +kernel

theorem arrs0' : Pipeline.arrRefs (pcfgs (F := F) 0).spec ⊆ Pipeline.ucRefs τ sig := arrs0
theorem tbls0' : Pipeline.tblRefs (pcfgs (F := F) 0).pre ⊆ Pipeline.ucRefs τ sig := tbls0

theorem after_reg0 (c : Dev nD) : Pipeline.afterRegion (pdats m 0 c) (W0 m c) = U0 m c :=
    afterRegion_one (First.data (W0 m) (ok0 m) c) (W0 m c) (launch0 (F := F)).win.arr_inj 4 fun w hw =>
      ((First.data (W0 m) (ok0 m) c).arrAt_in w (match w, hw with | ⟨0, _⟩, _ => rfl | ⟨1, _⟩, _ => rfl | ⟨2, _⟩, _ => rfl | ⟨3, _⟩, _ => rfl | ⟨4, _⟩, h => absurd rfl h) _).trans (First.data_A (W0 m) (ok0 m) c w)

set_option backward.isDefEq.respectTransparency.types false in
theorem pre0 (c : Dev nD) : iprop(StableHlo.held (c : Thread nD τ) (Pipeline.ucRefs τ sig) (W0 m c) ∗ rest c) ⊢ (reg0 (F := F) m).pre c := by
  unfold reg0 rest
  refine BIBase.Entails.trans ?_ (RegionSeg.ofHeldInT_pre (pcs := pcfgs (F := F)) (p := 0) (S := S) (D := fun _ => 0) (X := fun _ => BI.emp) (Y := fun _ => BI.emp)
    (R := fun _ => BI.emp) (W := W0 m) arrs0' tbls0' c)
  exact BIBase.Entails.rfl

set_option backward.isDefEq.respectTransparency.types false in
theorem post0 (c : Dev nD) : (reg0 (F := F) m).post c ⊢ iprop(StableHlo.held (c : Thread nD τ) (Pipeline.ucRefs τ sig) (U0 m c) ∗ rest c) := by
  rw [← after_reg0]
  unfold reg0 rest
  exact RegionSeg.ofHeldInT_post (pcs := pcfgs (F := F)) (p := 0) arrs0' tbls0' c

theorem arrs1 : Pipeline.arrRefs spec1 ⊆ Pipeline.ucRefs τ sig := by decide +kernel
theorem tbls1 : Pipeline.tblRefs pre1 ⊆ Pipeline.ucRefs τ sig := by decide +kernel

theorem arrs1' : Pipeline.arrRefs (pcfgs (F := F) 1).spec ⊆ Pipeline.ucRefs τ sig := arrs1
theorem tbls1' : Pipeline.tblRefs (pcfgs (F := F) 1).pre ⊆ Pipeline.ucRefs τ sig := tbls1

theorem after_reg1 (c : Dev nD) : Pipeline.afterRegion (pdats m 1 c) (W1 m c) = U1 m c :=
    afterRegion_one (Second.data (W1 m) (ok1 m) c) (W1 m c) (launch1 (F := F)).win.arr_inj 4 fun w hw =>
      ((Second.data (W1 m) (ok1 m) c).arrAt_in w (match w, hw with | ⟨0, _⟩, _ => rfl | ⟨1, _⟩, _ => rfl | ⟨2, _⟩, _ => rfl | ⟨3, _⟩, _ => rfl | ⟨4, _⟩, h => absurd rfl h) _).trans (Second.data_A (W1 m) (ok1 m) c w)

set_option backward.isDefEq.respectTransparency.types false in
theorem pre1 (c : Dev nD) : iprop(StableHlo.held (c : Thread nD τ) (Pipeline.ucRefs τ sig) (W1 m c) ∗ rest c) ⊢ (reg1 (F := F) m).pre c := by
  unfold reg1 rest
  refine BIBase.Entails.trans ?_ (RegionSeg.ofHeldInT_pre (pcs := pcfgs (F := F)) (p := 1) (S := S) (D := fun _ => 0) (X := fun _ => BI.emp) (Y := fun _ => BI.emp)
    (R := fun _ => BI.emp) (W := W1 m) arrs1' tbls1' c)
  exact BIBase.Entails.rfl

set_option backward.isDefEq.respectTransparency.types false in
theorem post1 (c : Dev nD) : (reg1 (F := F) m).post c ⊢ iprop(StableHlo.held (c : Thread nD τ) (Pipeline.ucRefs τ sig) (U1 m c) ∗ rest c) := by
  rw [← after_reg1]
  unfold reg1 rest
  exact RegionSeg.ofHeldInT_post (pcs := pcfgs (F := F)) (p := 1) arrs1' tbls1' c

theorem pre2 (c : Dev nD) : iprop(StableHlo.held (c : Thread nD τ) (Pipeline.ucRefs τ sig) (W2 m c) ∗ rest c) ⊢ (reg2 (F := F) m).pre c := by
  unfold reg2
  dsimp only
  rw [Pipeline.unscopedBufs_held (Ix := Unit) (Name := ℕ) (U := UR sig nD τ) (Lvl := ℕ) c (W2 m c)]

theorem post2 (c : Dev nD) : (reg2 (F := F) m).post c ⊢ iprop(StableHlo.held (c : Thread nD τ) (Pipeline.ucRefs τ sig) (U2 m c) ∗ rest c) := by
  unfold reg2
  dsimp only
  rw [Pipeline.unscopedBufs_held (Ix := Unit) (Name := ℕ) (U := UR sig nD τ) (Lvl := ℕ) c (U2 m c)]

theorem pre3 (c : Dev nD) : iprop(StableHlo.held (c : Thread nD τ) (Pipeline.ucRefs τ sig) (W3 m c) ∗ rest c) ⊢ (reg3 (F := F) m).pre c := by
  unfold reg3
  dsimp only
  rw [Pipeline.unscopedBufs_held (Ix := Unit) (Name := ℕ) (U := UR sig nD τ) (Lvl := ℕ) c (W3 m c)]

theorem post3 (c : Dev nD) : (reg3 (F := F) m).post c ⊢ iprop(StableHlo.held (c : Thread nD τ) (Pipeline.ucRefs τ sig) (U3 m c) ∗ rest c) := by
  unfold reg3
  dsimp only
  rw [Pipeline.unscopedBufs_held (Ix := Unit) (Name := ℕ) (U := UR sig nD τ) (Lvl := ℕ) c (U3 m c)]

end Cert.KernelIdeal.Layer
end
-- ==== Proof.Run.lean ====
module

public import proofs.«01_k».proof.Proof.Joints

@[expose] public section

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation RegionSeg Seg)
open Idealize.ShloMosaic.Rounds
open Cert.KernelIdeal.Gen Cert.KernelIdeal.Host

variable {F : FTy → Type} [FloatOps F]
variable (m : (ℓ : Loc nD τ sig) → Buf (Elt F) ℓ)

/-- The rounds of all four calls' pipelines at the launch. -/
def start : UR sig nD τ := Rounds.initOf (Pipeline.cells (Pipeline.pin (pcfgs (F := F)) (adm m)) (cellOf_inj (adm m)))
  (Pipeline.launchToks (Pipeline.pin (pcfgs (F := F)) (adm m)) (cellOf_inj (adm m)))

theorem enough : (ownU (start m) : sProp (MT nD τ sig Unit (Elt F) ℕ (UR sig nD τ) ℕ))
    ⊢ |={Set.univ}=> iprop(BI.own ((emb₁ : Emb (URounds (GSem nD τ sig) Unit) (MT nD τ sig Unit (Elt F) ℕ (UR sig nD τ) ℕ)) (start m)) ∗ bigSep Finset.univ fun _ : Dev nD => BI.emp) := by
  rw [BI.bigSep_emp_const, ownU_emb₁]
  iintro H
  imodintro
  isplitl [H]
  · iexact H
  iempintro

theorem resting (ρ : Dev nD → PrngReg) : iprop((bigSep Finset.univ fun c : Dev nD => iprop(unscopedSems0 c ∗ owes (c : Thread nD τ) (0 : CellTallies nD τ sig Unit) ∅
      ∗ Pipeline.launchCred (fun _ => (0 : CellTallies nD τ sig Unit)) c ∗ prngReg c (ρ c) ∗ BI.emp)) ∗ levAts L lv)
    ⊢ (|={Set.univ}=> bigSep Finset.univ fun c => rest c : sProp (MT nD τ sig Unit (Elt F) ℕ (UR sig nD τ) ℕ)) := by
  iintro ⟨H, -⟩
  imodintro
  have h : (bigSep Finset.univ fun c : Dev nD => iprop(unscopedSems0 c ∗ owes (c : Thread nD τ) (0 : CellTallies nD τ sig Unit) ∅
      ∗ Pipeline.launchCred (fun _ => (0 : CellTallies nD τ sig Unit)) c ∗ prngReg c (ρ c) ∗ BI.emp))
      ⊢ (bigSep Finset.univ fun c => rest c : sProp (MT nD τ sig Unit (Elt F) ℕ (UR sig nD τ) ℕ)) :=
    bigSep_mono fun c _ => by
      unfold rest
      show iprop(unscopedSems0 c ∗ owes (c : Thread nD τ) (0 : CellTallies nD τ sig Unit) ∅
        ∗ Pipeline.launchCred (fun _ => (0 : CellTallies nD τ sig Unit)) c ∗ prngReg c (ρ c) ∗ BI.emp)
        ⊢ iprop((∃ Wd, owes (c : Thread nD τ) (0 : CellTallies nD τ sig Unit) Wd) ∗ BI.emp ∗ BI.emp)
      iintro ⟨-, HO, -⟩
      isplitl [HO]; · iexists ∅; iexact HO
      isplitr; · iempintro
      iempintro
  iapply h
  iexact H

/-- Nothing is owed at the end. -/
theorem resting_end (c : Dev nD) : rest c ⊢ (iprop(∃ Wd, owes (c : Thread nD τ) (0 : CellTallies nD τ sig Unit) Wd) : sProp (MT nD τ sig Unit (Elt F) ℕ (UR sig nD τ) ℕ)) := by
  unfold rest
  iintro ⟨HO, -⟩
  iexact HO

set_option backward.isDefEq.respectTransparency.types false in
/-- Every run of the layer ends, leaves in the result's buffer what the fourth call writes there, the arguments as they were and every
    counter at zero. -/
theorem run (ρ : Dev nD → PrngReg) : θ_run defs (onTc (τ := τ) (main (F := F))) ⟨m, fun _ => 0, ρ⟩ (fun r => (∀ c : Dev nD,
      r.2.mem ((c.tc : Thread nD τ).loc main_v168) = U3 m c main_v168
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) := by
  refine Pipeline.θ_run_regions_kit_dev_sems (pcfgs (F := F)) (adm m) (pdats m) () (cellOf_inj (adm m)) emb₁ defs₀ Variants.none L lv m ρ main
    (segs m (outs m) Variants.none L lv (fun _ => rest) () (adm m) (pdats m) (reg0 m) (reg1 m) (reg2 m) (reg3 m))
    (fun c Q => by
      rewrite [main_chain c, Seg.run_eq_chain,
        show (segs m (outs m) Variants.none L lv (fun _ => rest) () (adm m) (pdats m) (reg0 m) (reg1 m) (reg2 m) (reg3 m) c).map Seg.prog = [ StableHlo.seq hostOps0, StableHlo.seq hostOps0_1, StableHlo.seq hostOps0_2, StableHlo.seq hostOps0_3, StableHlo.seq hostOps0_4, StableHlo.seq hostOps0_5, StableHlo.seq hostOps0_6, StableHlo.seq hostOps0_7, StableHlo.seq hostOps0_8, StableHlo.seq hostOps0_9, StableHlo.seq hostOps0_10, StableHlo.seq hostOps0_11, StableHlo.seq hostOps0_12, StableHlo.seq hostOps0_13, StableHlo.seq hostOps0_14, StableHlo.seq hostOps0_15, StableHlo.seq hostOps0_16, Prog.lift (.customCall (Pipeline.entry 0) ()), StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8, StableHlo.seq hostOps1_9, StableHlo.seq hostOps1_10, StableHlo.seq hostOps1_11, StableHlo.seq hostOps1_12, StableHlo.seq hostOps1_13, StableHlo.seq hostOps1_14, StableHlo.seq hostOps1_15, StableHlo.seq hostOps1_16, Prog.lift (.customCall (Pipeline.entry 1) ()), StableHlo.seq hostOps2, Prog.lift (.customCall (Pipeline.entry 2) ()), StableHlo.seq hostOps3, Prog.lift (.customCall (Pipeline.entry 3) ()) ] from rfl]
      dsimp (config := { failIfUnchanged := false }) only
      exact .rfl)
    (fun c => by simp only [segs, Seg.pipes_host, Seg.pipes_region, Seg.pipes_nil]; decide) (fun _ => 0) (fun g hg => if_neg hg) (fun _ => BI.emp) (start m) (enough m)
    (T₀ := fun c => iprop(StableHlo.held (c : Thread nD τ) (Pipeline.ucRefs τ sig) (V0 m c) ∗ rest c))
    (Tₙ := fun c => StableHlo.held (c : Thread nD τ) (Pipeline.ucRefs τ sig) (V40 m (outs m) c))
    (hch := fun c => ⟨.rfl, .rfl, .rfl, .rfl, .rfl, .rfl, .rfl, .rfl, .rfl, .rfl, .rfl, .rfl, .rfl, .rfl, .rfl, .rfl, .rfl,
      (held_of_eq _ _ rfl c).trans (pre0 m c), (post0 m c).trans (held_of_eq _ _ (at_18 m c).symm c), .rfl, .rfl, .rfl, .rfl, .rfl, .rfl, .rfl, .rfl, .rfl, .rfl, .rfl, .rfl, .rfl, .rfl, .rfl, .rfl,
      (held_of_eq _ _ (at_35 m c) c).trans (pre1 m c), (post1 m c).trans (held_of_eq _ _ (at_36 m c).symm c),
      (held_of_eq _ _ (at_37 m c) c).trans (pre2 m c), (post2 m c).trans (held_of_eq _ _ (at_38 m c).symm c),
      (held_of_eq _ _ (at_39 m c) c).trans (pre3 m c), (post3 m c).trans ((held_of_eq _ _ (at_40 m c).symm c).trans (sep_mono .rfl (resting_end c)))⟩)
    (hinit := ?_) (QY := fun c s => s.mem ((c.tc : Thread nD τ).loc main_v168) = U3 m c main_v168 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => (0 : CellTallies nD τ sig Unit)) c ∗ prngReg c (ρ c) ∗ BI.emp))
            : sProp (MT nD τ sig Unit (Elt F) ℕ (UR sig nD τ) ℕ)) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (resting ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V40 m (outs m) c) s') $$ [Hh HSI]
    · isplitl [Hh] <;> iassumption
    icases Hr with ⟨%h, HSI⟩
    imodintro
    isplitr
    · ipureintro
      exact ⟨(h (Proc.devRef .tc main_v168) (Finset.mem_filter.mpr ⟨StableHlo.devRef_mem_tcRefs main_v168, by decide⟩)).trans (congrFun (at_40 m c) (Proc.devRef .tc main_v168)),
        (h (Proc.devRef .tc main_arg0) (Finset.mem_filter.mpr ⟨StableHlo.devRef_mem_tcRefs main_arg0, by decide⟩)).trans (V40_main_arg0 m (outs m) c),
        (h (Proc.devRef .tc main_arg1) (Finset.mem_filter.mpr ⟨StableHlo.devRef_mem_tcRefs main_arg1, by decide⟩)).trans (V40_main_arg1 m (outs m) c),
        (h (Proc.devRef .tc main_arg2) (Finset.mem_filter.mpr ⟨StableHlo.devRef_mem_tcRefs main_arg2, by decide⟩)).trans (V40_main_arg2 m (outs m) c),
        (h (Proc.devRef .tc main_arg3) (Finset.mem_filter.mpr ⟨StableHlo.devRef_mem_tcRefs main_arg3, by decide⟩)).trans (V40_main_arg3 m (outs m) c),
        (h (Proc.devRef .tc main_arg4) (Finset.mem_filter.mpr ⟨StableHlo.devRef_mem_tcRefs main_arg4, by decide⟩)).trans (V40_main_arg4 m (outs m) c),
        (h (Proc.devRef .tc main_arg5) (Finset.mem_filter.mpr ⟨StableHlo.devRef_mem_tcRefs main_arg5, by decide⟩)).trans (V40_main_arg5 m (outs m) c),
        (h (Proc.devRef .tc main_arg6) (Finset.mem_filter.mpr ⟨StableHlo.devRef_mem_tcRefs main_arg6, by decide⟩)).trans (V40_main_arg6 m (outs m) c)⟩
    · iexact HSI

end Cert.KernelIdeal.Layer
end
-- ==== Proof.HostEnd.lean ====
module

public import proofs.«01_k».proof.Proof.Host

@[expose] public section

set_option maxRecDepth 16384

noncomputable section

namespace Cert.KernelIdeal.Host

open Idealize.ShloMosaic Idealize.ShloMosaic.TcCoe
open Idealize.ShloMosaic.StableHlo
open Cert.KernelIdeal.Gen

variable {F : FTy → Type} [FloatOps F]

/-! ## The stretches before the combining calls, from any contents `X` before them -/

theorem collect_first (X : Valuation τ sig (Elt F)) : StableHlo.after hostOps2 X main_v158 = collect (X main_v47) (X main_v76) := by
  after_results_simp
  try simp only [TRef.ofBuf, TRef.toBuf, cast_eq]
  try rfl
theorem copy_first (X : Valuation τ sig (Elt F)) : StableHlo.after hostOps2 X main_v159 = X main_arg1 := by
  after_results_simp
  try simp only [TRef.ofBuf, TRef.toBuf, cast_eq]
  try rfl
theorem collect_second (X : Valuation τ sig (Elt F)) : StableHlo.after hostOps3 X main_v167 = collect (X main_v121) (X main_v150) := by
  after_results_simp
  try simp only [TRef.ofBuf, TRef.toBuf, cast_eq]
  try rfl
theorem copy_second (X : Valuation τ sig (Elt F)) : StableHlo.after hostOps3 X main_v168 = X main_v159 := by
  after_results_simp
  try simp only [TRef.ofBuf, TRef.toBuf, cast_eq]
  try rfl

variable (m : (ℓ : Loc nD τ sig) → Buf (Elt F) ℓ)

/-- The weights as the calls take them. -/
theorem first_w1 (c : Dev nD) : V1 m c main_v0 = truncf .bf16 (m ((c : Thread nD τ).loc main_arg4)) bitsLt_bf16_f32 := by
  after_results_simp
  try simp only [TRef.ofBuf, TRef.toBuf, cast_eq]
  try rfl
theorem first_w3 (c : Dev nD) : V1 m c main_v1 = truncf .bf16 (m ((c : Thread nD τ).loc main_arg5)) bitsLt_bf16_f32 := by
  after_results_simp
  try simp only [TRef.ofBuf, TRef.toBuf, cast_eq]
  try rfl
theorem first_w2 (c : Dev nD) : V1 m c main_v2 = truncf .bf16 (m ((c : Thread nD τ).loc main_arg6)) bitsLt_bf16_f32 := by
  after_results_simp
  try simp only [TRef.ofBuf, TRef.toBuf, cast_eq]
  try rfl

end Cert.KernelIdeal.Host
end
-- ==== Proof.Held.lean ====
module

public import proofs.«01_k».proof.Proof.Stages
public import proofs.«01_k».proof.Proof.HostEnd

@[expose] public section

set_option maxRecDepth 16384

noncomputable section

namespace Cert.KernelIdeal.Layer

open Idealize.ShloMosaic Idealize.ShloMosaic.TcCoe
open Cert.KernelIdeal.Gen Cert.KernelIdeal.Host

variable {F : FTy → Type} [FloatOps F]
variable (m : (ℓ : Loc nD τ sig) → Buf (Elt F) ℓ)

/-! ## What each call finds in the buffers it reads -/

/-- What the first group's host work writes after the weights' casts. -/
def firstWrites : List (Ref sig .tc) :=
  hostOps0_1_W ++ (hostOps0_2_W ++ (hostOps0_3_W ++ (hostOps0_4_W ++ (hostOps0_5_W ++ (hostOps0_6_W ++ (hostOps0_7_W ++ (hostOps0_8_W ++ (hostOps0_9_W ++ (hostOps0_10_W ++ (hostOps0_11_W ++ (hostOps0_12_W ++ (hostOps0_13_W ++ (hostOps0_14_W ++ (hostOps0_15_W ++ (hostOps0_16_W)))))))))))))))

/-- What the second group's host work writes. -/
def secondWrites : List (Ref sig .tc) :=
  hostOps1_W ++ (hostOps1_1_W ++ (hostOps1_2_W ++ (hostOps1_3_W ++ (hostOps1_4_W ++ (hostOps1_5_W ++ (hostOps1_6_W ++ (hostOps1_7_W ++ (hostOps1_8_W ++ (hostOps1_9_W ++ (hostOps1_10_W ++ (hostOps1_11_W ++ (hostOps1_12_W ++ (hostOps1_13_W ++ (hostOps1_14_W ++ (hostOps1_15_W ++ (hostOps1_16_W))))))))))))))))

/-- A buffer it does not write is kept to its last stretch, -/
theorem first_keeps (c : Dev nD) (r : Ref sig .tc) (h : r ∉ firstWrites) : V16 m c r = V1 m c r ∧ V17 m c r = V1 m c r := by
  simp only [firstWrites, List.mem_append, not_or] at h
  obtain ⟨h0, h1, h2, h3, h4, h5, h6, h7, h8, h9, h10, h11, h12, h13, h14, h15⟩ := h
  have e : V16 m c r = V1 m c r := (V16_of m c r h14).trans <| (V15_of m c r h13).trans <| (V14_of m c r h12).trans <| (V13_of m c r h11).trans <| (V12_of m c r h10).trans <| (V11_of m c r h9).trans <| (V10_of m c r h8).trans <| (V9_of m c r h7).trans <| (V8_of m c r h6).trans <| (V7_of m c r h5).trans <| (V6_of m c r h4).trans <| (V5_of m c r h3).trans <| (V4_of m c r h2).trans <| (V3_of m c r h1).trans (V2_of m c r h0)
  exact ⟨e, (V17_of m c r h15).trans e⟩

/-- and so with the second's. -/
theorem second_keeps (o : Outs (F := F)) (c : Dev nD) (r : Ref sig .tc) (h : r ∉ secondWrites) :
    V34 m o c r = V18 m o c r ∧ V35 m o c r = V18 m o c r := by
  simp only [secondWrites, List.mem_append, not_or] at h
  obtain ⟨h0, h1, h2, h3, h4, h5, h6, h7, h8, h9, h10, h11, h12, h13, h14, h15, h16⟩ := h
  have e : V34 m o c r = V18 m o c r := (V34_of m o c r h15).trans <| (V33_of m o c r h14).trans <| (V32_of m o c r h13).trans <| (V31_of m o c r h12).trans <| (V30_of m o c r h11).trans <| (V29_of m o c r h10).trans <| (V28_of m o c r h9).trans <| (V27_of m o c r h8).trans <| (V26_of m o c r h7).trans <| (V25_of m o c r h6).trans <| (V24_of m o c r h5).trans <| (V23_of m o c r h4).trans <| (V22_of m o c r h3).trans <| (V21_of m o c r h2).trans <| (V20_of m o c r h1).trans (V19_of m o c r h0)
  exact ⟨e, (V35_of m o c r h16).trans e⟩

theorem W0_keeps (c : Dev nD) (r : Ref sig .tc) (h : r ∉ firstWrites) : W0 m c r = V1 m c r := (first_keeps m c r h).2

theorem W1_keeps (c : Dev nD) (r : Ref sig .tc) (h : r ∉ secondWrites) : W1 m c r = U0 m c r :=
  ((second_keeps m (outs1 m) c r h).2).trans (congrFun (at_18_1 m c) _)

theorem U0_keeps (c : Dev nD) (r : Ref sig .tc) (h : r ∉ ([main_v76] : List (Ref sig .tc))) : U0 m c r = W0 m c r :=
  (congrFun (at_18_1 m c) _).symm.trans (V18_of m (outs1 m) c r h)

theorem U1_keeps (c : Dev nD) (r : Ref sig .tc) (h : r ∉ ([main_v150] : List (Ref sig .tc))) : U1 m c r = W1 m c r :=
  (congrFun (at_36_2 m c) _).symm.trans ((V36_of m (outs2 m) c r h).trans (congrFun (at_35_2 m c) _))

theorem W2_keeps (c : Dev nD) (r : Ref sig .tc) (h : r ∉ hostOps2_W) : W2 m c r = U1 m c r :=
  (V37_of m (outs2 m) c r h).trans (congrFun (at_36_2 m c) _)

theorem U2_keeps (c : Dev nD) (r : Ref sig .tc) (h : r ∉ ([main_v159, main_v150] : List (Ref sig .tc))) : U2 m c r = W2 m c r :=
  (congrFun (at_38_3 m c) _).symm.trans ((V38_of m (outs3 m) c r h).trans (congrFun (at_37_3 m c) _))

theorem W3_keeps (c : Dev nD) (r : Ref sig .tc) (h : r ∉ hostOps3_W) : W3 m c r = U2 m c r :=
  (V39_of m (outs3 m) c r h).trans (congrFun (at_38_3 m c) _)

/-- An argument is as launched before each call. -/
theorem arg_at (c : Dev nD) (r : Ref sig .tc) (h : r ∉ hostOps0_W) (h0 : r ∉ firstWrites) (h1 : r ∉ ([main_v76] : List (Ref sig .tc)))
    (h2 : r ∉ secondWrites) (h3 : r ∉ ([main_v150] : List (Ref sig .tc))) (h4 : r ∉ hostOps2_W) (h5 : r ∉ ([main_v159, main_v150] : List (Ref sig .tc)))
    (h6 : r ∉ hostOps3_W) :
    U1 m c r = V0 m c r ∧ W2 m c r = V0 m c r ∧ W3 m c r = V0 m c r := by
  have e : U1 m c r = V0 m c r := (U1_keeps m c r h3).trans <| (W1_keeps m c r h2).trans <| (U0_keeps m c r h1).trans <|
    (W0_keeps m c r h0).trans (V1_of m c r h)
  have e' : W2 m c r = V0 m c r := (W2_keeps m c r h4).trans e
  exact ⟨e, e', (W3_keeps m c r h6).trans ((U2_keeps m c r h5).trans e')⟩

theorem arg1_at (c : Dev nD) : U1 m c main_arg1 = V0 m c main_arg1 ∧ W2 m c main_arg1 = V0 m c main_arg1 ∧ W3 m c main_arg1 = V0 m c main_arg1 :=
  arg_at m c main_arg1 (by decide) (by decide) (by decide) (by decide) (by decide) (by decide) (by decide) (by decide)
theorem arg2_at (c : Dev nD) : U1 m c main_arg2 = V0 m c main_arg2 ∧ W2 m c main_arg2 = V0 m c main_arg2 ∧ W3 m c main_arg2 = V0 m c main_arg2 :=
  arg_at m c main_arg2 (by decide) (by decide) (by decide) (by decide) (by decide) (by decide) (by decide) (by decide)
theorem arg3_at (c : Dev nD) : U1 m c main_arg3 = V0 m c main_arg3 ∧ W2 m c main_arg3 = V0 m c main_arg3 ∧ W3 m c main_arg3 = V0 m c main_arg3 :=
  arg_at m c main_arg3 (by decide) (by decide) (by decide) (by decide) (by decide) (by decide) (by decide) (by decide)

/-- The tokens, as the two gathers find them. -/
theorem tokens_first (c : Dev nD) : V16 m c main_arg0 = V0 m c main_arg0 :=
  (first_keeps m c main_arg0 (by decide)).1.trans (V1_of m c main_arg0 (by decide))
theorem tokens_second (c : Dev nD) : V34 m (outs1 m) c main_arg0 = V0 m c main_arg0 :=
  (second_keeps m (outs1 m) c main_arg0 (by decide)).1.trans <| (congrFun (at_18_1 m c) _).trans <| (U0_keeps m c main_arg0 (by decide)).trans <|
    (W0_keeps m c main_arg0 (by decide)).trans (V1_of m c main_arg0 (by decide))

/-- The weights, as the two experts' calls find them. -/
theorem weight_at (c : Dev nD) (r : Ref sig .tc) (h0 : r ∉ firstWrites) (h1 : r ∉ ([main_v76] : List (Ref sig .tc))) (h2 : r ∉ secondWrites) :
    W0 m c r = V1 m c r ∧ W1 m c r = V1 m c r :=
  ⟨W0_keeps m c r h0, (W1_keeps m c r h2).trans ((U0_keeps m c r h1).trans (W0_keeps m c r h0))⟩
theorem w1_at (c : Dev nD) : W0 m c main_v0 = V1 m c main_v0 ∧ W1 m c main_v0 = V1 m c main_v0 := weight_at m c main_v0 (by decide) (by decide) (by decide)
theorem w3_at (c : Dev nD) : W0 m c main_v1 = V1 m c main_v1 ∧ W1 m c main_v1 = V1 m c main_v1 := weight_at m c main_v1 (by decide) (by decide) (by decide)
theorem w2_at (c : Dev nD) : W0 m c main_v2 = V1 m c main_v2 ∧ W1 m c main_v2 = V1 m c main_v2 := weight_at m c main_v2 (by decide) (by decide) (by decide)

/-- The first group's rows, collected: the first experts' call's result at the group's slots. -/
theorem third_takes (c : Dev nD) : W2 m c main_v158 = collect (slots (firstWords m c)) (First.outArr (W0 m) (ok0 m) c) := by
  have e1 : U1 m c main_v47 = slots (firstWords m c) := (U1_keeps m c main_v47 (by decide)).trans <| (W1_keeps m c main_v47 (by decide)).trans <|
    (U0_keeps m c main_v47 (by decide)).trans (first_call_slot m c)
  have e2 : U1 m c main_v76 = First.outArr (W0 m) (ok0 m) c := (U1_keeps m c main_v76 (by decide)).trans <| (W1_keeps m c main_v76 (by decide)).trans <|
    Function.update_self _ _ _
  exact (congrArg (fun X => StableHlo.after hostOps2 X main_v158) (at_36_2 m c)).trans <| (collect_first (U1 m c)).trans (congrArg₂ collect e1 e2)

/-- The second group's rows, collected likewise. -/
theorem fourth_takes (c : Dev nD) : W3 m c main_v167 = collect (slots (secondWords m c)) (Second.outArr (W1 m) (ok1 m) c) := by
  have e1 : U2 m c main_v121 = slots (secondWords m c) := (U2_keeps m c main_v121 (by decide)).trans <| (W2_keeps m c main_v121 (by decide)).trans <|
    (U1_keeps m c main_v121 (by decide)).trans (second_call_slot m (outs1 m) c)
  have e0 : U2 m c main_v150 = W2 m c main_v150 := by
    unfold U2
    exact Function.update_of_ne (by decide) _ _
  have e2 : U2 m c main_v150 = Second.outArr (W1 m) (ok1 m) c := e0.trans <| (W2_keeps m c main_v150 (by decide)).trans <| Function.update_self _ _ _
  exact (congrArg (fun X => StableHlo.after hostOps3 X main_v167) (at_38_3 m c)).trans <| (collect_second (U2 m c)).trans (congrArg₂ collect e1 e2)

/-- The result arrays the combining calls write over: the third's is a copy of the residual, -/
theorem third_over (c : Dev nD) : W2 m c main_v159 = V0 m c main_arg1 :=
  (congrArg (fun X => StableHlo.after hostOps2 X main_v159) (at_36_2 m c)).trans <| (copy_first (U1 m c)).trans (arg1_at m c).1

/-- which the fourth reads in, -/
theorem fourth_reads (c : Dev nD) : W3 m c main_v159 = Third.outArr (W2 m) c :=
  (W3_keeps m c main_v159 (by decide)).trans (Function.update_self _ _ _)

/-- and writes over. -/
theorem fourth_over (c : Dev nD) : W3 m c main_v168 = Third.outArr (W2 m) c :=
  (congrArg (fun X => StableHlo.after hostOps3 X main_v168) (at_38_3 m c)).trans <| (copy_second (U2 m c)).trans (Function.update_self _ _ _)

end Cert.KernelIdeal.Layer
end
-- ==== Proof.Words.lean ====
module

public import proofs.«01_k».proof.Proof.Host
public import Idealize.ShloMosaic.Lib.Pointwise
public import Idealize.ShloMosaic.Lib.Tactic

@[expose] public section

set_option maxRecDepth 16384

noncomputable section

namespace Cert.Moe

open Idealize.ShloMosaic
open Cert.KernelIdeal.Gen Cert.KernelIdeal.Host Cert.KernelIdeal

variable {F : FTy → Type} [FloatOps F]

/-- A column of a group's routing laid out as one vector, read. -/
theorem column_apply (g : Vec F S2x8192x8 .f32) (q : Fin 8) (h : S2x8192x8.Slices ![0, 0, q.val] S2x8192x1) (bt : Fin 2) (n : Fin 8192) (i : Fin 16384)
    (hi : i.val = bt.val * 8192 + n.val) :
    shapeCast S16384 (shapeCast S2x8192 (extractStridedSlice S2x8192x1 ![0, 0, q.val] g h) shapeCasts_S2x8192x1_S2x8192) shapeCasts_S2x8192_S16384
      (Idealize.ShloMosaic.ix1 i) = g (ix3 bt n q) := by
  refine (shapeCast_apply (s := S2x8192) (t := S16384) _ _ (Idealize.ShloMosaic.ix1 i) (ix2 bt n) ?_).trans ?_
  · refine (Shape.rowMajor_val_two (ix2 bt n)).trans (.trans ?_ (Shape.rowMajor_val_one (Idealize.ShloMosaic.ix1 i)).symm)
    show bt.val * 8192 + n.val = i.val
    omega
  · refine (shapeCast_apply (s := S2x8192x1) (t := S2x8192) _ _ (ix2 bt n) (ix3 bt n 0) ?_).trans ?_
    · refine (Shape.rowMajor_val_three (ix3 bt n 0)).trans (.trans ?_ (Shape.rowMajor_val_two (ix2 bt n)).symm)
      show (bt.val * 8192 + n.val) * 1 + 0 = bt.val * 8192 + n.val
      omega
    · refine congrArg g (funext fun a => Fin.ext ?_)
      match a with
      | ⟨0, _⟩ => exact Nat.zero_add _
      | ⟨1, _⟩ => exact Nat.zero_add _
      | ⟨2, _⟩ => exact Nat.add_zero _

/-- A group's words, read: entry `(k · 2 + b) · 8192 + n` is the word of token `n` of batch `b`'s choice `k`. -/
theorem choices_apply (g : Vec F S2x8192x8 .f32) (k bt : Fin 2) (n : Fin 8192) (j : Fin 32768) (hj : j.val = (k.val * 2 + bt.val) * 8192 + n.val) :
    choices g (Idealize.ShloMosaic.ix1 j) = FloatOps.fptosi 32 (g (ix3 bt n ⟨k.val, by omega⟩)) := by
  have hk := k.isLt
  have hb := bt.isLt
  have hn := n.isLt
  refine congrArg (FloatOps.fptosi 32) ?_
  refine (concatenate_pair_apply (s₁ := S16384) (s₂ := S16384) (t := S32768) 0 _ _ _ (Idealize.ShloMosaic.ix1 j)).trans ?_
  by_cases h : j.val < 16384
  · refine (dif_pos h).trans ?_
    obtain rfl : k = 0 := Fin.ext (by show k.val = 0; omega)
    exact column_apply g 0 _ bt n ⟨j.val, h⟩ (by show j.val = _; rw [hj]; show (0 * 2 + _) * 8192 + _ = _; omega)
  · refine (dif_neg h).trans ?_
    obtain rfl : k = 1 := Fin.ext (by show k.val = 1; omega)
    exact column_apply g 1 _ bt n ⟨j.val - 16384, by omega⟩ (by show j.val - 16384 = _; rw [hj]; show (1 * 2 + _) * 8192 + _ - _ = _; omega)

/-- The first group's words are its two batches'. -/
theorem firstOf_apply (r : Vec F S4x8192x8 .f32) (k bt : Fin 2) (b : Fin 4) (hb : b.val = bt.val) (n : Fin 8192) (j : Fin 32768)
    (hj : j.val = (k.val * 2 + bt.val) * 8192 + n.val) :
    firstOf r (Idealize.ShloMosaic.ix1 j) = FloatOps.fptosi 32 (r (ix3 b n ⟨k.val, by omega⟩)) := by
  refine (choices_apply _ k bt n j hj).trans (congrArg (FloatOps.fptosi 32) (congrArg r (funext fun a => Fin.ext ?_)))
  match a with
  | ⟨0, _⟩ => show 0 + bt.val = b.val; omega
  | ⟨1, _⟩ => exact Nat.zero_add _
  | ⟨2, _⟩ => exact Nat.zero_add _

/-- The second group's are the two others'. -/
theorem secondOf_apply (r : Vec F S4x8192x8 .f32) (k bt : Fin 2) (b : Fin 4) (hb : b.val = bt.val + 2) (n : Fin 8192) (j : Fin 32768)
    (hj : j.val = (k.val * 2 + bt.val) * 8192 + n.val) :
    secondOf r (Idealize.ShloMosaic.ix1 j) = FloatOps.fptosi 32 (r (ix3 b n ⟨k.val, by omega⟩)) := by
  refine (choices_apply _ k bt n j hj).trans (congrArg (FloatOps.fptosi 32) (congrArg r (funext fun a => Fin.ext ?_)))
  match a with
  | ⟨0, _⟩ => show 2 + bt.val = b.val; omega
  | ⟨1, _⟩ => exact Nat.zero_add _
  | ⟨2, _⟩ => exact Nat.zero_add _

end Cert.Moe
end
-- ==== Proof.Counts.lean ====
module

public import Idealize.ShloMosaic.PureOps
public import Mathlib.Data.Nat.Count
public import Mathlib.Data.Fintype.Card
public import Mathlib.Order.Fin.Basic
public import Mathlib.Order.Interval.Finset.Fin
public import Mathlib.Data.Fintype.EquivFin

@[expose] public section

namespace Cert.Counts

/-! Entries `0 … N - 1`, each with a class `ε`, listed class by class, each class then brought up to whole tiles of 512 places. -/

/-- The sum of the first `k` values. -/
def sumTo (f : ℕ → ℕ) (k : ℕ) : ℕ := ((List.range k).map f).sum

theorem sumTo_succ (f : ℕ → ℕ) (k : ℕ) : sumTo f (k + 1) = sumTo f k + f k := by
  unfold sumTo
  rw [List.range_succ, List.map_append, List.sum_append]
  simp

theorem sumTo_mono (f : ℕ → ℕ) {a b : ℕ} (h : a ≤ b) : sumTo f a ≤ sumTo f b := by
  induction b, h using Nat.le_induction with
  | base => exact le_refl _
  | succ n _ ih => rw [sumTo_succ]; omega

/-- A count brought up to whole tiles. -/
def pad (n : ℕ) : ℕ := (n + 511) / 512 * 512

theorem le_pad (n : ℕ) : n ≤ pad n ∧ pad n ≤ n + 511 ∧ 512 ∣ pad n := by unfold pad; omega

/-- The padded sum is at least the plain one, exceeds it by at most 511 for each class, and is a whole number of tiles. -/
theorem sumTo_pad (f : ℕ → ℕ) (k : ℕ) : sumTo f k ≤ sumTo (fun l => pad (f l)) k ∧ sumTo (fun l => pad (f l)) k ≤ sumTo f k + 511 * k ∧
    512 ∣ sumTo (fun l => pad (f l)) k := by
  induction k with
  | zero => simp [sumTo]
  | succ k ih =>
    rw [sumTo_succ, sumTo_succ]
    have := le_pad (f k)
    omega

/-- Counting the numbers below `e` among the first `n`. -/
theorem count_below (Q : ℕ → Prop) [DecidablePred Q] (e : ℕ) (h : ∀ k, Q k ↔ k < e) (n : ℕ) : Nat.count Q n = min e n := by
  induction n with
  | zero => simp
  | succ n ih =>
    rw [Nat.count_succ, ih]
    have := h n
    by_cases hc : n < e
    · rw [if_pos (this.2 hc)]; omega
    · rw [if_neg fun q => hc (this.1 q)]; omega

variable {N : ℕ} (ε : Fin N → ℕ)

/-- How many entries have class `k`. -/
def cnt (k : ℕ) : ℕ := (Finset.univ.filter fun i => ε i = k).card

/-- The counts below `k` sum to the number of entries of a class below `k`. -/
theorem sumTo_cnt (k : ℕ) : sumTo (cnt ε) k = (Finset.univ.filter fun i => ε i < k).card := by
  induction k with
  | zero => simp [sumTo]
  | succ k ih =>
    rw [sumTo_succ, ih]
    unfold cnt
    rw [← Finset.card_union_of_disjoint (Finset.disjoint_filter.2 fun i _ h1 h2 => by omega), ← Finset.filter_or]
    exact congrArg Finset.card (Finset.filter_congr fun i _ => by omega)

theorem sumTo_cnt_le (k : ℕ) : sumTo (cnt ε) k ≤ N := by
  rw [sumTo_cnt]
  exact (Finset.card_le_univ _).trans (by simp)

theorem card_lt (r : Fin N) : (Finset.univ.filter fun i : Fin N => i < r).card = r.val := by
  rw [show (Finset.univ.filter fun i : Fin N => i < r) = Finset.Iio r from by ext; simp]
  exact Fin.card_Iio r

theorem card_le (r : Fin N) : (Finset.univ.filter fun i : Fin N => i ≤ r).card = r.val + 1 := by
  rw [show (Finset.univ.filter fun i : Fin N => i ≤ r) = Finset.Iic r from by ext; simp]
  exact Fin.card_Iic r

/-- In a list ordered by class, an entry's place lies among its class's places. -/
theorem rank_bounds (σ : Fin N → Fin N) (hb : Function.Bijective σ) (hm : ∀ r r' : Fin N, r.val < r'.val → ε (σ r) ≤ ε (σ r')) (r : Fin N) :
    sumTo (cnt ε) (ε (σ r)) ≤ r.val ∧ r.val < sumTo (cnt ε) (ε (σ r) + 1) := by
  constructor
  · rw [sumTo_cnt]
    obtain ⟨τ, hl, hr⟩ := Function.bijective_iff_has_inverse.1 hb
    have : (Finset.univ.filter fun i => ε i < ε (σ r)).card ≤ (Finset.univ.filter fun i : Fin N => i < r).card := by
      refine Finset.card_le_card_of_injOn τ (fun i hi => ?_) (fun a _ b _ h => ?_)
      · have hi' : ε i < ε (σ r) := by simpa using hi
        have : τ i < r := by
          by_contra hc
          rcases lt_or_eq_of_le (not_lt.1 hc) with h | h
          · have := hm _ _ h; rw [hr i] at this; omega
          · have : σ r = i := by rw [h]; exact hr i
            rw [this] at hi'; omega
        simpa using this
      · have := congrArg σ h; rwa [hr, hr] at this
    exact this.trans (le_of_eq (card_lt r))
  · rw [sumTo_cnt]
    have : (Finset.univ.filter fun i : Fin N => i ≤ r).card ≤ (Finset.univ.filter fun i => ε i < ε (σ r) + 1).card := by
      refine Finset.card_le_card_of_injOn σ (fun i hi => ?_) (fun a _ b _ h => hb.1 h)
      have hi' : i ≤ r := by simpa using hi
      have : ε (σ i) < ε (σ r) + 1 := by
        rcases lt_or_eq_of_le hi' with h | h
        · have := hm _ _ h; omega
        · rw [h]; omega
      simpa using this
    have h2 : (Finset.univ.filter fun i : Fin N => i ≤ r).card = r.val + 1 := card_le r
    omega

/-- Where a class's padded places begin. -/
def start (k : ℕ) : ℕ := sumTo (fun l => pad (cnt ε l)) k

/-- How far a class moves from the plain list to the padded one. -/
def move (k : ℕ) : ℕ := start ε k - sumTo (cnt ε) k

theorem start_le (k : ℕ) (hk : k ≤ 8) : start ε k ≤ N + 4088 := by
  have h := (sumTo_pad (cnt ε) k).2.1
  have := sumTo_cnt_le ε k
  unfold start
  omega

/-- An entry's padded place lies among its class's padded places; the ranges of exactly the classes below end at or before the beginning of its tile. -/
theorem slot_bounds (σ : Fin N → Fin N) (hb : Function.Bijective σ) (hm : ∀ r r' : Fin N, r.val < r'.val → ε (σ r) ≤ ε (σ r')) (r : Fin N) :
    start ε (ε (σ r)) ≤ r.val + move ε (ε (σ r)) ∧ r.val + move ε (ε (σ r)) < start ε (ε (σ r) + 1) := by
  have hr := rank_bounds ε σ hb hm r
  have h1 := sumTo_pad (cnt ε) (ε (σ r))
  have h2 := sumTo_succ (cnt ε) (ε (σ r))
  have h3 := sumTo_succ (fun l => pad (cnt ε l)) (ε (σ r))
  have h4 := le_pad (cnt ε (ε (σ r)))
  unfold move start
  omega

theorem tile_class (k s n : ℕ) (hk : k < n) (h1 : start ε k ≤ s) (h2 : s < start ε (k + 1)) :
    Nat.count (fun l => start ε (l + 1) ≤ 512 * (s / 512)) n = k := by
  have hd := (sumTo_pad (cnt ε) k).2.2
  rw [count_below _ k (fun l => ?_) n]
  · omega
  · constructor
    · intro h
      by_contra hc
      have : start ε (k + 1) ≤ start ε (l + 1) := sumTo_mono _ (by omega)
      omega
    · intro h
      have : start ε (l + 1) ≤ start ε k := sumTo_mono _ (by omega)
      have hd : 512 ∣ start ε k := hd
      omega

/-- A one-to-one rearrangement that keeps the order is no rearrangement. -/
theorem eq_self_of_mono (f : Fin N → Fin N) (hb : Function.Bijective f) (hm : ∀ r r' : Fin N, r.val < r'.val → (f r).val ≤ (f r').val) (r : Fin N) : f r = r := by
  have h := rank_bounds (fun i : Fin N => i.val) f hb (fun r r' h => hm r r' h) r
  rw [sumTo_cnt, sumTo_cnt] at h
  have h1 : (Finset.univ.filter fun i : Fin N => i.val < (f r).val).card = (f r).val := card_lt (f r)
  have h2 : (Finset.univ.filter fun i : Fin N => i.val < (f r).val + 1).card = (f r).val + 1 :=
    (congrArg Finset.card (Finset.filter_congr fun i _ => Nat.lt_succ_iff)).trans (card_le (f r))
  exact Fin.ext (by omega)

end Cert.Counts
-- ==== Proof.Sorted.lean ====
module

public import proofs.«01_k».proof.Proof.Tables
public import proofs.«01_k».proof.Proof.Counts
public import Idealize.ShloMosaic.Lib.SortFacts

@[expose] public section

set_option maxRecDepth 16384

noncomputable section

namespace Cert.Dispatch

open Idealize.ShloMosaic
open Cert.KernelIdeal.Host Cert.Counts
open Idealize.ShloMosaic.Routing Idealize.ShloMosaic.ValueIdx

/-! ## The sort -/

/-- Whether a key sorts strictly before another. -/
def less (e : IVec (shape1 32768) 32) (a b : Fin 32768) : Bool :=
  Cert.KernelIdeal.comparator_i32_i32_d0 (e (ix1 a), BitVec.ofNat 32 a.val) (e (ix1 b), BitVec.ofNat 32 b.val) == 1#1

theorem less_iff (e : IVec (shape1 32768) 32) (a b : Fin 32768) : less e a b = true ↔ (e (ix1 a)).toInt < (e (ix1 b)).toInt := by
  unfold less Cert.KernelIdeal.comparator_i32_i32_d0 IntOp.cmpi
  have hb : ∀ b : Bool, (BitVec.ofBool b == 1#1) = b := by decide
  dsimp only
  rw [hb]
  exact decide_eq_true_iff

/-- The entry at place `r` of the sorted list. -/
def src (e : IVec (shape1 32768) 32) (r : Fin 32768) : Fin 32768 := sortedFrom (less e) r

theorem src_bij (e : IVec (shape1 32768) 32) : Function.Bijective (src e) := ⟨sortedFrom_injective _, sortedFrom_surjective _⟩

theorem src_mono (e : IVec (shape1 32768) 32) (r r' : Fin 32768) (h : r.val < r'.val) : (e (ix1 (src e r))).toInt ≤ (e (ix1 (src e r'))).toInt := by
  have h1 : ∀ a b, less e a b = true → less e b a = false := fun a b hab => by
    have := (less_iff e a b).1 hab
    exact Bool.eq_false_iff.2 fun hc => by have := (less_iff e b a).1 hc; omega
  have h2 := sortedFrom_noInversion (less e) (less e) h1 (fun _ _ h => h) (fun a b c hab hbc => by
    have q1 := mt (less_iff e a b).2 (Bool.eq_false_iff.1 hab)
    have q2 := mt (less_iff e b c).2 (Bool.eq_false_iff.1 hbc)
    exact Bool.eq_false_iff.2 fun hc => by have := (less_iff e a c).1 hc; omega) r r' h
  have := mt (less_iff e (sortedFrom (less e) r') (sortedFrom (less e) r)).2 (Bool.eq_false_iff.1 h2)
  unfold src
  omega

/-- The sorted list's entries, as words. -/
theorem order_apply (e : IVec (shape1 32768) 32) (r : Fin 32768) : order e (ix1 r) = BitVec.ofNat 32 (src e r).val := by
  have hd : 0 < (shape1 32768).rank := Nat.zero_lt_one
  have hx : ∀ (j : (shape1 32768).Idx) (c : Fin 32768), j.along (⟨0, hd⟩ : Fin (shape1 32768).rank) c = ix1 c := fun j c =>
    (Shape.Idx.along_rank1 j c).trans (ofFin_eq_ix1 c)
  unfold order Host.sort2
  rw [dif_pos hd]
  dsimp only
  refine (congrArg (iotaInDim (shape1 32768) 32 0) (hx (ix1 r) _)).trans ?_
  show BitVec.ofNat 32 (Fin.val _) = _
  refine congrArg (fun i : Fin 32768 => BitVec.ofNat 32 i.val) ?_
  unfold src
  refine congrArg (fun f => sortedFrom (n := 32768) f r) (funext fun a => funext fun b => ?_)
  exact congrArg₂ (fun i j : (shape1 32768).Idx => Cert.KernelIdeal.comparator_i32_i32_d0 (e i, iotaInDim (shape1 32768) 32 0 i)
    (e j, iotaInDim (shape1 32768) 32 0 j) == 1#1) (hx (ix1 r) a) (hx (ix1 r) b)

theorem small_toInt (n : ℕ) (h : n < 2147483648) : (BitVec.ofNat 32 n).toInt = n := by
  have e : (BitVec.ofNat 32 n).toNat = n := by rw [BitVec.toNat_ofNat]; omega
  rw [BitVec.toInt_eq_toNat_cond, e, if_pos (by omega)]

/-- The place of each entry in the sorted list: sorting the sorted list's entries again finds it. -/
def place (e : IVec (shape1 32768) 32) (j : Fin 32768) : Fin 32768 := src (order e) j

theorem place_bij (e : IVec (shape1 32768) 32) : Function.Bijective (place e) := by
  unfold place
  exact src_bij (order e)

theorem place_mono (e : IVec (shape1 32768) 32) (r r' : Fin 32768) (h : r.val < r'.val) : (src e (place e r)).val ≤ (src e (place e r')).val := by
  have h1 := src_mono (order e) r r' h
  have e1 : (order e (ix1 (src (order e) r))).toInt = (src e (place e r)).val := by
    rw [order_apply]
    exact small_toInt _ ((src e _).isLt.trans (by decide))
  have e2 : (order e (ix1 (src (order e) r'))).toInt = (src e (place e r')).val := by
    rw [order_apply]
    exact small_toInt _ ((src e _).isLt.trans (by decide))
  rw [e1, e2] at h1
  exact Int.ofNat_le.1 h1

theorem src_place (e : IVec (shape1 32768) 32) (j : Fin 32768) : src e (place e j) = j := by
  have hb := Function.Bijective.comp (g := src e) (f := place e) (src_bij e) (place_bij e)
  have h := eq_self_of_mono (src e ∘ place e) hb (fun r r' h => by
    rw [Function.comp_apply, Function.comp_apply]
    exact place_mono e r r' h) j
  rwa [Function.comp_apply] at h

theorem rank_apply (e : IVec (shape1 32768) 32) (j : Fin 32768) : order (order e) (ix1 j) = BitVec.ofNat 32 (place e j).val := by
  unfold place
  exact order_apply (order e) j

attribute [irreducible] src place

/-! ## Counts and shifts -/

/-- Entry `i`'s expert, as a number. -/
def num (e : IVec (shape1 32768) 32) (i : Fin 32768) : ℕ := (e (ix1 i)).toNat

theorem num_word (e : IVec (shape1 32768) 32) (i : Fin 32768) : e (ix1 i) = BitVec.ofNat 32 (num e i) := by
  apply BitVec.eq_of_toNat_eq
  rw [BitVec.toNat_ofNat]
  exact (Nat.mod_eq_of_lt (e (ix1 i)).isLt).symm

theorem eq_word_iff (a b : BitVec 32) : IntOp.cmpi .eq a b = 1#1 ↔ a = b := by
  unfold IntOp.cmpi
  have hb : ∀ b : Bool, BitVec.ofBool b = 1#1 ↔ b = true := by decide
  exact (hb _).trans beq_iff_eq

/-- The experts' numbers laid along the columns. -/
theorem iota_cols {n : ℕ} (h : (shape2 1 8).BroadcastsInDim (shape2 n 8) (![0, 1] : Fin 2 → Fin (shape2 n 8).rank)) (p : Fin n) (q : Fin 8) :
    broadcastInDim (shape2 n 8) ![0, 1] h (iotaInDim (shape2 1 8) 32 1) (ix2 p q) = BitVec.ofNat 32 q.val := by
  refine (broadcastInDim_apply _ h _ _ (ix2 (0 : Fin 1) q) fun a => ?_).trans rfl
  match a with
  | ⟨0, _⟩ => show (0 : ℕ) = if (1 : ℕ) = 1 then 0 else p.val; rw [if_pos rfl]
  | ⟨1, _⟩ => show q.val = if (8 : ℕ) = 1 then 0 else q.val; rw [if_neg (by decide)]

theorem mask_iff (w : BitVec 32) (q : Fin 8) : w = BitVec.ofNat 32 q.val ↔ w.toNat = q.val := by
  have hq := q.isLt
  constructor
  · intro h; rw [h, BitVec.toNat_ofNat]; omega
  · intro h; apply BitVec.eq_of_toNat_eq; rw [BitVec.toNat_ofNat]; omega

theorem counts_apply (e : IVec (shape1 32768) 32) (k : Fin 8) : counts e (ix1 k) = BitVec.ofNat 32 (cnt (num e) k.val) := by
  apply BitVec.eq_of_toNat_eq
  unfold counts countOf oneHot
  refine (StableHlo.Predicate.toNat_reduce_count_rows (n := 32768) (m := 8) (by decide) _ _ _ _ (ix1 k)).trans ?_
  rw [BitVec.toNat_ofNat, Nat.mod_eq_of_lt]
  · unfold cnt
    refine congrArg Finset.card (Finset.filter_congr fun p _ => ?_)
    rw [ij_eq_ix2]
    refine (eq_word_iff _ _).trans ?_
    rw [bcRows (n := 32768) (m := 8)]
    rw [iota_cols (n := 32768) _ p k]
    exact mask_iff _ k
  · exact Nat.lt_of_le_of_lt ((Finset.card_le_univ _).trans (by simp)) (by decide : 32768 < 2 ^ 32)

end Cert.Dispatch
end
-- ==== Proof.Slots.lean ====
module

public import proofs.«01_k».proof.Proof.Sorted
public import Idealize.ShloMosaic.Lib.Routing.Words

@[expose] public section

set_option maxRecDepth 16384

noncomputable section

namespace Cert.Dispatch

open Idealize.ShloMosaic
open Cert.KernelIdeal.Host Cert.Counts
open Idealize.ShloMosaic.Routing Idealize.ShloMosaic.ValueIdx

variable (e : IVec (shape1 32768) 32)

theorem cnt_le (k : ℕ) : cnt (num e) k ≤ 32768 := (Finset.card_le_univ _).trans (by simp)

/-! ## Word arithmetic on the experts' counts -/

theorem ofNat_sub' (a b : ℕ) (h : b ≤ a) : BitVec.ofNat 32 a - BitVec.ofNat 32 b = BitVec.ofNat 32 (a - b) := by
  have : BitVec.ofNat 32 a = BitVec.ofNat 32 (a - b) + BitVec.ofNat 32 b := by rw [← BitVec.ofNat_add]; congr 1; omega
  rw [this, BitVec.add_sub_cancel]

/-- Each expert's count, brought up to whole tiles. -/
theorem padded_apply (k : Fin 8) : padded e (ix1 k) = BitVec.ofNat 32 (pad (cnt (num e) k.val)) := by
  have hc := cnt_le e k.val
  have hx : subi (addi (counts e) (const8 512#32)) (const8 1#32) (ix1 k) = BitVec.ofNat 32 (cnt (num e) k.val + 511) := by
    show (counts e (ix1 k) + BitVec.ofNat 32 512) - BitVec.ofNat 32 1 = _
    rw [counts_apply, ← BitVec.ofNat_add, ofNat_sub' _ _ (by omega)]
    exact congrArg (BitVec.ofNat 32) (by omega)
  have h := pyDiv_ap Cert.KernelIdeal.Gen.bcast_S_S8 _ (constantI shape0 32 512#32) (ix1 k) (b := 512) hx rfl (by omega) (by decide) (by decide)
  show floor512 _ (ix1 k) * BitVec.ofNat 32 512 = _
  refine (congrArg (· * BitVec.ofNat 32 512) h).trans ?_
  rw [← BitVec.ofNat_mul]
  rfl

theorem pends_apply (k : Fin 8) : pends e (ix1 k) = BitVec.ofNat 32 (start (num e) (k.val + 1)) := by
  unfold pends running
  exact cumsum1 (N := 8) (Nm1 := 7) rfl _ (fun l => pad (cnt (num e) l)) (padded_apply e) _ (by rfl) _ _ k

theorem cends_apply (k : Fin 8) : running (counts e) (ix1 k) = BitVec.ofNat 32 (sumTo (cnt (num e)) (k.val + 1)) := by
  unfold running
  exact cumsum1 (N := 8) (Nm1 := 7) rfl _ (cnt (num e)) (counts_apply e) _ (by rfl) _ _ k

/-- How far each expert's entries move. -/
theorem shift_apply (k : Fin 8) : shift e (ix1 k) = BitVec.ofNat 32 (move (num e) k.val) := by
  have h1 := sumTo_succ (cnt (num e)) k.val
  have h2 := sumTo_succ (fun l => pad (cnt (num e) l)) k.val
  have h3 := (sumTo_pad (cnt (num e)) k.val).1
  have hs : ∀ l, start (num e) l = sumTo (fun l => pad (cnt (num e) l)) l := fun _ => rfl
  show (pends e (ix1 k) - padded e (ix1 k)) - (running (counts e) (ix1 k) - counts e (ix1 k)) = _
  rw [pends_apply, padded_apply, cends_apply, counts_apply, ofNat_sub' _ _ (by rw [hs]; omega), ofNat_sub' _ _ (by omega), hs,
    ofNat_sub' _ _ (by omega)]
  unfold move
  exact congrArg (BitVec.ofNat 32) (by rw [hs]; omega)

/-- A fold of words of which only one entry is not zero. -/
theorem fold_single {ι : Type} [DecidableEq ι] (S : Finset ι) (i0 : ι) (v : BitVec 32) (f : ι → BitVec 32) (h0 : f i0 = v) (h : ∀ i ∈ S, i ≠ i0 → f i = 0#32) :
    S.fold IntOp.addi 0#32 f = if i0 ∈ S then v else 0#32 := by
  induction S using Finset.induction_on with
  | empty => simp
  | insert a S ha ih =>
    rw [Finset.fold_insert ha, ih fun i hi => h i (Finset.mem_insert_of_mem hi)]
    by_cases hc : a = i0
    · subst hc
      rw [if_neg ha, if_pos (Finset.mem_insert_self _ _), h0]
      exact BitVec.add_zero v
    · rw [h a (Finset.mem_insert_self _ _) hc]
      have : (i0 ∈ insert a S) ↔ i0 ∈ S := by rw [Finset.mem_insert]; exact ⟨fun h => h.resolve_left fun q => hc q.symm, .inr⟩
      simp only [this]
      split
      · exact BitVec.zero_add v
      · rfl

/-- Of eight columns, a row's indicator picks one. -/
theorem pick_apply {n : ℕ} (hot sh : IVec (shape2 n 8) 32) (h : (shape2 n 8).ReducesTo [1] (shape1 n)) (hu : 0 < shape0.numel) (p : Fin n) (k : Fin 8)
    (hh : ∀ q : Fin 8, hot (ix2 p q) = if q = k then 1#32 else 0#32) :
    Host.reduce IntOp.addi (muli hot sh) (constantI shape0 32 0#32) h hu (ix1 p) = sh (ix2 p k) := by
  classical
  rw [Host.reduce_eq_fold]
  have hv : ∀ (i : (shape2 n 8).Idx), h.drop i = ix1 p ↔ i 0 = p := fun i => by
    have hv : (h.drop i 0 : Nat) = i 0 := Shape.ReducesTo.drop_apply_val h i 0
    constructor
    · intro e; rw [e] at hv; exact Fin.ext hv.symm
    · intro e; funext b; have hb : b = 0 := Subsingleton.elim _ _; subst hb; exact Fin.ext (by rw [hv, e]; rfl)
  refine (fold_single _ (ix2 p k) (sh (ix2 p k)) _ ?_ ?_).trans (if_pos ?_)
  · show IntOp.muli (hot (ix2 p k)) (sh (ix2 p k)) = _
    rw [hh, if_pos rfl]
    exact BitVec.one_mul _
  · intro i hi hne
    have h0 : i 0 = p := (hv i).1 (Finset.mem_filter.1 hi).2
    have ei : i = ix2 p (i 1) := by
      funext b
      match b with
      | ⟨0, _⟩ => exact h0
      | ⟨1, _⟩ => rfl
    show IntOp.muli (hot i) (sh i) = 0#32
    have hn : hot i = 0#32 := by
      rw [ei]
      exact (hh (i 1)).trans (if_neg fun hk => hne (ei.trans (congrArg (ix2 p) hk)))
    rw [hn]
    exact BitVec.zero_mul
  · exact Finset.mem_filter.2 ⟨Finset.mem_univ _, (hv _).2 rfl⟩

/-- A widened bit is 1 or 0. -/
theorem bit_word (w : BitVec 32) (q k : Fin 8) (hk : w.toNat = k.val) :
    (IntOp.cmpi .eq w (BitVec.ofNat 32 q.val)).setWidth 32 = if q = k then 1#32 else 0#32 := by
  by_cases h : q = k
  · subst h
    rw [if_pos rfl, (eq_word_iff _ _).2 ((mask_iff w q).2 hk)]
    rfl
  · rw [if_neg h]
    have hz : ∀ b : BitVec 1, b ≠ 1#1 → b.setWidth 32 = 0#32 := by decide
    exact hz _ fun hc => h (Fin.ext (((mask_iff w q).1 ((eq_word_iff _ _).1 hc)).symm.trans hk))

variable (he : ∀ j, num e j < 8)

/-- The padded row of entry `j`, as a number. -/
def slotNum (j : Fin 32768) : ℕ := (place e j).val + move (num e) (num e j)

include he in
/-- The padded rows of the entries. -/
theorem slots_apply (j : Fin 32768) : slots e (ix1 j) = BitVec.ofNat 32 (slotNum e j) := by
  have h := pick_apply (n := 32768) (oneHot e)
    (broadcastInDim (shape2 32768 8) ![0, 1] Cert.KernelIdeal.Gen.bcast_S1x8_S32768x8_0_1 (broadcastInDim (shape2 1 8) ![1] Cert.KernelIdeal.Gen.bcast_S8_S1x8_1 (shift e)))
    Cert.KernelIdeal.Gen.reducesTo_S32768x8_S32768_d1 Cert.KernelIdeal.Gen.h_S_ j ⟨num e j, he j⟩ fun q => by
      show (IntOp.cmpi .eq (broadcastInDim (shape2 32768 8) ![0, 1] _ (broadcastInDim (shape2 32768 1) ![0] _ e) (ix2 j q)) (broadcastInDim (shape2 32768 8) ![0, 1] _ (iotaInDim (shape2 1 8) 32 1) (ix2 j q))).setWidth 32 = _
      rw [bcRows (n := 32768) (m := 8), iota_cols (n := 32768)]
      exact bit_word _ q _ rfl
  show IntOp.addi (order (order e) (ix1 j)) _ = _
  refine (congrArg₂ IntOp.addi (rank_apply e j) (h.trans ((bcCols (n := 32768) (m := 8) _ _ _ j ⟨num e j, he j⟩).trans (shift_apply e _)))).trans ?_
  unfold slotNum
  exact (BitVec.ofNat_add _ _).symm

include he in
theorem slot_range (j : Fin 32768) : start (num e) (num e j) ≤ slotNum e j ∧ slotNum e j < start (num e) (num e j + 1) := by
  have hm : ∀ r r' : Fin 32768, r.val < r'.val → num e (src e r) ≤ num e (src e r') := fun r r' h => by
    have := src_mono e r r' h
    have h1 := he (src e r)
    have h2 := he (src e r')
    rw [num_word e, num_word e, small_toInt _ (by omega), small_toInt _ (by omega)] at this
    exact Int.ofNat_le.1 this
  have h := slot_bounds (num e) (src e) (src_bij e) hm (place e j)
  rw [src_place] at h
  exact h

include he in
theorem slot_lt (j : Fin 32768) : slotNum e j < 36864 := by
  have h := (slot_range e he j).2
  have := start_le (num e) (num e j + 1) (he j)
  omega

include he in
/-- The tile of an entry's row is its expert's, -/
theorem tile_count (j : Fin 32768) (t : Fin 72) (ht : t.val = slotNum e j / 512) : ended (pends e) (ix1 t) = BitVec.ofNat 32 (num e j) := by
  have h := slot_range e he j
  rw [ended_apply (pends e) (fun l => start (num e) (l + 1)) (fun k => by
    rw [pends_apply]
    exact small_toInt _ (by have := start_le (num e) (k.val + 1) k.isLt; omega)) t, ht]
  exact congrArg (BitVec.ofNat 32) (tile_class (num e) (num e j) (slotNum e j) 8 (he j) h.1 h.2)

theorem min7 : ∀ k : Fin 8, IntOp.minsi (BitVec.ofNat 32 k.val) 7#32 = BitVec.ofNat 32 k.val := by decide
theorem lt8 : ∀ k : Fin 8, (IntOp.cmpi .slt (BitVec.ofNat 32 k.val) 8#32).setWidth 32 = 1#32 := by decide

include he in
theorem tileExp_slot (j : Fin 32768) (t : Fin 72) (ht : t.val = slotNum e j / 512) : tileExp (pends e) (ix1 t) = BitVec.ofNat 32 (num e j) := by
  show IntOp.minsi (ended (pends e) (ix1 t)) 7#32 = _
  rw [tile_count e he j t ht]
  exact min7 ⟨num e j, he j⟩

include he in
/-- and is in use. -/
theorem tileValid_slot (j : Fin 32768) (t : Fin 72) (ht : t.val = slotNum e j / 512) : tileValid (pends e) (ix1 t) = 1#32 := by
  show (IntOp.cmpi .slt (ended (pends e) (ix1 t)) 8#32).setWidth 32 = _
  rw [tile_count e he j t ht]
  exact lt8 ⟨num e j, he j⟩

end Cert.Dispatch
end
-- ==== Proof.Fills.lean ====
module

public import proofs.«01_k».proof.Proof.Slots
public import Idealize.ShloMosaic.Lib.Routing.OpsSet

@[expose] public section

set_option maxRecDepth 16384

noncomputable section

namespace Cert.Dispatch

open Idealize.ShloMosaic
open Cert.KernelIdeal.Host Cert.Counts
open Idealize.ShloMosaic.Routing Idealize.ShloMosaic.ValueIdx
open Cert.KernelIdeal.Gen

variable (e : IVec (shape1 32768) 32) (he : ∀ j, num e j < 8)

theorem bcRow {α : Type} (h : (shape1 72).BroadcastsInDim (shape2 72 512) (![0] : Fin 1 → Fin (shape2 72 512).rank)) (v : (shape1 72).Idx → α) (t : Fin 72) (r : Fin 512) :
    broadcastInDim (shape2 72 512) ![0] h v (ix2 t r) = v (ix1 t) := by
  refine broadcastInDim_apply _ h v _ _ fun a => ?_
  match a with
  | ⟨0, _⟩ => show t.val = if (72 : ℕ) = 1 then 0 else t.val; rw [if_neg (by decide)]

include he in
/-- The shift of an entry's tile is its expert's. -/
theorem tileShift_slot (j : Fin 32768) (t : Fin 72) (ht : t.val = slotNum e j / 512) :
    tileShift (tileHot (tileExp (pends e))) (shift e) (ix1 t) = BitVec.ofNat 32 (move (num e) (num e j)) := by
  have h := pick_apply (n := 72) (tileHot (tileExp (pends e)))
    (broadcastInDim (shape2 72 8) ![0, 1] bcast_S1x8_S72x8_0_1 (broadcastInDim (shape2 1 8) ![1] bcast_S8_S1x8_1 (shift e)))
    reducesTo_S72x8_S72_d1 h_S_ t ⟨num e j, he j⟩ fun q => by
      show (IntOp.cmpi .eq (broadcastInDim (shape2 72 8) ![0, 1] _ (broadcastInDim (shape2 72 1) ![0] _ (tileExp (pends e))) (ix2 t q)) (broadcastInDim (shape2 72 8) ![0, 1] _ (iotaInDim (shape2 1 8) 32 1) (ix2 t q))).setWidth 32 = _
      rw [bcRows (n := 72) (m := 8), iota_cols (n := 72), tileExp_slot e he j t ht, ← num_word]
      exact bit_word _ q _ rfl
  exact h.trans ((bcCols (n := 72) (m := 8) _ _ _ t ⟨num e j, he j⟩).trans (shift_apply e _))

include he in
/-- The place that an entry's row is filled from is the entry's. -/
theorem places_slot (j : Fin 32768) (p : Fin 36864) (hp : p.val = slotNum e j) : places e (ix1 p) = BitVec.ofNat 32 (place e j).val := by
  have hl := p.isLt
  have hpl := (place e j).isLt
  have h1 : shapeCast (shape1 36864) (broadcastInDim (shape2 72 512) ![0] bcast_S72_S72x512_0 (tileShift (tileHot (tileExp (pends e))) (shift e))) shapeCasts_S72x512_S36864 (ix1 p)
      = BitVec.ofNat 32 (move (num e) (num e j)) :=
    (cast21 (a := 72) (b := 512) (n := 36864) _ _ ⟨p.val / 512, by omega⟩ ⟨p.val % 512, by omega⟩ p (by show p.val = p.val / 512 * 512 + p.val % 512; omega)).trans
      ((bcRow _ _ _ _).trans (tileShift_slot e he j _ (by show p.val / 512 = _; rw [hp])))
  show IntOp.minsi 32767#32 (IntOp.maxsi 0#32 (BitVec.ofNat 32 p.val - shapeCast (shape1 36864) (broadcastInDim (shape2 72 512) ![0] bcast_S72_S72x512_0 (tileShift (tileHot (tileExp (pends e))) (shift e))) shapeCasts_S72x512_S36864 (ix1 p))) = _
  rw [h1, hp, ofNat_sub' _ _ (by unfold slotNum; omega), show slotNum e j - move (num e) (num e j) = (place e j).val by unfold slotNum; omega,
    maxsi_zero_left (by omega)]
  unfold IntOp.minsi
  split
  · rename_i hc
    have h2 := small_toInt (place e j).val (by omega)
    have h3 : (32767#32 : BitVec 32).toInt = 32767 := by decide
    apply BitVec.eq_of_toNat_eq
    rw [BitVec.toNat_ofNat]
    simp only [BitVec.slt, BitVec.sle, h2, h3, decide_eq_true_eq] at hc
    show 32767 = _
    omega
  · rfl

/-- A row number that is not negative stays as it is. -/
theorem wrapRow_apply (x : IVec (shape1 36864) 32) (p : Fin 36864) (n : ℕ) (hx : x (ix1 p) = BitVec.ofNat 32 n) (hn : n < 2147483648) :
    wrapRow x (ix1 p) = BitVec.ofNat 32 n := by
  show Scalar.select (IntOp.cmpi .slt (x (ix1 p)) 0#32) (IntOp.addi (x (ix1 p)) 32768#32) (x (ix1 p)) = _
  have h0 : IntOp.cmpi .slt (x (ix1 p)) 0#32 ≠ 1 := fun hc => by
    have h2 := small_toInt n hn
    have hb : ∀ b : Bool, BitVec.ofBool b = 1#1 ↔ b = true := by decide
    have h3 := (hb _).1 hc
    rw [hx, BitVec.slt, decide_eq_true_eq, h2] at h3
    have h4 : (0#32 : BitVec 32).toInt = 0 := by decide
    omega
  unfold Scalar.select
  rw [if_neg h0, hx]

include he in
/-- An entry's row is filled with the entry. -/
theorem fills_slot (j : Fin 32768) (p : Fin 36864) (hp : p.val = slotNum e j) : fills e (ix1 p) = BitVec.ofNat 32 j.val := by
  have h := places_slot e he j p hp
  have hpl := (place e j).isLt
  refine (gather_take1 (N := 32768) (n := 36864) Cert.KernelIdeal.gather_S32768_S36864x1_S36864_n_0_n_n_0_1_1 rfl rfl rfl rfl (order e) _ p (place e j)
    ((bcCol (n := 36864) _ _ p).trans (wrapRow_apply _ p _ h (by omega))) (by decide)).trans ?_
  rw [order_apply, src_place]

theorem modTokens_apply (x : IVec (shape1 36864) 32) (p : Fin 36864) (n : ℕ) (hx : x (ix1 p) = BitVec.ofNat 32 n) (hn : n < 32768) :
    modTokens x (ix1 p) = BitVec.ofNat 32 (n % 16384) :=
  pyRem_ap bcast_S_S36864 x (constantI shape0 32 16384#32) (ix1 p) (b := 16384) hx rfl (by omega) (by decide) (by decide)

include he in
/-- The token row at an entry's row: the entry's token, of a group whose tokens begin at row `b`. -/
theorem rowsOf_slot {F : FTy → Type} [FloatOps F] (b : ℕ) (hb : b = 0 ∨ b = 16384) (h : Vec F Cert.KernelIdeal.S4x8192x1024 .bf16) (j : Fin 32768) (p : Fin 36864) (hp : p.val = slotNum e j) (d : Fin 1024)
    (bt : Fin 4) (n : Fin 8192) (hq : b + j.val % 16384 = bt.val * 8192 + n.val) :
    rowsOf (BitVec.ofNat 32 b) (fills e) h (ix2 p d) = h (ix3 bt n d) := by
  have hj := j.isLt
  have hm := modTokens_apply (fills e) p _ (fills_slot e he j p hp) hj
  have ha : addi (modTokens (fills e)) (constRow (BitVec.ofNat 32 b)) (ix1 p) = BitVec.ofNat 32 (j.val % 16384 + b) := by
    show modTokens (fills e) (ix1 p) + BitVec.ofNat 32 b = _
    rw [hm, ← BitVec.ofNat_add]
  have hlt : j.val % 16384 + b < 32768 := by omega
  refine (gather_row (nb := 32768) (B := 1024) (n := 36864) Cert.KernelIdeal.gather_S32768x1024_S36864x1_S36864x1024_1_0_n_n_0_1_11024 rfl rfl rfl rfl rfl _ _ p d ⟨j.val % 16384 + b, hlt⟩
    ((bcCol (n := 36864) _ _ p).trans (wrapRow_apply _ p _ ha (by omega))) (by decide)).trans ?_
  refine shapeCast_apply h _ _ _ ?_
  rw [Shape.rowMajor_val_three, Shape.rowMajor_val_two]
  show (bt.val * 8192 + n.val) * 1024 + d.val = (j.val % 16384 + b) * 1024 + d.val
  omega

include he in
/-- The result collected for an entry is the one at the entry's row. -/
theorem collect_slot {F : FTy → Type} [FloatOps F] (y : Vec F Cert.KernelIdeal.S36864x1024 .bf16) (k : Fin 2) (bt : Fin 2) (n : Fin 8192) (d : Fin 1024) (j : Fin 32768)
    (hj : j.val = (k.val * 2 + bt.val) * 8192 + n.val) :
    collect (slots e) y (ix4 k bt n d) = y (ix2 ⟨slotNum e j, slot_lt e he j⟩ d) := by
  have hs := slots_apply e he j
  have hl := slot_lt e he j
  have hi : select (cmpi .slt (slots e) (broadcastInDim (shape1 32768) ![] bcast_S_S32768 (constantI shape0 32 0#32)))
      (addi (slots e) (broadcastInDim (shape1 32768) ![] bcast_S_S32768 (constantI shape0 32 36864#32))) (slots e) (ix1 j) = BitVec.ofNat 32 (slotNum e j) := by
    show Scalar.select (IntOp.cmpi .slt (slots e (ix1 j)) 0#32) (IntOp.addi (slots e (ix1 j)) 36864#32) (slots e (ix1 j)) = _
    have h0 : IntOp.cmpi .slt (slots e (ix1 j)) 0#32 ≠ 1 := fun hc => by
      have h2 := small_toInt (slotNum e j) (by omega)
      have hb : ∀ b : Bool, BitVec.ofBool b = 1#1 ↔ b = true := by decide
      have h3 := (hb _).1 hc
      rw [hs, BitVec.slt, decide_eq_true_eq, h2] at h3
      have h4 : (0#32 : BitVec 32).toInt = 0 := by decide
      omega
    unfold Scalar.select
    rw [if_neg h0, hs]
  unfold collect
  refine (shapeCast_apply _ _ _ (ix2 j d) ?_).trans (gather_row (nb := 36864) (B := 1024) (n := 32768) Cert.KernelIdeal.gather_S36864x1024_S32768x1_S32768x1024_1_0_n_n_0_1_11024 rfl rfl rfl rfl rfl y _ j d ⟨slotNum e j, hl⟩
    ((bcCol (n := 32768) _ _ j).trans hi) (by decide))
  rw [Shape.rowMajor_val_four, Shape.rowMajor_val_two]
  show j.val * 1024 + d.val = ((k.val * 2 + bt.val) * 8192 + n.val) * 1024 + d.val
  omega

end Cert.Dispatch
end
-- ==== Proof.Rows.lean ====
module

public import proofs.«01_k».proof.Proof.Held
public import proofs.«01_k».proof.Proof.Words
public import proofs.«01_k».proof.Proof.Fills

@[expose] public section

set_option maxRecDepth 16384

noncomputable section

namespace Cert.KernelIdeal.Layer

open Idealize.ShloMosaic Idealize.ShloMosaic.TcCoe
open Cert.KernelIdeal.Gen Cert.KernelIdeal.Host
open Cert.Dispatch (num slotNum)

variable (m : (ℓ : Loc nD τ sig) → Buf (Elt Ideal) ℓ)

/-! ## The row a combining call takes for a token's choice: the chosen expert's layer of the token -/

def aH (c : Dev nD) : S4x8192x1024.Idx → EReal := m ((c : Thread nD τ).loc main_arg0)
def aX (c : Dev nD) : S4x8192x1024.Idx → EReal := m ((c : Thread nD τ).loc main_arg1)
def aM (c : Dev nD) : S4x6x1024.Idx → EReal := m ((c : Thread nD τ).loc main_arg2)
def aR (c : Dev nD) : S4x8192x8.Idx → EReal := m ((c : Thread nD τ).loc main_arg3)
def aW1 (c : Dev nD) : S8x1024x2816.Idx → EReal := m ((c : Thread nD τ).loc main_arg4)
def aW3 (c : Dev nD) : S8x1024x2816.Idx → EReal := m ((c : Thread nD τ).loc main_arg5)
def aW2 (c : Dev nD) : S8x2816x1024.Idx → EReal := m ((c : Thread nD τ).loc main_arg6)

/-- The word of a number of the routing. -/
def wordOf (x : EReal) : BitVec 32 := FloatOps.fptosi (F := Ideal) (φ := .f32) 32 x

/-- Expert `e`'s gated layer of a token. -/
def layer (c : Dev nD) (b : Fin 4) (n : Fin 8192) (d : Fin 1024) (e : Fin 8) : EReal :=
  Cert.Moe.swiglu (fun d => aH m c (ix3 b n d)) (fun d k => aW1 m c (ix3 e d k)) (fun d k => aW3 m c (ix3 e d k)) (fun k l => aW2 m c (ix3 e k l)) d

/-- Every word of the routing names an expert. -/
def Named (c : Dev nD) : Prop := ∀ (b : Fin 4) (n : Fin 8192) (k : Fin 2), (wordOf (aR m c (ix3 b n ⟨k.val, by omega⟩))).toNat < 8

/-- Then so does every word of a group, as every entry is a token's choice. -/
theorem num_of (c : Dev nD) (h : Named m c) (s : ℕ) (hs : s ≤ 2) (e : IVec S32768 32)
    (hr : ∀ (k bt : Fin 2) (b : Fin 4) (_ : b.val = bt.val + s) (n : Fin 8192) (j : Fin 32768), j.val = (k.val * 2 + bt.val) * 8192 + n.val →
      e (Idealize.ShloMosaic.ix1 j) = wordOf (aR m c (ix3 b n ⟨k.val, by omega⟩))) (j : Fin 32768) : num e j < 8 := by
  have hj := j.isLt
  exact (congrArg BitVec.toNat (hr ⟨j.val / 16384, by omega⟩ ⟨j.val / 8192 % 2, by omega⟩ ⟨j.val / 8192 % 2 + s, by omega⟩ rfl ⟨j.val % 8192, by omega⟩ j
    (by show j.val = (j.val / 16384 * 2 + j.val / 8192 % 2) * 8192 + j.val % 8192; omega))).trans_lt (h _ _ _)

theorem first_num (c : Dev nD) (h : Named m c) (j : Fin 32768) : num (firstWords m c) j < 8 :=
  num_of m c h 0 (by decide) _ (fun k bt b hb n j hj => Cert.Moe.firstOf_apply (F := Ideal) (aR m c) k bt b hb n j hj) j

theorem second_num (c : Dev nD) (h : Named m c) (j : Fin 32768) : num (secondWords m c) j < 8 :=
  num_of m c h 2 (by decide) _ (fun k bt b hb n j hj => Cert.Moe.secondOf_apply (F := Ideal) (aR m c) k bt b hb n j hj) j

/-- The weights an experts' call reads are the arguments. -/
theorem w1_read (c : Dev nD) (i : S8x1024x2816.Idx) : (V1 m c main_v0 : S8x1024x2816.Idx → EReal) i = aW1 m c i := congrFun (first_w1 m c) i
theorem w3_read (c : Dev nD) (i : S8x1024x2816.Idx) : (V1 m c main_v1 : S8x1024x2816.Idx → EReal) i = aW3 m c i := congrFun (first_w3 m c) i
theorem w2_read (c : Dev nD) (i : S8x2816x1024.Idx) : (V1 m c main_v2 : S8x2816x1024.Idx → EReal) i = aW2 m c i := congrFun (first_w2 m c) i

/-- A gated layer of a row equal to the token's, with weights equal to the expert's, is the expert's layer of the token. -/
theorem layer_of (c : Dev nD) (b : Fin 4) (n : Fin 8192) (d : Fin 1024) (x x' : Fin 8) (hx : x' = x) (h : Fin 1024 → EReal)
    (w1 w3 : S8x1024x2816.Idx → EReal) (w2 : S8x2816x1024.Idx → EReal) (hh : ∀ d, h d = aH m c (ix3 b n d))
    (h1 : ∀ i, w1 i = aW1 m c i) (h3 : ∀ i, w3 i = aW3 m c i) (h2 : ∀ i, w2 i = aW2 m c i) :
    Cert.Moe.swiglu h (fun d k => w1 (ix3 x' d k)) (fun d k => w3 (ix3 x' d k)) (fun k l => w2 (ix3 x' k l)) d = layer m c b n d x := by
  obtain rfl : h = fun d => aH m c (ix3 b n d) := funext hh
  obtain rfl : w1 = aW1 m c := funext h1
  obtain rfl : w3 = aW3 m c := funext h3
  obtain rfl : w2 = aW2 m c := funext h2
  rw [hx]
  rfl

/-- What the third call takes for an entry is the experts' result at the entry's row, -/
theorem first_collected (he : ∀ j, num (firstWords m 0) j < 8) (k bt : Fin 2) (n : Fin 8192) (d : Fin 1024) (j : Fin 32768)
    (hj : j.val = (k.val * 2 + bt.val) * 8192 + n.val) :
    (W2 m (0 : Dev nD) main_v158 : S2x2x8192x1024.Idx → EReal) (ix4 k bt n d) = First.outArr (W0 m) (ok0 m) 0 (ix2 ⟨slotNum (firstWords m 0) j, Cert.Dispatch.slot_lt _ he j⟩ d) :=
  (congrFun (third_takes m 0) _).trans (Cert.Dispatch.collect_slot _ he _ k bt n d j hj)

/-- whose tile is valid, -/
theorem first_valid (he : ∀ j, num (firstWords m 0) j < 8) (j : Fin 32768) (t : Fin 72) (ht : t.val = slotNum (firstWords m 0) j / 512) :
    First.word (W0 m) t = 1#32 :=
  (congrFun (first_call_valid m 0) _).trans (Cert.Dispatch.tileValid_slot _ he j t ht)

/-- is the entry's expert's, -/
theorem first_expert (he : ∀ j, num (firstWords m 0) j < 8) (j : Fin 32768) (t : Fin 72) (ht : t.val = slotNum (firstWords m 0) j / 512) :
    First.expert (W0 m) t = num (firstWords m 0) j :=
  (congrArg BitVec.toNat ((congrFun (first_call_exp m 0) _).trans (Cert.Dispatch.tileExp_slot _ he j t ht))).trans <| by
    have := he j
    rw [BitVec.toNat_ofNat]; omega

/-- and whose token row is the entry's token's. -/
theorem first_token (he : ∀ j, num (firstWords m 0) j < 8) (j : Fin 32768) (p : Fin 36864) (hp : p.val = slotNum (firstWords m 0) j) (d : Fin 1024) (b : Fin 4) (n : Fin 8192)
    (hq : 0 + j.val % 16384 = b.val * 8192 + n.val) : (W0 m (0 : Dev nD) main_v75 : S36864x1024.Idx → EReal) (ix2 p d) = aH m 0 (ix3 b n d) :=
  (congrFun (first_call_rows m 0) _).trans <| (Cert.Dispatch.rowsOf_slot _ he 0 (by decide) _ j p hp d b n hq).trans <|
    congrFun (tokens_first m 0) _

/-- So it takes the chosen expert's layer of the token. -/
theorem first_row (h : Named m 0) (k bt : Fin 2) (b : Fin 4) (hb : b.val = bt.val) (n : Fin 8192) (d : Fin 1024)
    (x : Fin 8) (hx : (wordOf (aR m 0 (ix3 b n ⟨k.val, by omega⟩))).toNat = x.val) :
    (W2 m (0 : Dev nD) main_v158 : S2x2x8192x1024.Idx → EReal) (ix4 k bt n d) = layer m 0 b n d x := by
  have hk := k.isLt
  have hbt := bt.isLt
  have hn := n.isLt
  obtain ⟨j, hj⟩ : ∃ j : Fin 32768, j.val = (k.val * 2 + bt.val) * 8192 + n.val := ⟨⟨_, by omega⟩, rfl⟩
  have hq : 0 + j.val % 16384 = b.val * 8192 + n.val := by omega
  have he := first_num m 0 h
  have hnum : num (firstWords m 0) j = x.val :=
    (congrArg BitVec.toNat (Cert.Moe.firstOf_apply (F := Ideal) (aR m 0) k bt b hb n j hj)).trans hx
  have hl := Cert.Dispatch.slot_lt _ he j
  obtain ⟨t, ht⟩ : ∃ t : Fin 72, t.val = slotNum (firstWords m 0) j / 512 := ⟨⟨_, Nat.div_lt_of_lt_mul hl⟩, rfl⟩
  refine (first_collected m he k bt n d j hj).trans ((First.outArr_apply (W0 m) (ok0 m) 0 ⟨slotNum (firstWords m 0) j, hl⟩ d t ht).trans ?_)
  have hv : 0 < (First.word (W0 m) t).toInt := by rw [first_valid m he j t ht]; decide
  have hE : (⟨First.expert (W0 m) t, First.expert_lt (W0 m) (ok0 m) t⟩ : Fin 8) = x := Fin.ext ((first_expert m he j t ht).trans hnum)
  refine (if_pos hv).trans ?_
  refine layer_of m 0 b n d x ⟨First.expert (W0 m) t, First.expert_lt (W0 m) (ok0 m) t⟩ hE
    (fun d => W0 m (0 : Dev nD) main_v75 (ix2 ⟨slotNum (firstWords m 0) j, hl⟩ d)) (W0 m (0 : Dev nD) main_v0) (W0 m (0 : Dev nD) main_v1) (W0 m (0 : Dev nD) main_v2) (fun d' => ?_) (fun i => ?_) (fun i => ?_) (fun i => ?_)
  · exact first_token m he j _ rfl d' b n hq
  · exact (congrFun (w1_at m 0).1 i).trans (w1_read m 0 i)
  · exact (congrFun (w3_at m 0).1 i).trans (w3_read m 0 i)
  · exact (congrFun (w2_at m 0).1 i).trans (w2_read m 0 i)

/-- What the fourth call takes for an entry is the experts' result at the entry's row, -/
theorem second_collected (he : ∀ j, num (secondWords m 0) j < 8) (k bt : Fin 2) (n : Fin 8192) (d : Fin 1024) (j : Fin 32768)
    (hj : j.val = (k.val * 2 + bt.val) * 8192 + n.val) :
    (W3 m (0 : Dev nD) main_v167 : S2x2x8192x1024.Idx → EReal) (ix4 k bt n d) = Second.outArr (W1 m) (ok1 m) 0 (ix2 ⟨slotNum (secondWords m 0) j, Cert.Dispatch.slot_lt _ he j⟩ d) :=
  (congrFun (fourth_takes m 0) _).trans (Cert.Dispatch.collect_slot _ he _ k bt n d j hj)

/-- whose tile is valid, -/
theorem second_valid (he : ∀ j, num (secondWords m 0) j < 8) (j : Fin 32768) (t : Fin 72) (ht : t.val = slotNum (secondWords m 0) j / 512) :
    Second.word (W1 m) t = 1#32 :=
  (congrFun (second_call_valid m (outs1 m) 0) _).trans (Cert.Dispatch.tileValid_slot _ he j t ht)

/-- is the entry's expert's, -/
theorem second_expert (he : ∀ j, num (secondWords m 0) j < 8) (j : Fin 32768) (t : Fin 72) (ht : t.val = slotNum (secondWords m 0) j / 512) :
    Second.expert (W1 m) t = num (secondWords m 0) j :=
  (congrArg BitVec.toNat ((congrFun (second_call_exp m (outs1 m) 0) _).trans (Cert.Dispatch.tileExp_slot _ he j t ht))).trans <| by
    have := he j
    rw [BitVec.toNat_ofNat]; omega

/-- and whose token row is the entry's token's. -/
theorem second_token (he : ∀ j, num (secondWords m 0) j < 8) (j : Fin 32768) (p : Fin 36864) (hp : p.val = slotNum (secondWords m 0) j) (d : Fin 1024) (b : Fin 4) (n : Fin 8192)
    (hq : 16384 + j.val % 16384 = b.val * 8192 + n.val) : (W1 m (0 : Dev nD) main_v149 : S36864x1024.Idx → EReal) (ix2 p d) = aH m 0 (ix3 b n d) :=
  (congrFun (second_call_rows m (outs1 m) 0) _).trans <| (Cert.Dispatch.rowsOf_slot _ he 16384 (by decide) _ j p hp d b n hq).trans <|
    congrFun (tokens_second m 0) _

/-- So it takes the chosen expert's layer of the token. -/
theorem second_row (h : Named m 0) (k bt : Fin 2) (b : Fin 4) (hb : b.val = bt.val + 2) (n : Fin 8192) (d : Fin 1024)
    (x : Fin 8) (hx : (wordOf (aR m 0 (ix3 b n ⟨k.val, by omega⟩))).toNat = x.val) :
    (W3 m (0 : Dev nD) main_v167 : S2x2x8192x1024.Idx → EReal) (ix4 k bt n d) = layer m 0 b n d x := by
  have hk := k.isLt
  have hbt := bt.isLt
  have hn := n.isLt
  obtain ⟨j, hj⟩ : ∃ j : Fin 32768, j.val = (k.val * 2 + bt.val) * 8192 + n.val := ⟨⟨_, by omega⟩, rfl⟩
  have hq : 16384 + j.val % 16384 = b.val * 8192 + n.val := by omega
  have he := second_num m 0 h
  have hnum : num (secondWords m 0) j = x.val :=
    (congrArg BitVec.toNat (Cert.Moe.secondOf_apply (F := Ideal) (aR m 0) k bt b hb n j hj)).trans hx
  have hl := Cert.Dispatch.slot_lt _ he j
  obtain ⟨t, ht⟩ : ∃ t : Fin 72, t.val = slotNum (secondWords m 0) j / 512 := ⟨⟨_, Nat.div_lt_of_lt_mul hl⟩, rfl⟩
  refine (second_collected m he k bt n d j hj).trans ((Second.outArr_apply (W1 m) (ok1 m) 0 ⟨slotNum (secondWords m 0) j, hl⟩ d t ht).trans ?_)
  have hv : 0 < (Second.word (W1 m) t).toInt := by rw [second_valid m he j t ht]; decide
  have hE : (⟨Second.expert (W1 m) t, Second.expert_lt (W1 m) (ok1 m) t⟩ : Fin 8) = x := Fin.ext ((second_expert m he j t ht).trans hnum)
  refine (if_pos hv).trans ?_
  refine layer_of m 0 b n d x ⟨Second.expert (W1 m) t, Second.expert_lt (W1 m) (ok1 m) t⟩ hE
    (fun d => W1 m (0 : Dev nD) main_v149 (ix2 ⟨slotNum (secondWords m 0) j, hl⟩ d)) (W1 m (0 : Dev nD) main_v0) (W1 m (0 : Dev nD) main_v1) (W1 m (0 : Dev nD) main_v2) (fun d' => ?_) (fun i => ?_) (fun i => ?_) (fun i => ?_)
  · exact second_token m he j _ rfl d' b n hq
  · exact (congrFun (w1_at m 0).2 i).trans (w1_read m 0 i)
  · exact (congrFun (w3_at m 0).2 i).trans (w3_read m 0 i)
  · exact (congrFun (w2_at m 0).2 i).trans (w2_read m 0 i)

end Cert.KernelIdeal.Layer
end
-- ==== Proof.CombineValue.lean ====
module

public import proofs.«01_k».proof.Proof.Third
public import proofs.«01_k».proof.Proof.Fourth
public import Idealize.ShloMosaic.Lib.Pointwise
public import Idealize.ShloMosaic.Lib.Pipeline.ValueKit
public import Idealize.ShloMosaic.Lib.Pipeline.Covers

@[expose] public section

set_option maxRecDepth 16384

noncomputable section

namespace Cert.KernelIdeal.Combine

open Idealize.ShloMosaic Idealize.ShloMosaic.TcCoe Idealize.ShloMosaic.Tactic
open Cert.KernelIdeal.Gen

/-- A token's residual plus its gate times the sum of two weighted results. -/
def mix (x g wa ya wb yb : EReal) : EReal := x + g * (wa * ya + wb * yb)

/-- The combined block, read at a token and a column. -/
theorem tileComb_apply (x0 : Vec Ideal S1x512x1024 .f32) (x1 : Vec Ideal S1x6x1024 .f32) (x2 x3 : Vec Ideal S1x1x512x1024 .bf16) (x4 : Vec Ideal S1x512x8 .f32)
    (r : Fin 512) (d : Fin 1024) :
    tileComb x0 x1 x2 x3 x4 (ix3 0 r d) = mix (x0 (ix3 0 r d)) (x1 (ix3 0 5 d)) (x4 (ix3 0 r 2)) (x2 (ix4 0 0 r d)) (x4 (ix3 0 r 3)) (x3 (ix4 0 0 r d)) := by
  unfold mix
  unfold tileComb
  pointwise [k2_pay1]
  have e1 : ∀ h, VecWindow.window x1 ![0, 5, 0] ![1, 1, 1024] h (ix3 0 0 d) = x1 (ix3 0 5 d) := fun h =>
    congrArg x1 (funext fun a => Fin.ext (by
      match a with
      | ⟨0, _⟩ => rfl
      | ⟨1, _⟩ => rfl
      | ⟨2, _⟩ => show 0 + 1 * d.val = d.val; omega))
  have e4 : ∀ (k : Fin 8) (h : ∀ a, (![0, 0, k.val] : Fin 3 → ℕ) a + (![1, 512, 1] : Fin 3 → ℕ) a ≤ S1x512x8.size a),
      VecWindow.window x4 ![0, 0, k.val] ![1, 512, 1] h (ix3 0 r 0) = x4 (ix3 0 r k) := fun k h =>
    congrArg x4 (funext fun a => Fin.ext (by
      match a with
      | ⟨0, _⟩ => rfl
      | ⟨1, _⟩ => show 0 + 1 * r.val = r.val; omega
      | ⟨2, _⟩ => show k.val + 1 * 0 = k.val; omega))
  rw [e1]
  have h2 := e4 2 inb_S1x512x8_S1x512x1_0_0_2
  have h3 := e4 3 inb_S1x512x8_S1x512x1_0_0_3
  exact congrArg₂ (fun a b => x0 (ix3 0 r d) + x1 (ix3 0 5 d) * (a * x2 (ix4 0 0 r d) + b * x3 (ix4 0 0 r d))) h2 h3

end Cert.KernelIdeal.Combine
end
-- ==== Proof.ThirdValue.lean ====
module

public import proofs.«01_k».proof.Proof.CombineValue
public import Idealize.ShloMosaic.Lib.Pipeline.ValueKit.Partial

@[expose] public section

set_option maxRecDepth 16384

noncomputable section

namespace Cert.KernelIdeal.Third

open Idealize.ShloMosaic Idealize.ShloMosaic.TcCoe Idealize.ShloMosaic.Tactic
open Idealize.SL.Sem
open Idealize.ShloMosaic.Pipeline (Dat Cfg Window)
open Cert.KernelIdeal.Gen Cert.KernelIdeal.Combine

variable {F : FTy → Type} [FloatOps F]
variable (W : Dev nD → Valuation τ sig (Elt F))

/-- A grid point's coordinates: its batch in the group, and its block of tokens. -/
theorem coord_0 (t : Fin grid2.N) : (grid2.coords t 0).val = t.val / 16 := by
  revert t; decide +kernel
theorem coord_1 (t : Fin grid2.N) : (grid2.coords t 1).val = t.val % 16 := by
  revert t; decide +kernel
theorem pt_lt (t : Fin cfg2.N) : t.val < 32 := t.isLt

theorem small_word (n : ℕ) (h : n < 32) : (BitVec.ofNat 32 n).toNat = n := by
  rw [BitVec.toNat_ofNat]; omega

theorem index_0 (t : Fin cfg2.N) : (cfg2.win 0).index t = ![t.val / 16, t.val % 16, 0] := by
  have ht := pt_lt t
  funext a
  match a with
  | ⟨0, _⟩ => show (BitVec.ofNat 32 (grid2.coords t 0).val + 0#32).toNat = t.val / 16; rw [coord_0, BitVec.add_zero, small_word _ (by omega)]
  | ⟨1, _⟩ => show (BitVec.ofNat 32 (grid2.coords t 1).val).toNat = t.val % 16; rw [coord_1, small_word _ (by omega)]
  | ⟨2, _⟩ => rfl
theorem index_4 (t : Fin cfg2.N) : (cfg2.win 4).index t = ![t.val / 16, t.val % 16, 0] := index_0 t
theorem index_5 (t : Fin cfg2.N) : (cfg2.win 5).index t = ![t.val / 16, t.val % 16, 0] := index_0 t
theorem index_1 (t : Fin cfg2.N) : (cfg2.win 1).index t = ![t.val / 16, 0, 0] := by
  funext a
  match a with
  | ⟨0, _⟩ => exact congrFun (index_0 t) 0
  | ⟨1, _⟩ => rfl
  | ⟨2, _⟩ => rfl
theorem index_2 (t : Fin cfg2.N) : (cfg2.win 2).index t = ![0, t.val / 16, t.val % 16, 0] := by
  have ht := pt_lt t
  funext a
  match a with
  | ⟨0, _⟩ => rfl
  | ⟨1, _⟩ => show (BitVec.ofNat 32 (grid2.coords t 0).val).toNat = t.val / 16; rw [coord_0, small_word _ (by omega)]
  | ⟨2, _⟩ => show (BitVec.ofNat 32 (grid2.coords t 1).val).toNat = t.val % 16; rw [coord_1, small_word _ (by omega)]
  | ⟨3, _⟩ => rfl
theorem index_3 (t : Fin cfg2.N) : (cfg2.win 3).index t = ![1, t.val / 16, t.val % 16, 0] := by
  funext a
  match a with
  | ⟨0, _⟩ => rfl
  | ⟨1, _⟩ => exact congrFun (index_2 t) 1
  | ⟨2, _⟩ => exact congrFun (index_2 t) 2
  | ⟨3, _⟩ => rfl

/-! ## The point's blocks, read -/

theorem blk_0 (c : Dev nD) (t : Fin cfg2.N) (b : Fin 4) (hb : b.val = t.val / 16) (r : Fin 512) (n : Fin 8192) (hn : n.val = t.val % 16 * 512 + r.val) (d : Fin 1024) :
    blk W c 0 t (ix3 0 r d) = V W c main_arg1 (ix3 b n d) := by
  unfold blk
  blk_ext [V, index_0 t]
  all_goals omega
theorem blk_1 (c : Dev nD) (t : Fin cfg2.N) (b : Fin 4) (hb : b.val = t.val / 16) (k : Fin 6) (d : Fin 1024) :
    blk W c 1 t (ix3 0 k d) = V W c main_arg2 (ix3 b k d) := by
  unfold blk
  blk_ext [V, index_1 t]
  all_goals omega
theorem blk_2 (c : Dev nD) (t : Fin cfg2.N) (b : Fin 2) (hb : b.val = t.val / 16) (r : Fin 512) (n : Fin 8192) (hn : n.val = t.val % 16 * 512 + r.val) (d : Fin 1024) :
    blk W c 2 t (ix4 0 0 r d) = V W c main_v158 (ix4 0 b n d) := by
  unfold blk
  blk_ext [V, index_2 t]
  all_goals omega
theorem blk_3 (c : Dev nD) (t : Fin cfg2.N) (b : Fin 2) (hb : b.val = t.val / 16) (r : Fin 512) (n : Fin 8192) (hn : n.val = t.val % 16 * 512 + r.val) (d : Fin 1024) :
    blk W c 3 t (ix4 0 0 r d) = V W c main_v158 (ix4 1 b n d) := by
  unfold blk
  blk_ext [V, index_3 t]
  all_goals omega
theorem blk_4 (c : Dev nD) (t : Fin cfg2.N) (b : Fin 4) (hb : b.val = t.val / 16) (r : Fin 512) (n : Fin 8192) (hn : n.val = t.val % 16 * 512 + r.val) (k : Fin 8) :
    blk W c 4 t (ix3 0 r k) = V W c main_arg3 (ix3 b n k) := by
  unfold blk
  blk_ext [V, index_4 t]
  all_goals omega

/-- The point that writes a batch and token. -/
def pointOf (b n : ℕ) : Fin cfg2.N := ⟨b % 2 * 16 + n / 512 % 16, by show _ < 32; omega⟩

/-- The written blocks are those of the first two batches. -/
theorem out_covers : (cfg2.win 5).CoversWhere fun β => β (0 : Fin 3) < 2 := by decide +kernel

/-- The result array: the group's batches hold what the points leave, the others what they held. -/
theorem outArr_blocks (c : Dev nD) : outArr W c = fun i : S4x8192x1024.Idx => if (i 0).val < 2 then
    outBlk W c (pointOf (i 0).val (i 1).val) (ix3 0 ⟨(i 1).val % 512, by omega⟩ (i 2)) else V W c main_v159 i := by
  refine (data W c).arrAt_eq_of_coversWhere 5 (fun i : S4x8192x1024.Idx => outBlk W c (pointOf (i 0).val (i 1).val) (ix3 0 ⟨(i 1).val % 512, by omega⟩ (i 2)))
    (P := fun i : S4x8192x1024.Idx => (i 0).val < 2) _ out_covers (fun t hf y => ?_) (fun j => by show (j (0 : Fin 3)).val < 2 ↔ (j (0 : Fin 3)).val / 1 < 2; rw [Nat.div_one])
  rw [after_5]
  have ht := pt_lt t
  have e0 : ((((cfg2.win 5).blk t).view.emb y) (0 : Fin 3) : ℕ) = t.val / 16 + (y (0 : Fin 3)).val := by
    blk_simp [index_5 t]
  have e1 : ((((cfg2.win 5).blk t).view.emb y) (1 : Fin 3) : ℕ) = t.val % 16 * 512 + (y (1 : Fin 3)).val := by
    blk_simp [index_5 t]
  have e2 : ((((cfg2.win 5).blk t).view.emb y) (2 : Fin 3) : ℕ) = (y (2 : Fin 3)).val := by
    blk_simp [index_5 t]
  have hy0 : (y (0 : Fin 3)).val < 1 := (y (0 : Fin 3)).isLt
  have hy1 : (y (1 : Fin 3)).val < 512 := (y (1 : Fin 3)).isLt
  show outBlk W c t _ = outBlk W c _ _
  congr 1
  · exact Fin.ext (by show t.val = _ % 2 * 16 + _ / 512 % 16; rw [e0, e1]; omega)
  · funext a
    apply Fin.ext
    match a with
    | ⟨0, _⟩ => show (y (0 : Fin 3)).val = 0; omega
    | ⟨1, _⟩ => show (y (1 : Fin 3)).val = _ % 512; rw [e1]; omega
    | ⟨2, _⟩ => exact e2.symm

/-- The batches outside the group are as they were. -/
theorem outArr_kept (c : Dev nD) (b : Fin 4) (hb : ¬ b.val < 2) (n : Fin 8192) (d : Fin 1024) : outArr W c (ix3 b n d) = V W c main_v159 (ix3 b n d) := by
  rw [outArr_blocks]
  exact if_neg hb

section ideal

variable (W : Dev nD → Valuation τ sig (Elt Ideal))

/-- The group's batches: the residual plus the gate row times the two experts' results by their weights. -/
theorem outArr_apply (c : Dev nD) (b : Fin 4) (b' : Fin 2) (hb : b.val = b'.val) (n : Fin 8192) (d : Fin 1024) :
    outArr W c (ix3 b n d) = mix (V W c main_arg1 (ix3 b n d)) (V W c main_arg2 (ix3 b 5 d))
      (V W c main_arg3 (ix3 b n 2)) (V W c main_v158 (ix4 0 b' n d)) (V W c main_arg3 (ix3 b n 3)) (V W c main_v158 (ix4 1 b' n d)) := by
  have hb2 := b'.isLt
  have hn := n.isLt
  have h0 : b.val = (pointOf b.val n.val).val / 16 := by show _ = (b.val % 2 * 16 + n.val / 512 % 16) / 16; omega
  have h1 : n.val = (pointOf b.val n.val).val % 16 * 512 + n.val % 512 := by show _ = (b.val % 2 * 16 + n.val / 512 % 16) % 16 * 512 + n.val % 512; omega
  have key : outBlk W c (pointOf b.val n.val) (ix3 0 ⟨n.val % 512, by omega⟩ d) = _ := tileComb_apply _ _ _ _ _ ⟨n.val % 512, by omega⟩ d
  rw [blk_0 W c _ b h0 _ n h1, blk_1 W c _ b h0, blk_2 W c _ b' (hb.symm.trans h0) _ n h1, blk_3 W c _ b' (hb.symm.trans h0) _ n h1,
    blk_4 W c _ b h0 _ n h1, blk_4 W c _ b h0 _ n h1] at key
  rw [outArr_blocks]
  exact (if_pos (show b.val < 2 by omega)).trans key

end ideal

end Cert.KernelIdeal.Third
end
-- ==== Proof.FourthValue.lean ====
module

public import proofs.«01_k».proof.Proof.CombineValue
public import Idealize.ShloMosaic.Lib.Pipeline.ValueKit.Partial

@[expose] public section

set_option maxRecDepth 16384

noncomputable section

namespace Cert.KernelIdeal.Fourth

open Idealize.ShloMosaic Idealize.ShloMosaic.TcCoe Idealize.ShloMosaic.Tactic
open Idealize.SL.Sem
open Idealize.ShloMosaic.Pipeline (Dat Cfg Window)
open Cert.KernelIdeal.Gen Cert.KernelIdeal.Combine

variable {F : FTy → Type} [FloatOps F]
variable (W : Dev nD → Valuation τ sig (Elt F))

/-- A grid point's coordinates: its batch in the group, and its block of tokens. -/
theorem coord_0 (t : Fin grid3.N) : (grid3.coords t 0).val = t.val / 16 := by
  revert t; decide +kernel
theorem coord_1 (t : Fin grid3.N) : (grid3.coords t 1).val = t.val % 16 := by
  revert t; decide +kernel
theorem pt_lt (t : Fin cfg3.N) : t.val < 32 := t.isLt

theorem small_word (n : ℕ) (h : n < 32) : (BitVec.ofNat 32 n).toNat = n := by
  rw [BitVec.toNat_ofNat]; omega

theorem index_0 (t : Fin cfg3.N) : (cfg3.win 0).index t = ![t.val / 16 + 2, t.val % 16, 0] := by
  have ht := pt_lt t
  funext a
  match a with
  | ⟨0, _⟩ => show (BitVec.ofNat 32 (grid3.coords t 0).val + BitVec.ofNat 32 2).toNat = t.val / 16 + 2; rw [coord_0, ← BitVec.ofNat_add, small_word _ (by omega)]
  | ⟨1, _⟩ => show (BitVec.ofNat 32 (grid3.coords t 1).val).toNat = t.val % 16; rw [coord_1, small_word _ (by omega)]
  | ⟨2, _⟩ => rfl
theorem index_4 (t : Fin cfg3.N) : (cfg3.win 4).index t = ![t.val / 16 + 2, t.val % 16, 0] := index_0 t
theorem index_5 (t : Fin cfg3.N) : (cfg3.win 5).index t = ![t.val / 16 + 2, t.val % 16, 0] := index_0 t
theorem index_1 (t : Fin cfg3.N) : (cfg3.win 1).index t = ![t.val / 16 + 2, 0, 0] := by
  funext a
  match a with
  | ⟨0, _⟩ => exact congrFun (index_0 t) 0
  | ⟨1, _⟩ => rfl
  | ⟨2, _⟩ => rfl
theorem index_2 (t : Fin cfg3.N) : (cfg3.win 2).index t = ![0, t.val / 16, t.val % 16, 0] := by
  have ht := pt_lt t
  funext a
  match a with
  | ⟨0, _⟩ => rfl
  | ⟨1, _⟩ => show (BitVec.ofNat 32 (grid3.coords t 0).val).toNat = t.val / 16; rw [coord_0, small_word _ (by omega)]
  | ⟨2, _⟩ => show (BitVec.ofNat 32 (grid3.coords t 1).val).toNat = t.val % 16; rw [coord_1, small_word _ (by omega)]
  | ⟨3, _⟩ => rfl
theorem index_3 (t : Fin cfg3.N) : (cfg3.win 3).index t = ![1, t.val / 16, t.val % 16, 0] := by
  funext a
  match a with
  | ⟨0, _⟩ => rfl
  | ⟨1, _⟩ => exact congrFun (index_2 t) 1
  | ⟨2, _⟩ => exact congrFun (index_2 t) 2
  | ⟨3, _⟩ => rfl

/-! ## The point's blocks, read -/

theorem blk_0 (c : Dev nD) (t : Fin cfg3.N) (b : Fin 4) (hb : b.val = t.val / 16 + 2) (r : Fin 512) (n : Fin 8192) (hn : n.val = t.val % 16 * 512 + r.val) (d : Fin 1024) :
    blk W c 0 t (ix3 0 r d) = V W c main_v159 (ix3 b n d) := by
  unfold blk
  blk_ext [V, index_0 t]
  all_goals omega
theorem blk_1 (c : Dev nD) (t : Fin cfg3.N) (b : Fin 4) (hb : b.val = t.val / 16 + 2) (k : Fin 6) (d : Fin 1024) :
    blk W c 1 t (ix3 0 k d) = V W c main_arg2 (ix3 b k d) := by
  unfold blk
  blk_ext [V, index_1 t]
  all_goals omega
theorem blk_2 (c : Dev nD) (t : Fin cfg3.N) (b : Fin 2) (hb : b.val = t.val / 16) (r : Fin 512) (n : Fin 8192) (hn : n.val = t.val % 16 * 512 + r.val) (d : Fin 1024) :
    blk W c 2 t (ix4 0 0 r d) = V W c main_v167 (ix4 0 b n d) := by
  unfold blk
  blk_ext [V, index_2 t]
  all_goals omega
theorem blk_3 (c : Dev nD) (t : Fin cfg3.N) (b : Fin 2) (hb : b.val = t.val / 16) (r : Fin 512) (n : Fin 8192) (hn : n.val = t.val % 16 * 512 + r.val) (d : Fin 1024) :
    blk W c 3 t (ix4 0 0 r d) = V W c main_v167 (ix4 1 b n d) := by
  unfold blk
  blk_ext [V, index_3 t]
  all_goals omega
theorem blk_4 (c : Dev nD) (t : Fin cfg3.N) (b : Fin 4) (hb : b.val = t.val / 16 + 2) (r : Fin 512) (n : Fin 8192) (hn : n.val = t.val % 16 * 512 + r.val) (k : Fin 8) :
    blk W c 4 t (ix3 0 r k) = V W c main_arg3 (ix3 b n k) := by
  unfold blk
  blk_ext [V, index_4 t]
  all_goals omega

/-- The point that writes a batch and token. -/
def pointOf (b n : ℕ) : Fin cfg3.N := ⟨(b - 2) % 2 * 16 + n / 512 % 16, by show _ < 32; omega⟩

/-- The written blocks are those of the last two batches. -/
theorem out_covers : (cfg3.win 5).CoversWhere fun β => 2 ≤ β (0 : Fin 3) := by decide +kernel

/-- The result array: the group's batches hold what the points leave, the others what they held. -/
theorem outArr_blocks (c : Dev nD) : outArr W c = fun i : S4x8192x1024.Idx => if 2 ≤ (i 0).val then
    outBlk W c (pointOf (i 0).val (i 1).val) (ix3 0 ⟨(i 1).val % 512, by omega⟩ (i 2)) else V W c main_v168 i := by
  refine (data W c).arrAt_eq_of_coversWhere 5 (fun i : S4x8192x1024.Idx => outBlk W c (pointOf (i 0).val (i 1).val) (ix3 0 ⟨(i 1).val % 512, by omega⟩ (i 2)))
    (P := fun i : S4x8192x1024.Idx => 2 ≤ (i 0).val) _ out_covers (fun t hf y => ?_) (fun j => by show 2 ≤ (j (0 : Fin 3)).val ↔ 2 ≤ (j (0 : Fin 3)).val / 1; rw [Nat.div_one])
  rw [after_5]
  have ht := pt_lt t
  have e0 : ((((cfg3.win 5).blk t).view.emb y) (0 : Fin 3) : ℕ) = t.val / 16 + 2 + (y (0 : Fin 3)).val := by
    blk_simp [index_5 t]
  have e1 : ((((cfg3.win 5).blk t).view.emb y) (1 : Fin 3) : ℕ) = t.val % 16 * 512 + (y (1 : Fin 3)).val := by
    blk_simp [index_5 t]
  have e2 : ((((cfg3.win 5).blk t).view.emb y) (2 : Fin 3) : ℕ) = (y (2 : Fin 3)).val := by
    blk_simp [index_5 t]
  have hy0 : (y (0 : Fin 3)).val < 1 := (y (0 : Fin 3)).isLt
  have hy1 : (y (1 : Fin 3)).val < 512 := (y (1 : Fin 3)).isLt
  show outBlk W c t _ = outBlk W c _ _
  congr 1
  · exact Fin.ext (by show t.val = (_ - 2) % 2 * 16 + _ / 512 % 16; rw [e0, e1]; omega)
  · funext a
    apply Fin.ext
    match a with
    | ⟨0, _⟩ => show (y (0 : Fin 3)).val = 0; omega
    | ⟨1, _⟩ => show (y (1 : Fin 3)).val = _ % 512; rw [e1]; omega
    | ⟨2, _⟩ => exact e2.symm

/-- The batches outside the group are as they were. -/
theorem outArr_kept (c : Dev nD) (b : Fin 4) (hb : ¬ 2 ≤ b.val) (n : Fin 8192) (d : Fin 1024) : outArr W c (ix3 b n d) = V W c main_v168 (ix3 b n d) := by
  rw [outArr_blocks]
  exact if_neg hb

section ideal

variable (W : Dev nD → Valuation τ sig (Elt Ideal))

/-- The group's batches: the residual plus the gate row times the two experts' results by their weights. -/
theorem outArr_apply (c : Dev nD) (b : Fin 4) (b' : Fin 2) (hb : b.val = b'.val + 2) (n : Fin 8192) (d : Fin 1024) :
    outArr W c (ix3 b n d) = mix (V W c main_v159 (ix3 b n d)) (V W c main_arg2 (ix3 b 5 d))
      (V W c main_arg3 (ix3 b n 2)) (V W c main_v167 (ix4 0 b' n d)) (V W c main_arg3 (ix3 b n 3)) (V W c main_v167 (ix4 1 b' n d)) := by
  have hb2 := b'.isLt
  have hn := n.isLt
  have h0 : b.val = (pointOf b.val n.val).val / 16 + 2 := by show _ = ((b.val - 2) % 2 * 16 + n.val / 512 % 16) / 16 + 2; omega
  have h1 : n.val = (pointOf b.val n.val).val % 16 * 512 + n.val % 512 := by show _ = ((b.val - 2) % 2 * 16 + n.val / 512 % 16) % 16 * 512 + n.val % 512; omega
  have key : outBlk W c (pointOf b.val n.val) (ix3 0 ⟨n.val % 512, by omega⟩ d) = _ := tileComb_apply _ _ _ _ _ ⟨n.val % 512, by omega⟩ d
  rw [blk_0 W c _ b h0 _ n h1, blk_1 W c _ b h0, blk_2 W c _ b' (by omega) _ n h1, blk_3 W c _ b' (by omega) _ n h1,
    blk_4 W c _ b h0 _ n h1, blk_4 W c _ b h0 _ n h1] at key
  rw [outArr_blocks]
  exact (if_pos (show 2 ≤ b.val by omega)).trans key

end ideal

end Cert.KernelIdeal.Fourth
end
-- ==== Proof.Choice.lean ====
module

public import proofs.«01_k».proof.Pre_two_experts
public import proofs.«01_k».proof.Proof.Gen.Pre_two_experts
public import proofs.«01_k».proof.Proof.Swiglu
public import Idealize.ShloMosaic.Lib.Pointwise
public import Idealize.ShloMosaic.Lib.Tactic
public import Idealize.ShloMosaic.Lib.WordArith

@[expose] public section

set_option maxRecDepth 16384

noncomputable section

namespace Cert.Choice

open Idealize.ShloMosaic
open Cert.Pre_two_experts Cert.Pre_two_experts.Gen

/-- The precondition, read at a token's choice `k`: both bounds of the word, and that the token's two words differ. -/
theorem fn_apply {F : FTy → Type} [FloatOps F] (h : FVec F S4x8192x1024 .bf16) (x : FVec F S4x8192x1024 .f32) (md : FVec F S4x6x1024 .f32) (rt : FVec F S4x8192x8 .f32)
    (w1 w3 : FVec F S8x1024x2816 .f32) (w2 : FVec F S8x2816x1024 .f32) (b : Fin 4) (n : Fin 8192) (k : Fin 2) :
    fn h x md rt w1 w3 w2 (ix3 b n k)
      = (IntOp.cmpi .sge (FloatOps.fptosi 32 (rt (ix3 b n ⟨k.val, by omega⟩))) 0#32 &&& IntOp.cmpi .slt (FloatOps.fptosi 32 (rt (ix3 b n ⟨k.val, by omega⟩))) 8#32)
        &&& IntOp.cmpi .ne (FloatOps.fptosi 32 (rt (ix3 b n 0))) (FloatOps.fptosi 32 (rt (ix3 b n 1))) := by
  unfold fn
  pointwise []
  rfl

/-- So each choice's word is a number below 8, and a token's two words differ. -/
theorem of_pre {F : FTy → Type} [FloatOps F] (h : FVec F S4x8192x1024 .bf16) (x : FVec F S4x8192x1024 .f32) (md : FVec F S4x6x1024 .f32) (rt : FVec F S4x8192x8 .f32)
    (w1 w3 : FVec F S8x1024x2816 .f32) (w2 : FVec F S8x2816x1024 .f32) (hp : fn h x md rt w1 w3 w2 = fun _ => 1#1) (b : Fin 4) (n : Fin 8192) (k : Fin 2) :
    (FloatOps.fptosi 32 (rt (ix3 b n ⟨k.val, by omega⟩)) : BitVec 32).toNat < 8
      ∧ (FloatOps.fptosi 32 (rt (ix3 b n 0)) : BitVec 32) ≠ FloatOps.fptosi 32 (rt (ix3 b n 1)) := by
  have e := (fn_apply h x md rt w1 w3 w2 b n k).symm.trans (congrFun hp _)
  unfold IntOp.cmpi at e
  have key : ∀ p q r : Bool, (BitVec.ofBool p &&& BitVec.ofBool q) &&& BitVec.ofBool r = 1#1 → p = true ∧ q = true ∧ r = true := by decide
  obtain ⟨h1, h2, h3⟩ := key _ _ _ e
  exact ⟨WordArith.toNat_lt_of_zero_sle_of_slt_ofNat _ 8 (by decide) h1 h2, by simpa using h3⟩

/-- A word equals a small number's word exactly where its value is that number. -/
theorem word_eq (w : BitVec 32) (x e : Fin 8) (hx : w.toNat = x.val) : w = BitVec.ofNat 32 e.val ↔ e = x := by
  have := x.isLt
  have := e.isLt
  rw [← BitVec.toNat_inj, BitVec.toNat_ofNat, Fin.ext_iff, hx]
  omega

/-- A gated sum whose gates are two distinct experts' weights is those two experts' outputs by their weights. -/
theorem gated_pair (i j : Fin 8) (hij : i ≠ j) (a b : EReal) (g s : Fin 8 → EReal)
    (hg : ∀ e, g e = (if e = i then (1 : EReal) else 0) * a + (if e = j then (1 : EReal) else 0) * b) : Cert.Moe.gated g s = a * s i + b * s j := by
  have ht : ∀ e, g e * s e = (if e = i then a * s e else 0) + (if e = j then b * s e else 0) := fun e => by
    rw [hg]
    by_cases h1 : e = i
    · have h2 : e ≠ j := fun h => hij (h1.symm.trans h)
      rw [if_pos h1, if_neg h2, if_pos h1, if_neg h2, one_mul, zero_mul, add_zero, add_zero]
    · by_cases h2 : e = j
      · rw [if_neg h1, if_pos h2, if_neg h1, if_pos h2, one_mul, zero_mul, zero_add, zero_add]
      · rw [if_neg h1, if_neg h2, if_neg h1, if_neg h2, zero_mul, zero_mul, add_zero, zero_mul]
  rw [Cert.Moe.gated_eq_sum, Finset.sum_congr rfl fun e _ => ht e, Finset.sum_add_distrib, Finset.sum_ite_eq' Finset.univ i, Finset.sum_ite_eq' Finset.univ j,
    if_pos (Finset.mem_univ i), if_pos (Finset.mem_univ j)]

end Cert.Choice
end
-- ==== Proof.Ref.lean ====
module

public import proofs.«01_k».proof.Proof.Gen.ReferenceIdeal.Run
public import proofs.«01_k».proof.Proof.Swiglu
public import Idealize.ShloMosaic.Lib.Tactic
public import Idealize.ShloMosaic.Lib.Tactic.CleanTypes

@[expose] public section

set_option maxRecDepth 16384

noncomputable section

namespace Cert.ReferenceIdeal.Read

open Idealize.ShloMosaic Idealize.ShloMosaic.TcCoe Idealize.ShloMosaic.StableHlo
open Cert.ReferenceIdeal Cert.ReferenceIdeal.Value

variable (V0 : Valuation τ sig (Elt Ideal))

def aH : S4x8192x1024.Idx → EReal := V0 (Proc.devRef .tc main_arg0)
def aX : S4x8192x1024.Idx → EReal := V0 (Proc.devRef .tc main_arg1)
def aM : S4x6x1024.Idx → EReal := V0 (Proc.devRef .tc main_arg2)
def aR : S4x8192x8.Idx → EReal := V0 (Proc.devRef .tc main_arg3)
def aW1 : S8x1024x2816.Idx → EReal := V0 (Proc.devRef .tc main_arg4)
def aW3 : S8x1024x2816.Idx → EReal := V0 (Proc.devRef .tc main_arg5)
def aW2 : S8x2816x1024.Idx → EReal := V0 (Proc.devRef .tc main_arg6)

/-- Expert `e`'s gated layer of a token. -/
def expertOut (b : Fin 4) (n : Fin 8192) (j : Fin 1024) (e : Fin 8) : EReal :=
  Cert.Moe.swiglu (fun d => aH V0 (ix3 b n d)) (fun d k => aW1 V0 (ix3 e d k)) (fun d k => aW3 V0 (ix3 e d k)) (fun k l => aW2 V0 (ix3 e k l)) j

/-- The word of a number of the routing. -/
def word (x : EReal) : BitVec 32 := FloatOps.fptosi (F := Ideal) (φ := .f32) 32 x

/-- A comparison's bit as a number: one where it holds, else zero. -/
theorem bit_num (b : Bool) : (FloatOps.uitofp .f32 (BitVec.ofBool b) : Ideal .f32) = if b = true then (1 : EReal) else 0 := by
  cases b
  · show (((0#1).toNat : ℝ) : EReal) = 0
    simp
  · show (((1#1).toNat : ℝ) : EReal) = 1
    simp

/-- The gate of expert `e` for a token: the sum of the weights of the token's choices that name `e`. -/
theorem gates_apply (b : Fin 4) (n : Fin 8192) (e : Fin 8) :
    (res_main_v8 V0 : S4x8192x8.Idx → EReal) (ix3 b n e)
      = (if word (aR V0 (ix3 b n 0)) = BitVec.ofNat 32 e then (1 : EReal) else 0) * aR V0 (ix3 b n 2)
        + (if word (aR V0 (ix3 b n 1)) = BitVec.ofNat 32 e then (1 : EReal) else 0) * aR V0 (ix3 b n 3) := by
  unfold res_main_v8
  clean_types
  pointwise []
  rw [Fin.sum_univ_two]
  unfold IntOp.cmpi
  refine (congrArg₂ (· + ·) (congrArg (· * _) (bit_num _)) (congrArg (· * _) (bit_num _))).trans ?_
  simp only [beq_iff_eq]
  rfl

/-- The reference's result, read: the residual plus the gate row times the gated sum over the eight experts. -/
theorem out_apply (b : Fin 4) (n : Fin 8192) (j : Fin 1024) :
    (val3 V0 (Proc.devRef .tc main_v133) : S4x8192x1024.Idx → EReal) (ix3 b n j)
      = aX V0 (ix3 b n j) + aM V0 (ix3 b 5 j) * Cert.Moe.gated (fun e => (res_main_v8 V0 : S4x8192x8.Idx → EReal) (ix3 b n e)) (expertOut V0 b n j) := by
  rw [val3_main_v133]
  unfold Cert.Moe.gated expertOut Cert.Moe.swiglu Cert.Moe.hidden aX aM aH aW1 aW2 aW3 Ideal.logistic
  unfold res_main_v84 res_main_v17 res_main_v32 res_main_v47 res_main_v62 res_main_v77 res_main_v92 res_main_v107 res_main_v122 res_main_v0
  clean_types
  pointwise []

end Cert.ReferenceIdeal.Read
end
-- ==== Proof.Equal.lean ====
module

public import proofs.«01_k».proof.Proof.Rows
public import proofs.«01_k».proof.Proof.ThirdValue
public import proofs.«01_k».proof.Proof.FourthValue
public import proofs.«01_k».proof.Proof.Choice
public import proofs.«01_k».proof.Proof.Ref

@[expose] public section

set_option maxRecDepth 16384

noncomputable section

namespace Cert.KernelIdeal.Layer

open Idealize.ShloMosaic Idealize.ShloMosaic.TcCoe
open Cert.KernelIdeal.Gen Cert.KernelIdeal.Host
open Cert.KernelIdeal.Combine (mix)

variable (m : (ℓ : Loc nD τ sig) → Buf (Elt Ideal) ℓ)

/-- The sum a combining call forms, of a token whose two choices name the experts `x` and `y`. -/
def mixed (b : Fin 4) (n : Fin 8192) (d : Fin 1024) (x y : Fin 8) : EReal :=
  mix (aX m 0 (ix3 b n d)) (aM m 0 (ix3 b 5 d)) (aR m 0 (ix3 b n 2)) (layer m 0 b n d x) (aR m 0 (ix3 b n 3)) (layer m 0 b n d y)

/-- `mix` of equal parts. -/
theorem mix_congr {x x' g g' wa wa' ya ya' wb wb' yb yb' : EReal} (h1 : x = x') (h2 : g = g') (h3 : wa = wa') (h4 : ya = ya') (h5 : wb = wb') (h6 : yb = yb') :
    mix x g wa ya wb yb = mix x' g' wa' ya' wb' yb' := by rw [h1, h2, h3, h4, h5, h6]

/-- The third call's result, on its two batches. -/
theorem third_mixed (h : Named m 0) (bt : Fin 2) (b : Fin 4) (hb : b.val = bt.val) (n : Fin 8192) (d : Fin 1024) (x y : Fin 8)
    (hx : (wordOf (aR m 0 (ix3 b n 0))).toNat = x.val) (hy : (wordOf (aR m 0 (ix3 b n 1))).toNat = y.val) :
    (Third.outArr (W2 m) (0 : Dev nD) : S4x8192x1024.Idx → EReal) (ix3 b n d) = mixed m b n d x y :=
  (Third.outArr_apply (W2 m) 0 b bt hb n d).trans <| mix_congr (congrFun (arg1_at m 0).2.1 _) (congrFun (arg2_at m 0).2.1 _) (congrFun (arg3_at m 0).2.1 _)
    (first_row m h 0 bt b hb n d x hx) (congrFun (arg3_at m 0).2.1 _) (first_row m h 1 bt b hb n d y hy)

/-- The fourth's, on its two. -/
theorem fourth_mixed (h : Named m 0) (bt : Fin 2) (b : Fin 4) (hb : b.val = bt.val + 2) (n : Fin 8192) (d : Fin 1024) (x y : Fin 8)
    (hx : (wordOf (aR m 0 (ix3 b n 0))).toNat = x.val) (hy : (wordOf (aR m 0 (ix3 b n 1))).toNat = y.val) :
    (Fourth.outArr (W3 m) (0 : Dev nD) : S4x8192x1024.Idx → EReal) (ix3 b n d) = mixed m b n d x y := by
  have hb2 : ¬ b.val < 2 := by omega
  have hX : (W3 m (0 : Dev nD) main_v159 : S4x8192x1024.Idx → EReal) (ix3 b n d) = aX m 0 (ix3 b n d) :=
    (congrFun (fourth_reads m 0) _).trans <| (Third.outArr_kept (W2 m) 0 b hb2 n d).trans (congrFun (third_over m 0) _)
  exact (Fourth.outArr_apply (W3 m) 0 b bt hb n d).trans <| mix_congr hX (congrFun (arg2_at m 0).2.2 _) (congrFun (arg3_at m 0).2.2 _)
    (second_row m h 0 bt b hb n d x hx) (congrFun (arg3_at m 0).2.2 _) (second_row m h 1 bt b hb n d y hy)

/-- The kernel's result, read. -/
theorem result_apply (h : Named m 0) (b : Fin 4) (n : Fin 8192) (d : Fin 1024) (x y : Fin 8)
    (hx : (wordOf (aR m 0 (ix3 b n 0))).toNat = x.val) (hy : (wordOf (aR m 0 (ix3 b n 1))).toNat = y.val) :
    (U3 m (0 : Dev nD) main_v168 : S4x8192x1024.Idx → EReal) (ix3 b n d) = mixed m b n d x y := by
  have e : U3 m (0 : Dev nD) main_v168 = Fourth.outArr (W3 m) (0 : Dev nD) := Function.update_self _ _ _
  refine (congrFun e _).trans ?_
  have hb := b.isLt
  by_cases h2 : 2 ≤ b.val
  · exact fourth_mixed m h ⟨b.val - 2, by omega⟩ b (by show b.val = b.val - 2 + 2; omega) n d x y hx hy
  · exact (Fourth.outArr_kept (W3 m) 0 b h2 n d).trans <| (congrFun (fourth_over m 0) _).trans <|
      third_mixed m h ⟨b.val, by omega⟩ b rfl n d x y hx hy

end Cert.KernelIdeal.Layer

namespace Cert.Equal

open Idealize.ShloMosaic Idealize.ShloMosaic.TcCoe Idealize.ShloMosaic.StableHlo
open Cert.KernelIdeal.Layer

/-- The kernel's result array is the reference's, from memories that agree on the arguments, where every word of the routing
    names an expert and a token's two words differ. -/
theorem value_eq (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (h : Named m 0)
    (hne : ∀ (b : Fin 4) (n : Fin 8192), wordOf (aR m 0 (ix3 b n 0)) ≠ wordOf (aR m 0 (ix3 b n 1)))
    (h0 : Cert.ReferenceIdeal.Read.aH V0 = aH m 0) (h1 : Cert.ReferenceIdeal.Read.aX V0 = aX m 0) (h2 : Cert.ReferenceIdeal.Read.aM V0 = aM m 0)
    (h3 : Cert.ReferenceIdeal.Read.aR V0 = aR m 0) (h4 : Cert.ReferenceIdeal.Read.aW1 V0 = aW1 m 0) (h5 : Cert.ReferenceIdeal.Read.aW3 V0 = aW3 m 0)
    (h6 : Cert.ReferenceIdeal.Read.aW2 V0 = aW2 m 0) :
    (Cert.ReferenceIdeal.Value.val3 V0 (Proc.devRef .tc Cert.ReferenceIdeal.main_v133) : Cert.KernelIdeal.S4x8192x1024.Idx → EReal)
      = U3 m (0 : Dev Cert.KernelIdeal.nD) Cert.KernelIdeal.main_v168 := by
  funext i
  rw [eq_ix3 i]
  generalize i 0 = b
  generalize i 1 = n
  generalize i 2 = d
  change Fin 4 at b
  change Fin 8192 at n
  change Fin 1024 at d
  obtain ⟨x, hx⟩ : ∃ x : Fin 8, (wordOf (aR m 0 (ix3 b n 0))).toNat = x.val := ⟨⟨_, h b n 0⟩, rfl⟩
  obtain ⟨y, hy⟩ : ∃ y : Fin 8, (wordOf (aR m 0 (ix3 b n 1))).toNat = y.val := ⟨⟨_, h b n 1⟩, rfl⟩
  have hxy : x ≠ y := fun e => hne b n (BitVec.eq_of_toNat_eq (hx.trans ((congrArg Fin.val e).trans hy.symm)))
  have hG := Cert.Choice.gated_pair x y hxy (aR m 0 (ix3 b n 2)) (aR m 0 (ix3 b n 3)) _ (Cert.ReferenceIdeal.Read.expertOut V0 b n d) fun e => by
    refine (Cert.ReferenceIdeal.Read.gates_apply V0 b n e).trans ?_
    rw [h3]
    exact congrArg₂ (· + ·) (congrArg (· * _) (if_congr (Cert.Choice.word_eq _ x e hx) rfl rfl)) (congrArg (· * _) (if_congr (Cert.Choice.word_eq _ y e hy) rfl rfl))
  have hL : ∀ e, Cert.ReferenceIdeal.Read.expertOut V0 b n d e = layer m 0 b n d e := fun e => by
    unfold Cert.ReferenceIdeal.Read.expertOut layer
    rw [h0, h4, h5, h6]
  refine (Cert.ReferenceIdeal.Read.out_apply V0 b n d).trans (.trans ?_ (result_apply m h b n d x y hx hy).symm)
  rw [hG, hL, hL, h1, h2]
  rfl

end Cert.Equal
end
-- ==== Proof.Same.lean ====
module

public import proofs.«01_k».proof.Proof.Gen.Kernel
public import proofs.«01_k».proof.Proof.Gen.KernelIdeal

@[expose] public section

set_option maxRecDepth 16384

noncomputable section

/-! The program and its idealization print the same operations (the idealization rewrote none), so they are one program at any
reading of the float types. What is proved of the one generically is then true of the other. -/

namespace Cert.Same

open Idealize.ShloMosaic Idealize.ShloMosaic.TcCoe
open Cert.Kernel.Gen Cert.KernelIdeal.Gen

variable {F : FTy → Type} [FloatOps F]

set_option maxHeartbeats 2000000 in
/-- The two body tables agree, row by row. -/
theorem rows : @Cert.Kernel.defs₀ F _ _ = @Cert.KernelIdeal.defs₀ F _ _ := by
  refine congrArg Defs.onTc ?_
  funext l x
  match l, x with
  | ⟨0, _⟩, (t, s) => rfl
  | ⟨1, _⟩, (t, s) => rfl
  | ⟨2, _⟩, (t, s) => rfl
  | ⟨3, _⟩, (t, s) => rfl

end Cert.Same
end
-- ==== Proof.SameCalls.lean ====
module

public import proofs.«01_k».proof.Proof.Gen.Kernel
public import proofs.«01_k».proof.Proof.Gen.KernelIdeal

@[expose] public section

set_option maxRecDepth 16384

noncomputable section

/-! The two programs' calls agree. -/

namespace Cert.Same

open Idealize.ShloMosaic Idealize.ShloMosaic.TcCoe
open Cert.Kernel.Gen Cert.KernelIdeal.Gen

variable {F : FTy → Type} [FloatOps F]

set_option maxHeartbeats 8000000

theorem call0 : @Cert.Kernel.pcfg0 F _ _ = @Cert.KernelIdeal.pcfg0 F _ _ := (rfl)
theorem call1 : @Cert.Kernel.pcfg1 F _ _ = @Cert.KernelIdeal.pcfg1 F _ _ := (rfl)
theorem call2 : Cert.Kernel.cfg2 = Cert.KernelIdeal.cfg2 := (rfl)
theorem call3 : Cert.Kernel.cfg3 = Cert.KernelIdeal.cfg3 := (rfl)

/-- The two tables of calls agree, call by call. -/
theorem calls : @Cert.Kernel.pcfgs F _ _ = @Cert.KernelIdeal.pcfgs F _ _ := by
  funext p
  match p with
  | ⟨0, _⟩ => exact call0
  | ⟨1, _⟩ => exact call1
  | ⟨2, _⟩ => exact congrArg Pipeline.Cfg.toPCfg call2
  | ⟨3, _⟩ => exact congrArg Pipeline.Cfg.toPCfg call3

end Cert.Same
end
-- ==== Proof.SameHost.lean ====
module

public import proofs.«01_k».proof.Proof.Gen.Kernel.Launch
public import proofs.«01_k».proof.Proof.Gen.KernelIdeal.Launch

@[expose] public section

set_option maxRecDepth 16384

noncomputable section

/-! The two programs' host operations agree, stretch by stretch. -/

namespace Cert.Same

open Idealize.ShloMosaic Idealize.ShloMosaic.TcCoe

variable {F : FTy → Type} [FloatOps F]

set_option maxHeartbeats 8000000

theorem ops0 : Cert.Kernel.Gen.hostOps0 (F := F) = Cert.KernelIdeal.Gen.hostOps0 (F := F) := (rfl)
theorem ops0_1 : Cert.Kernel.Gen.hostOps0_1 (F := F) = Cert.KernelIdeal.Gen.hostOps0_1 (F := F) := (rfl)
theorem ops0_2 : Cert.Kernel.Gen.hostOps0_2 (F := F) = Cert.KernelIdeal.Gen.hostOps0_2 (F := F) := (rfl)
theorem ops0_3 : Cert.Kernel.Gen.hostOps0_3 (F := F) = Cert.KernelIdeal.Gen.hostOps0_3 (F := F) := (rfl)
theorem ops0_4 : Cert.Kernel.Gen.hostOps0_4 (F := F) = Cert.KernelIdeal.Gen.hostOps0_4 (F := F) := (rfl)
theorem ops0_5 : Cert.Kernel.Gen.hostOps0_5 (F := F) = Cert.KernelIdeal.Gen.hostOps0_5 (F := F) := (rfl)
theorem ops0_6 : Cert.Kernel.Gen.hostOps0_6 (F := F) = Cert.KernelIdeal.Gen.hostOps0_6 (F := F) := (rfl)
theorem ops0_7 : Cert.Kernel.Gen.hostOps0_7 (F := F) = Cert.KernelIdeal.Gen.hostOps0_7 (F := F) := (rfl)
theorem ops0_8 : Cert.Kernel.Gen.hostOps0_8 (F := F) = Cert.KernelIdeal.Gen.hostOps0_8 (F := F) := (rfl)
theorem ops0_9 : Cert.Kernel.Gen.hostOps0_9 (F := F) = Cert.KernelIdeal.Gen.hostOps0_9 (F := F) := (rfl)
theorem ops0_10 : Cert.Kernel.Gen.hostOps0_10 (F := F) = Cert.KernelIdeal.Gen.hostOps0_10 (F := F) := (rfl)
theorem ops0_11 : Cert.Kernel.Gen.hostOps0_11 (F := F) = Cert.KernelIdeal.Gen.hostOps0_11 (F := F) := (rfl)
theorem ops0_12 : Cert.Kernel.Gen.hostOps0_12 (F := F) = Cert.KernelIdeal.Gen.hostOps0_12 (F := F) := (rfl)
theorem ops0_13 : Cert.Kernel.Gen.hostOps0_13 (F := F) = Cert.KernelIdeal.Gen.hostOps0_13 (F := F) := (rfl)
theorem ops0_14 : Cert.Kernel.Gen.hostOps0_14 (F := F) = Cert.KernelIdeal.Gen.hostOps0_14 (F := F) := (rfl)
theorem ops0_15 : Cert.Kernel.Gen.hostOps0_15 (F := F) = Cert.KernelIdeal.Gen.hostOps0_15 (F := F) := (rfl)
theorem ops0_16 : Cert.Kernel.Gen.hostOps0_16 (F := F) = Cert.KernelIdeal.Gen.hostOps0_16 (F := F) := (rfl)
theorem ops1 : Cert.Kernel.Gen.hostOps1 (F := F) = Cert.KernelIdeal.Gen.hostOps1 (F := F) := (rfl)
theorem ops1_1 : Cert.Kernel.Gen.hostOps1_1 (F := F) = Cert.KernelIdeal.Gen.hostOps1_1 (F := F) := (rfl)
theorem ops1_2 : Cert.Kernel.Gen.hostOps1_2 (F := F) = Cert.KernelIdeal.Gen.hostOps1_2 (F := F) := (rfl)
theorem ops1_3 : Cert.Kernel.Gen.hostOps1_3 (F := F) = Cert.KernelIdeal.Gen.hostOps1_3 (F := F) := (rfl)
theorem ops1_4 : Cert.Kernel.Gen.hostOps1_4 (F := F) = Cert.KernelIdeal.Gen.hostOps1_4 (F := F) := (rfl)
theorem ops1_5 : Cert.Kernel.Gen.hostOps1_5 (F := F) = Cert.KernelIdeal.Gen.hostOps1_5 (F := F) := (rfl)
theorem ops1_6 : Cert.Kernel.Gen.hostOps1_6 (F := F) = Cert.KernelIdeal.Gen.hostOps1_6 (F := F) := (rfl)
theorem ops1_7 : Cert.Kernel.Gen.hostOps1_7 (F := F) = Cert.KernelIdeal.Gen.hostOps1_7 (F := F) := (rfl)
theorem ops1_8 : Cert.Kernel.Gen.hostOps1_8 (F := F) = Cert.KernelIdeal.Gen.hostOps1_8 (F := F) := (rfl)
theorem ops1_9 : Cert.Kernel.Gen.hostOps1_9 (F := F) = Cert.KernelIdeal.Gen.hostOps1_9 (F := F) := (rfl)
theorem ops1_10 : Cert.Kernel.Gen.hostOps1_10 (F := F) = Cert.KernelIdeal.Gen.hostOps1_10 (F := F) := (rfl)
theorem ops1_11 : Cert.Kernel.Gen.hostOps1_11 (F := F) = Cert.KernelIdeal.Gen.hostOps1_11 (F := F) := (rfl)
theorem ops1_12 : Cert.Kernel.Gen.hostOps1_12 (F := F) = Cert.KernelIdeal.Gen.hostOps1_12 (F := F) := (rfl)
theorem ops1_13 : Cert.Kernel.Gen.hostOps1_13 (F := F) = Cert.KernelIdeal.Gen.hostOps1_13 (F := F) := (rfl)
theorem ops1_14 : Cert.Kernel.Gen.hostOps1_14 (F := F) = Cert.KernelIdeal.Gen.hostOps1_14 (F := F) := (rfl)
theorem ops1_15 : Cert.Kernel.Gen.hostOps1_15 (F := F) = Cert.KernelIdeal.Gen.hostOps1_15 (F := F) := (rfl)
theorem ops1_16 : Cert.Kernel.Gen.hostOps1_16 (F := F) = Cert.KernelIdeal.Gen.hostOps1_16 (F := F) := (rfl)
theorem ops2 : Cert.Kernel.Gen.hostOps2 (F := F) = Cert.KernelIdeal.Gen.hostOps2 (F := F) := (rfl)
theorem ops3 : Cert.Kernel.Gen.hostOps3 (F := F) = Cert.KernelIdeal.Gen.hostOps3 (F := F) := (rfl)

/-- The stretches before the first call and before the second, in order. -/
abbrev stretches0 : List (List (HloOp Cert.Kernel.τ Cert.Kernel.sig (Elt F))) := [Cert.Kernel.Gen.hostOps0, Cert.Kernel.Gen.hostOps0_1, Cert.Kernel.Gen.hostOps0_2, Cert.Kernel.Gen.hostOps0_3, Cert.Kernel.Gen.hostOps0_4, Cert.Kernel.Gen.hostOps0_5, Cert.Kernel.Gen.hostOps0_6, Cert.Kernel.Gen.hostOps0_7, Cert.Kernel.Gen.hostOps0_8, Cert.Kernel.Gen.hostOps0_9, Cert.Kernel.Gen.hostOps0_10, Cert.Kernel.Gen.hostOps0_11, Cert.Kernel.Gen.hostOps0_12, Cert.Kernel.Gen.hostOps0_13, Cert.Kernel.Gen.hostOps0_14, Cert.Kernel.Gen.hostOps0_15, Cert.Kernel.Gen.hostOps0_16]
abbrev stretches1 : List (List (HloOp Cert.Kernel.τ Cert.Kernel.sig (Elt F))) := [Cert.Kernel.Gen.hostOps1, Cert.Kernel.Gen.hostOps1_1, Cert.Kernel.Gen.hostOps1_2, Cert.Kernel.Gen.hostOps1_3, Cert.Kernel.Gen.hostOps1_4, Cert.Kernel.Gen.hostOps1_5, Cert.Kernel.Gen.hostOps1_6, Cert.Kernel.Gen.hostOps1_7, Cert.Kernel.Gen.hostOps1_8, Cert.Kernel.Gen.hostOps1_9, Cert.Kernel.Gen.hostOps1_10, Cert.Kernel.Gen.hostOps1_11, Cert.Kernel.Gen.hostOps1_12, Cert.Kernel.Gen.hostOps1_13, Cert.Kernel.Gen.hostOps1_14, Cert.Kernel.Gen.hostOps1_15, Cert.Kernel.Gen.hostOps1_16]
abbrev idealStretches0 : List (List (HloOp Cert.KernelIdeal.τ Cert.KernelIdeal.sig (Elt F))) := [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16]
abbrev idealStretches1 : List (List (HloOp Cert.KernelIdeal.τ Cert.KernelIdeal.sig (Elt F))) := [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16]

theorem stretches0_eq : stretches0 (F := F) = idealStretches0 := congrArg₂ List.cons ops0 <| congrArg₂ List.cons ops0_1 <| congrArg₂ List.cons ops0_2 <| congrArg₂ List.cons ops0_3 <| congrArg₂ List.cons ops0_4 <| congrArg₂ List.cons ops0_5 <| congrArg₂ List.cons ops0_6 <| congrArg₂ List.cons ops0_7 <| congrArg₂ List.cons ops0_8 <| congrArg₂ List.cons ops0_9 <| congrArg₂ List.cons ops0_10 <| congrArg₂ List.cons ops0_11 <| congrArg₂ List.cons ops0_12 <| congrArg₂ List.cons ops0_13 <| congrArg₂ List.cons ops0_14 <| congrArg₂ List.cons ops0_15 <| congrArg₂ List.cons ops0_16 rfl
theorem stretches1_eq : stretches1 (F := F) = idealStretches1 := congrArg₂ List.cons ops1 <| congrArg₂ List.cons ops1_1 <| congrArg₂ List.cons ops1_2 <| congrArg₂ List.cons ops1_3 <| congrArg₂ List.cons ops1_4 <| congrArg₂ List.cons ops1_5 <| congrArg₂ List.cons ops1_6 <| congrArg₂ List.cons ops1_7 <| congrArg₂ List.cons ops1_8 <| congrArg₂ List.cons ops1_9 <| congrArg₂ List.cons ops1_10 <| congrArg₂ List.cons ops1_11 <| congrArg₂ List.cons ops1_12 <| congrArg₂ List.cons ops1_13 <| congrArg₂ List.cons ops1_14 <| congrArg₂ List.cons ops1_15 <| congrArg₂ List.cons ops1_16 rfl

/-- The layer's main function over its calls and its host stretches: the one group's host work and call, the other's, and the two
    combining calls. -/
def sequence {nD : Nat} {τ : Topo} {sg : RefSig} {Λ : Idealize.SL.Sem.Labels} (pc : Fin 4 → Pipeline.PCfg sg Λ (Elt F))
    (g0 g1 : List (List (HloOp τ sg (Elt F)))) (o2 o3 : List (HloOp τ sg (Elt F))) :
    Idealize.SL.Sem.Prog (TpuEff nD τ sg (Elt F) (Pipeline.Sig Λ (Fin 4) fun p => (pc p).Adm) .tc) PUnit :=
  Pipeline.chain (g0.map StableHlo.seq ++ Idealize.SL.Sem.Prog.lift (.customCall (Pipeline.entry 0) ()) :: (g1.map StableHlo.seq ++
    [Idealize.SL.Sem.Prog.lift (.customCall (Pipeline.entry 1) ()), StableHlo.seq o2, Idealize.SL.Sem.Prog.lift (.customCall (Pipeline.entry 2) ()),
      StableHlo.seq o3, Idealize.SL.Sem.Prog.lift (.customCall (Pipeline.entry 3) ())]))

/-- Each program's main function is that sequence over its own. -/
theorem main_seq (c : Dev Cert.Kernel.nD) : Cert.Kernel.main (F := F) c
    = sequence Cert.Kernel.pcfgs stretches0 stretches1 Cert.Kernel.Gen.hostOps2 Cert.Kernel.Gen.hostOps3 := Cert.Kernel.Gen.main_chain c
theorem ideal_seq (c : Dev Cert.KernelIdeal.nD) : Cert.KernelIdeal.main (F := F) c
    = sequence Cert.KernelIdeal.pcfgs idealStretches0 idealStretches1 Cert.KernelIdeal.Gen.hostOps2 Cert.KernelIdeal.Gen.hostOps3 := Cert.KernelIdeal.Gen.main_chain c

end Cert.Same
end
-- ==== Proof.Carry.lean ====
module

public import proofs.«01_k».proof.Proof.Run
public import proofs.«01_k».proof.Proof.Same
public import proofs.«01_k».proof.Proof.SameCalls
public import proofs.«01_k».proof.Proof.SameHost

@[expose] public section

set_option maxRecDepth 16384

noncomputable section

/-! The idealization's run, carried to any program that agrees with it call by call, body by body and stretch by stretch. -/

namespace Cert.Same

open Idealize.ShloMosaic Idealize.ShloMosaic.TcCoe Idealize.SL.Sem
open Cert.KernelIdeal.Gen Cert.KernelIdeal.Host Cert.KernelIdeal.Layer
open Cert.KernelIdeal

variable {F : FTy → Type} [FloatOps F]

/-- What a run leaves: the arguments as they were and every counter at zero. -/
theorem run_of (m : (ℓ : Loc nD τ sig) → Buf (Elt F) ℓ) (ρ : Dev nD → PrngReg) (pc : Fin 4 → Pipeline.PCfg sig Λ₀ (Elt F)) (d : Defs nD τ sig (Elt F) Λ₀)
    (g0 g1 : List (List (HloOp τ sig (Elt F)))) (o2 o3 : List (HloOp τ sig (Elt F)))
    (hpc : pc = pcfgs) (hd : d = defs₀) (h0 : g0 = idealStretches0) (h1 : g1 = idealStretches1) (h2 : o2 = hostOps2) (h3 : o3 = hostOps3) :
    θ_run (Pipeline.defs pc d) (onTc (τ := τ) (fun _ => sequence pc g0 g1 o2 o3)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) := by
  subst hpc hd h0 h1 h2 h3
  have e : (main (F := F)) = fun _ => sequence pcfgs idealStretches0 idealStretches1 hostOps2 hostOps3 := funext fun c => ideal_seq c
  have h := run m ρ
  rw [e] at h
  exact (θ_run _ _ _).mono (fun _ hr => ⟨fun c => (hr.1 c).2, hr.2⟩) h

end Cert.Same
end
-- ==== Proof.Quiet.lean ====
module

public import proofs.«01_k».proof.Defs
public import proofs.«01_k».proof.Proof.Carry

@[expose] public section

set_option maxRecDepth 16384

noncomputable section

namespace Cert.Proof

open Idealize.ShloMosaic Idealize.SL.Sem
open Cert.Kernel.Gen Cert.KernelIdeal.Gen

set_option maxHeartbeats 8000000 in
/-- The program's frame: the idealization's run, carried over. -/
theorem frame_k : Cert.quiescent_Kernel := fun m g _ => by
  have e : Cert.Kernel.main (F := Bits) = fun _ => Cert.Same.sequence Cert.Kernel.pcfgs Cert.Same.stretches0 Cert.Same.stretches1
      Cert.Kernel.Gen.hostOps2 Cert.Kernel.Gen.hostOps3 := funext fun c => Cert.Same.main_seq c
  rw [e]
  exact Cert.Same.run_of (F := Bits) m g Cert.Kernel.pcfgs Cert.Kernel.defs₀ Cert.Same.stretches0 Cert.Same.stretches1
    Cert.Kernel.Gen.hostOps2 Cert.Kernel.Gen.hostOps3 Cert.Same.calls Cert.Same.rows Cert.Same.stretches0_eq Cert.Same.stretches1_eq Cert.Same.ops2 Cert.Same.ops3

end Cert.Proof
end
-- ==== Proof.lean ====
module

public import proofs.«01_k».proof.Defs
public import proofs.«01_k».proof.Proof.Run
public import proofs.«01_k».proof.Proof.Equal
public import proofs.«01_k».proof.Proof.Quiet

@[expose] public section

noncomputable section

namespace Cert.Proof

open Idealize.ShloMosaic Idealize.SL.Sem
open Cert.KernelIdeal.Layer
open Cert.KernelIdeal.Gen Cert.ReferenceIdeal.Gen Cert.Pre_two_experts.Gen

/-- The idealization's frame, of every memory, -/
theorem frame_ki : Cert.quiescent_KernelIdeal := fun m g _ =>
  (θ_run _ _ _).mono (fun _ hr => ⟨fun c => (hr.1 c).2, hr.2⟩) (run m g)

/-- and so of those the precondition admits. -/
theorem frame_ki' : Cert.quiescent_KernelIdeal_pre_two_experts := fun m g _ =>
  (θ_run _ _ _).mono (fun _ hr => ⟨fun c => (hr.1 c).2, hr.2⟩) (run m g)

/-- The reference's frame. It has no semaphore. -/
theorem frame_ri : Cert.quiescent_ReferenceIdeal := fun m g _ =>
  (θ_run _ _ _).mono (fun r hr => ⟨fun c => (hr c).2, sem_eq_zero_of_no_sems rfl r.2⟩) (Cert.ReferenceIdeal.Value.run m g)

theorem frame_ri' : Cert.quiescent_ReferenceIdeal_pre_two_experts := fun m g _ =>
  (θ_run _ _ _).mono (fun r hr => ⟨fun c => (hr c).2, sem_eq_zero_of_no_sems rfl r.2⟩) (Cert.ReferenceIdeal.Value.run m g)

/-- The value claim. -/
theorem value : Cert.algebraic_KernelIdeal_ReferenceIdeal_pre_two_experts := fun m g m' g' h hargs => by
  have hw := Cert.Choice.of_pre _ _ _ _ _ _ _ (h 0)
  refine ⟨fun c => U3 m c (Proc.devRef .tc Cert.KernelIdeal.main_v168), (θ_run _ _ _).mono (fun _ hr => hr.1) (run m g), ?_⟩
  refine (θ_run _ _ _).mono (fun r hr => ?_) (Cert.ReferenceIdeal.Value.run m' g')
  intro c
  refine ⟨((hr c).1.trans (Cert.ReferenceIdeal.Value.val3_main_v133 _).symm).trans ?_, (hr c).2⟩
  obtain ⟨h0, h1, h2, h3, h4, h5, h6⟩ := hargs c
  obtain rfl : c = 0 := Subsingleton.elim c 0
  exact Cert.Equal.value_eq m _ (fun b n k => (hw b n k).1) (fun b n => (hw b n 0).2) h0 h1 h2 h3 h4 h5 h6

theorem claim : Cert.Claim := ⟨Cert.Kernel.Gen.facts, Cert.KernelIdeal.Gen.facts, Cert.ReferenceIdeal.Gen.facts, Cert.Pre_two_experts.Gen.facts,
  frame_k, frame_ki, frame_ki', frame_ri, frame_ri', trivial, value⟩

end Cert.Proof

end
